-- ==== Defs.lean ====
def Pre_Pack (m : (ℓ : Loc Cert.Pack.nD Cert.Pack.τ Cert.Pack.sig) → Buf (Elt Bits) ℓ) : Prop :=
  True

def Pre_PackRef (m : (ℓ : Loc Cert.PackRef.nD Cert.PackRef.τ Cert.PackRef.sig) → Buf (Elt Bits) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_InS5 (m : (ℓ : Loc Cert.InS5.nD Cert.InS5.τ Cert.InS5.sig) → Buf (Elt Bits) ℓ) : Prop :=
  True

def Pre_InS5Ideal (m : (ℓ : Loc Cert.InS5Ideal.nD Cert.InS5Ideal.τ Cert.InS5Ideal.sig) → Buf (Elt Ideal) ℓ) : Prop :=
  True

def Pre_InS5RefIdeal (m : (ℓ : Loc Cert.InS5RefIdeal.nD Cert.InS5RefIdeal.τ Cert.InS5RefIdeal.sig) → Buf (Elt Ideal) ℓ) : Prop :=
  True

def Pre_InConv (m : (ℓ : Loc Cert.InConv.nD Cert.InConv.τ Cert.InConv.sig) → Buf (Elt Bits) ℓ) : Prop :=
  True

def Pre_InConvIdeal (m : (ℓ : Loc Cert.InConvIdeal.nD Cert.InConvIdeal.τ Cert.InConvIdeal.sig) → Buf (Elt Ideal) ℓ) : Prop :=
  True

def Pre_InConvRefIdeal (m : (ℓ : Loc Cert.InConvRefIdeal.nD Cert.InConvRefIdeal.τ Cert.InConvRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite_inputs [hPre_finite_inputs : Cert.Pre_finite_inputs.Facts] (m : (ℓ : Loc Cert.RouteIdeal.nD Cert.RouteIdeal.τ Cert.RouteIdeal.sig) → Buf (Elt Ideal) ℓ) : Prop :=
  ∀ c : Dev Cert.RouteIdeal.nD,
    (Cert.Pre_finite_inputs.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite_inputs [hPre_finite_inputs : Cert.Pre_finite_inputs.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite_inputs.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3))) = (fun _ => 1#1)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1))
      ∧ r.2.sem = fun _ => 0)

def quiescent_PackRef [hPackRef : Cert.PackRef.Facts] : Prop :=
  ∀ (m : (ℓ : Loc Cert.PackRef.nD Cert.PackRef.τ Cert.PackRef.sig) → Buf (Elt Bits) ℓ) (g : Dev Cert.PackRef.nD → PrngReg), Pre_PackRef m →
    θ_run (Cert.PackRef.defs (F := Bits)) (onTc (τ := Cert.PackRef.τ) (Cert.PackRef.main (F := Bits))) ⟨m, fun _ => 0, g⟩ (fun r => (∀ c : Dev Cert.PackRef.nD,
      r.2.mem ((c.tc : Thread Cert.PackRef.nD Cert.PackRef.τ).loc Cert.PackRef.main_arg0) = m ((c.tc : Thread Cert.PackRef.nD Cert.PackRef.τ).loc Cert.PackRef.main_arg0)
      ∧ r.2.mem ((c.tc : Thread Cert.PackRef.nD Cert.PackRef.τ).loc Cert.PackRef.main_arg1) = m ((c.tc : Thread Cert.PackRef.nD Cert.PackRef.τ).loc Cert.PackRef.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_InS5 [hInS5 : Cert.InS5.Facts] : Prop :=
  ∀ (m : (ℓ : Loc Cert.InS5.nD Cert.InS5.τ Cert.InS5.sig) → Buf (Elt Bits) ℓ) (g : Dev Cert.InS5.nD → PrngReg), Pre_InS5 m →
    θ_run (Cert.InS5.defs (F := Bits)) (onTc (τ := Cert.InS5.τ) (Cert.InS5.main (F := Bits))) ⟨m, fun _ => 0, g⟩ (fun r => (∀ c : Dev Cert.InS5.nD,
      r.2.mem ((c.tc : Thread Cert.InS5.nD Cert.InS5.τ).loc Cert.InS5.main_arg0) = m ((c.tc : Thread Cert.InS5.nD Cert.InS5.τ).loc Cert.InS5.main_arg0)
      ∧ r.2.mem ((c.tc : Thread Cert.InS5.nD Cert.InS5.τ).loc Cert.InS5.main_arg1) = m ((c.tc : Thread Cert.InS5.nD Cert.InS5.τ).loc Cert.InS5.main_arg1)
      ∧ r.2.mem ((c.tc : Thread Cert.InS5.nD Cert.InS5.τ).loc Cert.InS5.main_arg2) = m ((c.tc : Thread Cert.InS5.nD Cert.InS5.τ).loc Cert.InS5.main_arg2))
      ∧ r.2.sem = fun _ => 0)

def quiescent_InS5Ideal [hInS5Ideal : Cert.InS5Ideal.Facts] : Prop :=
  ∀ (m : (ℓ : Loc Cert.InS5Ideal.nD Cert.InS5Ideal.τ Cert.InS5Ideal.sig) → Buf (Elt Ideal) ℓ) (g : Dev Cert.InS5Ideal.nD → PrngReg), Pre_InS5Ideal m →
    θ_run (Cert.InS5Ideal.defs (F := Ideal)) (onTc (τ := Cert.InS5Ideal.τ) (Cert.InS5Ideal.main (F := Ideal))) ⟨m, fun _ => 0, g⟩ (fun r => (∀ c : Dev Cert.InS5Ideal.nD,
      r.2.mem ((c.tc : Thread Cert.InS5Ideal.nD Cert.InS5Ideal.τ).loc Cert.InS5Ideal.main_arg0) = m ((c.tc : Thread Cert.InS5Ideal.nD Cert.InS5Ideal.τ).loc Cert.InS5Ideal.main_arg0)
      ∧ r.2.mem ((c.tc : Thread Cert.InS5Ideal.nD Cert.InS5Ideal.τ).loc Cert.InS5Ideal.main_arg1) = m ((c.tc : Thread Cert.InS5Ideal.nD Cert.InS5Ideal.τ).loc Cert.InS5Ideal.main_arg1)
      ∧ r.2.mem ((c.tc : Thread Cert.InS5Ideal.nD Cert.InS5Ideal.τ).loc Cert.InS5Ideal.main_arg2) = m ((c.tc : Thread Cert.InS5Ideal.nD Cert.InS5Ideal.τ).loc Cert.InS5Ideal.main_arg2))
      ∧ r.2.sem = fun _ => 0)

def quiescent_InS5RefIdeal [hInS5RefIdeal : Cert.InS5RefIdeal.Facts] : Prop :=
  ∀ (m : (ℓ : Loc Cert.InS5RefIdeal.nD Cert.InS5RefIdeal.τ Cert.InS5RefIdeal.sig) → Buf (Elt Ideal) ℓ) (g : Dev Cert.InS5RefIdeal.nD → PrngReg), Pre_InS5RefIdeal m →
    θ_run (Cert.InS5RefIdeal.defs (F := Ideal)) (onTc (τ := Cert.InS5RefIdeal.τ) (Cert.InS5RefIdeal.main (F := Ideal))) ⟨m, fun _ => 0, g⟩ (fun r => (∀ c : Dev Cert.InS5RefIdeal.nD,
      r.2.mem ((c.tc : Thread Cert.InS5RefIdeal.nD Cert.InS5RefIdeal.τ).loc Cert.InS5RefIdeal.main_arg0) = m ((c.tc : Thread Cert.InS5RefIdeal.nD Cert.InS5RefIdeal.τ).loc Cert.InS5RefIdeal.main_arg0)
      ∧ r.2.mem ((c.tc : Thread Cert.InS5RefIdeal.nD Cert.InS5RefIdeal.τ).loc Cert.InS5RefIdeal.main_arg1) = m ((c.tc : Thread Cert.InS5RefIdeal.nD Cert.InS5RefIdeal.τ).loc Cert.InS5RefIdeal.main_arg1)
      ∧ r.2.mem ((c.tc : Thread Cert.InS5RefIdeal.nD Cert.InS5RefIdeal.τ).loc Cert.InS5RefIdeal.main_arg2) = m ((c.tc : Thread Cert.InS5RefIdeal.nD Cert.InS5RefIdeal.τ).loc Cert.InS5RefIdeal.main_arg2))
      ∧ r.2.sem = fun _ => 0)

def quiescent_InConv [hInConv : Cert.InConv.Facts] : Prop :=
  ∀ (m : (ℓ : Loc Cert.InConv.nD Cert.InConv.τ Cert.InConv.sig) → Buf (Elt Bits) ℓ) (g : Dev Cert.InConv.nD → PrngReg), Pre_InConv m →
    θ_run (Cert.InConv.defs (F := Bits)) (onTc (τ := Cert.InConv.τ) (Cert.InConv.main (F := Bits))) ⟨m, fun _ => 0, g⟩ (fun r => (∀ c : Dev Cert.InConv.nD,
      r.2.mem ((c.tc : Thread Cert.InConv.nD Cert.InConv.τ).loc Cert.InConv.main_arg0) = m ((c.tc : Thread Cert.InConv.nD Cert.InConv.τ).loc Cert.InConv.main_arg0)
      ∧ r.2.mem ((c.tc : Thread Cert.InConv.nD Cert.InConv.τ).loc Cert.InConv.main_arg1) = m ((c.tc : Thread Cert.InConv.nD Cert.InConv.τ).loc Cert.InConv.main_arg1)
      ∧ r.2.mem ((c.tc : Thread Cert.InConv.nD Cert.InConv.τ).loc Cert.InConv.main_arg2) = m ((c.tc : Thread Cert.InConv.nD Cert.InConv.τ).loc Cert.InConv.main_arg2))
      ∧ r.2.sem = fun _ => 0)

def quiescent_InConvIdeal [hInConvIdeal : Cert.InConvIdeal.Facts] : Prop :=
  ∀ (m : (ℓ : Loc Cert.InConvIdeal.nD Cert.InConvIdeal.τ Cert.InConvIdeal.sig) → Buf (Elt Ideal) ℓ) (g : Dev Cert.InConvIdeal.nD → PrngReg), Pre_InConvIdeal m →
    θ_run (Cert.InConvIdeal.defs (F := Ideal)) (onTc (τ := Cert.InConvIdeal.τ) (Cert.InConvIdeal.main (F := Ideal))) ⟨m, fun _ => 0, g⟩ (fun r => (∀ c : Dev Cert.InConvIdeal.nD,
      r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
      ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1)
      ∧ r.2.mem ((c.tc : Thread Cert.InConvIdeal.nD Cert.InConvIdeal.τ).loc Cert.InConvIdeal.main_arg2) = m ((c.tc : Thread Cert.InConvIdeal.nD Cert.InConvIdeal.τ).loc Cert.InConvIdeal.main_arg2))
      ∧ r.2.sem = fun _ => 0)

def quiescent_InConvRefIdeal [hInConvRefIdeal : Cert.InConvRefIdeal.Facts] : Prop :=
  ∀ (m : (ℓ : Loc Cert.InConvRefIdeal.nD Cert.InConvRefIdeal.τ Cert.InConvRefIdeal.sig) → Buf (Elt Ideal) ℓ) (g : Dev Cert.InConvRefIdeal.nD → PrngReg), Pre_InConvRefIdeal m →
    θ_run (Cert.InConvRefIdeal.defs (F := Ideal)) (onTc (τ := Cert.InConvRefIdeal.τ) (Cert.InConvRefIdeal.main (F := Ideal))) ⟨m, fun _ => 0, g⟩ (fun r => (∀ c : Dev Cert.InConvRefIdeal.nD,
      r.2.mem ((c.tc : Thread Cert.InConvRefIdeal.nD Cert.InConvRefIdeal.τ).loc Cert.InConvRefIdeal.main_arg0) = m ((c.tc : Thread Cert.InConvRefIdeal.nD Cert.InConvRefIdeal.τ).loc Cert.InConvRefIdeal.main_arg0)
      ∧ r.2.mem ((c.tc : Thread Cert.InConvRefIdeal.nD Cert.InConvRefIdeal.τ).loc Cert.InConvRefIdeal.main_arg1) = m ((c.tc : Thread Cert.InConvRefIdeal.nD Cert.InConvRefIdeal.τ).loc Cert.InConvRefIdeal.main_arg1)
      ∧ r.2.mem ((c.tc : Thread Cert.InConvRefIdeal.nD Cert.InConvRefIdeal.τ).loc Cert.InConvRefIdeal.main_arg2) = m ((c.tc : Thread Cert.InConvRefIdeal.nD Cert.InConvRefIdeal.τ).loc Cert.InConvRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteIdeal_pre_finite_inputs [hRouteIdeal : Cert.RouteIdeal.Facts] [hPre_finite_inputs : Cert.Pre_finite_inputs.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite_inputs m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def quiescent_RouteRefIdeal_pre_finite_inputs [hRouteRefIdeal : Cert.RouteRefIdeal.Facts] [hPre_finite_inputs : Cert.Pre_finite_inputs.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite_inputs m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def bitexact_Pack_PackRef [hPack : Cert.Pack.Facts] [hPackRef : Cert.PackRef.Facts] : Prop :=
  ∀ (m : (ℓ : Loc Cert.Pack.nD Cert.Pack.τ Cert.Pack.sig) → Buf (Elt Bits) ℓ) (g : Dev Cert.Pack.nD → PrngReg)
    (m' : (ℓ : Loc Cert.PackRef.nD Cert.PackRef.τ Cert.PackRef.sig) → Buf (Elt Bits) ℓ) (g' : Dev Cert.PackRef.nD → PrngReg), Pre_Pack m →
    (∀ c : Dev Cert.Pack.nD,
      m' ((c.tc : Thread Cert.PackRef.nD Cert.PackRef.τ).loc Cert.PackRef.main_arg0) = m ((c.tc : Thread Cert.Pack.nD Cert.Pack.τ).loc Cert.Pack.main_arg0)
      ∧ m' ((c.tc : Thread Cert.PackRef.nD Cert.PackRef.τ).loc Cert.PackRef.main_arg1) = m ((c.tc : Thread Cert.Pack.nD Cert.Pack.τ).loc Cert.Pack.main_arg1)) →
    ∃ (v0 : (c : Dev Cert.Pack.nD) → Buf (Elt Bits) ((c.tc : Thread Cert.Pack.nD Cert.Pack.τ).loc Cert.Pack.main_v2)),
      θ_run (Cert.Pack.defs (F := Bits)) (onTc (τ := Cert.Pack.τ) (Cert.Pack.main (F := Bits))) ⟨m, fun _ => 0, g⟩ (fun r => ∀ c : Dev Cert.Pack.nD,
          r.2.mem ((c.tc : Thread Cert.Pack.nD Cert.Pack.τ).loc Cert.Pack.main_v2) = v0 c
          ∧ r.2.mem ((c.tc : Thread Cert.Pack.nD Cert.Pack.τ).loc Cert.Pack.main_arg0) = m ((c.tc : Thread Cert.Pack.nD Cert.Pack.τ).loc Cert.Pack.main_arg0)
          ∧ r.2.mem ((c.tc : Thread Cert.Pack.nD Cert.Pack.τ).loc Cert.Pack.main_arg1) = m ((c.tc : Thread Cert.Pack.nD Cert.Pack.τ).loc Cert.Pack.main_arg1))
      ∧ θ_run (Cert.PackRef.defs (F := Bits)) (onTc (τ := Cert.PackRef.τ) (Cert.PackRef.main (F := Bits))) ⟨m', fun _ => 0, g'⟩ (fun r => ∀ c : Dev Cert.PackRef.nD,
          r.2.mem ((c.tc : Thread Cert.PackRef.nD Cert.PackRef.τ).loc Cert.PackRef.main_v11) = v0 c
          ∧ r.2.mem ((c.tc : Thread Cert.PackRef.nD Cert.PackRef.τ).loc Cert.PackRef.main_arg0) = m' ((c.tc : Thread Cert.PackRef.nD Cert.PackRef.τ).loc Cert.PackRef.main_arg0)
          ∧ r.2.mem ((c.tc : Thread Cert.PackRef.nD Cert.PackRef.τ).loc Cert.PackRef.main_arg1) = m' ((c.tc : Thread Cert.PackRef.nD Cert.PackRef.τ).loc Cert.PackRef.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)) →
    ∃ (v0 : (c : Dev Cert.PleIdeal.nD) → Buf (Elt Ideal) ((c.tc : Thread Cert.PleIdeal.nD Cert.PleIdeal.τ).loc Cert.PleIdeal.main_v14_0)) (v1 : (c : Dev Cert.PleIdeal.nD) → Buf (Elt Ideal) ((c.tc : Thread Cert.PleIdeal.nD Cert.PleIdeal.τ).loc Cert.PleIdeal.main_v14_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v14_0) = v0 c
          ∧ r.2.mem ((c.tc : Thread Cert.PleIdeal.nD Cert.PleIdeal.τ).loc Cert.PleIdeal.main_v14_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v45) = v0 c
          ∧ r.2.mem ((c.tc : Thread Cert.PleRefIdeal.nD Cert.PleRefIdeal.τ).loc Cert.PleRefIdeal.main_v91) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)) →
    ∃ (v0 : (c : Dev Cert.MixerIdeal.nD) → Buf (Elt Ideal) ((c.tc : Thread Cert.MixerIdeal.nD Cert.MixerIdeal.τ).loc Cert.MixerIdeal.main_v10)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v10) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v33) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v26) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_InS5_InS5Ideal : Prop :=
  True

def algebraic_InS5Ideal_InS5RefIdeal [hInS5Ideal : Cert.InS5Ideal.Facts] [hInS5RefIdeal : Cert.InS5RefIdeal.Facts] : Prop :=
  ∀ (m : (ℓ : Loc Cert.InS5Ideal.nD Cert.InS5Ideal.τ Cert.InS5Ideal.sig) → Buf (Elt Ideal) ℓ) (g : Dev Cert.InS5Ideal.nD → PrngReg)
    (m' : (ℓ : Loc Cert.InS5RefIdeal.nD Cert.InS5RefIdeal.τ Cert.InS5RefIdeal.sig) → Buf (Elt Ideal) ℓ) (g' : Dev Cert.InS5RefIdeal.nD → PrngReg), Pre_InS5Ideal m →
    (∀ c : Dev Cert.InS5Ideal.nD,
      m' ((c.tc : Thread Cert.InS5RefIdeal.nD Cert.InS5RefIdeal.τ).loc Cert.InS5RefIdeal.main_arg0) = m ((c.tc : Thread Cert.InS5Ideal.nD Cert.InS5Ideal.τ).loc Cert.InS5Ideal.main_arg0)
      ∧ m' ((c.tc : Thread Cert.InS5RefIdeal.nD Cert.InS5RefIdeal.τ).loc Cert.InS5RefIdeal.main_arg1) = m ((c.tc : Thread Cert.InS5Ideal.nD Cert.InS5Ideal.τ).loc Cert.InS5Ideal.main_arg1)
      ∧ m' ((c.tc : Thread Cert.InS5RefIdeal.nD Cert.InS5RefIdeal.τ).loc Cert.InS5RefIdeal.main_arg2) = m ((c.tc : Thread Cert.InS5Ideal.nD Cert.InS5Ideal.τ).loc Cert.InS5Ideal.main_arg2)) →
    ∃ (v0 : (c : Dev Cert.InS5Ideal.nD) → Buf (Elt Ideal) ((c.tc : Thread Cert.InS5Ideal.nD Cert.InS5Ideal.τ).loc Cert.InS5Ideal.main_v7)),
      θ_run (Cert.InS5Ideal.defs (F := Ideal)) (onTc (τ := Cert.InS5Ideal.τ) (Cert.InS5Ideal.main (F := Ideal))) ⟨m, fun _ => 0, g⟩ (fun r => ∀ c : Dev Cert.InS5Ideal.nD,
          r.2.mem ((c.tc : Thread Cert.InS5Ideal.nD Cert.InS5Ideal.τ).loc Cert.InS5Ideal.main_v7) = v0 c
          ∧ r.2.mem ((c.tc : Thread Cert.InS5Ideal.nD Cert.InS5Ideal.τ).loc Cert.InS5Ideal.main_arg0) = m ((c.tc : Thread Cert.InS5Ideal.nD Cert.InS5Ideal.τ).loc Cert.InS5Ideal.main_arg0)
          ∧ r.2.mem ((c.tc : Thread Cert.InS5Ideal.nD Cert.InS5Ideal.τ).loc Cert.InS5Ideal.main_arg1) = m ((c.tc : Thread Cert.InS5Ideal.nD Cert.InS5Ideal.τ).loc Cert.InS5Ideal.main_arg1)
          ∧ r.2.mem ((c.tc : Thread Cert.InS5Ideal.nD Cert.InS5Ideal.τ).loc Cert.InS5Ideal.main_arg2) = m ((c.tc : Thread Cert.InS5Ideal.nD Cert.InS5Ideal.τ).loc Cert.InS5Ideal.main_arg2))
      ∧ θ_run (Cert.InS5RefIdeal.defs (F := Ideal)) (onTc (τ := Cert.InS5RefIdeal.τ) (Cert.InS5RefIdeal.main (F := Ideal))) ⟨m', fun _ => 0, g'⟩ (fun r => ∀ c : Dev Cert.InS5RefIdeal.nD,
          r.2.mem ((c.tc : Thread Cert.InS5RefIdeal.nD Cert.InS5RefIdeal.τ).loc Cert.InS5RefIdeal.main_v16) = v0 c
          ∧ r.2.mem ((c.tc : Thread Cert.InS5RefIdeal.nD Cert.InS5RefIdeal.τ).loc Cert.InS5RefIdeal.main_arg0) = m' ((c.tc : Thread Cert.InS5RefIdeal.nD Cert.InS5RefIdeal.τ).loc Cert.InS5RefIdeal.main_arg0)
          ∧ r.2.mem ((c.tc : Thread Cert.InS5RefIdeal.nD Cert.InS5RefIdeal.τ).loc Cert.InS5RefIdeal.main_arg1) = m' ((c.tc : Thread Cert.InS5RefIdeal.nD Cert.InS5RefIdeal.τ).loc Cert.InS5RefIdeal.main_arg1)
          ∧ r.2.mem ((c.tc : Thread Cert.InS5RefIdeal.nD Cert.InS5RefIdeal.τ).loc Cert.InS5RefIdeal.main_arg2) = m' ((c.tc : Thread Cert.InS5RefIdeal.nD Cert.InS5RefIdeal.τ).loc Cert.InS5RefIdeal.main_arg2))

def preserves_InConv_InConvIdeal : Prop :=
  True

def algebraic_InConvIdeal_InConvRefIdeal [hInConvIdeal : Cert.InConvIdeal.Facts] [hInConvRefIdeal : Cert.InConvRefIdeal.Facts] : Prop :=
  ∀ (m : (ℓ : Loc Cert.InConvIdeal.nD Cert.InConvIdeal.τ Cert.InConvIdeal.sig) → Buf (Elt Ideal) ℓ) (g : Dev Cert.InConvIdeal.nD → PrngReg)
    (m' : (ℓ : Loc Cert.InConvRefIdeal.nD Cert.InConvRefIdeal.τ Cert.InConvRefIdeal.sig) → Buf (Elt Ideal) ℓ) (g' : Dev Cert.InConvRefIdeal.nD → PrngReg), Pre_InConvIdeal m →
    (∀ c : Dev Cert.InConvIdeal.nD,
      m' ((c.tc : Thread Cert.InConvRefIdeal.nD Cert.InConvRefIdeal.τ).loc Cert.InConvRefIdeal.main_arg0) = m ((c.tc : Thread Cert.InConvIdeal.nD Cert.InConvIdeal.τ).loc Cert.InConvIdeal.main_arg0)
      ∧ m' ((c.tc : Thread Cert.InConvRefIdeal.nD Cert.InConvRefIdeal.τ).loc Cert.InConvRefIdeal.main_arg1) = m ((c.tc : Thread Cert.InConvIdeal.nD Cert.InConvIdeal.τ).loc Cert.InConvIdeal.main_arg1)
      ∧ m' ((c.tc : Thread Cert.InConvRefIdeal.nD Cert.InConvRefIdeal.τ).loc Cert.InConvRefIdeal.main_arg2) = m ((c.tc : Thread Cert.InConvIdeal.nD Cert.InConvIdeal.τ).loc Cert.InConvIdeal.main_arg2)) →
    ∃ (v0 : (c : Dev Cert.InConvIdeal.nD) → Buf (Elt Ideal) ((c.tc : Thread Cert.InConvIdeal.nD Cert.InConvIdeal.τ).loc Cert.InConvIdeal.main_v7)),
      θ_run (Cert.InConvIdeal.defs (F := Ideal)) (onTc (τ := Cert.InConvIdeal.τ) (Cert.InConvIdeal.main (F := Ideal))) ⟨m, fun _ => 0, g⟩ (fun r => ∀ c : Dev Cert.InConvIdeal.nD,
          r.2.mem ((c.tc : Thread Cert.InConvIdeal.nD Cert.InConvIdeal.τ).loc Cert.InConvIdeal.main_v7) = v0 c
          ∧ r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
          ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1)
          ∧ r.2.mem ((c.tc : Thread Cert.InConvIdeal.nD Cert.InConvIdeal.τ).loc Cert.InConvIdeal.main_arg2) = m ((c.tc : Thread Cert.InConvIdeal.nD Cert.InConvIdeal.τ).loc Cert.InConvIdeal.main_arg2))
      ∧ θ_run (Cert.InConvRefIdeal.defs (F := Ideal)) (onTc (τ := Cert.InConvRefIdeal.τ) (Cert.InConvRefIdeal.main (F := Ideal))) ⟨m', fun _ => 0, g'⟩ (fun r => ∀ c : Dev Cert.InConvRefIdeal.nD,
          r.2.mem ((c.tc : Thread Cert.InConvRefIdeal.nD Cert.InConvRefIdeal.τ).loc Cert.InConvRefIdeal.main_v17) = v0 c
          ∧ r.2.mem ((c.tc : Thread Cert.InConvRefIdeal.nD Cert.InConvRefIdeal.τ).loc Cert.InConvRefIdeal.main_arg0) = m' ((c.tc : Thread Cert.InConvRefIdeal.nD Cert.InConvRefIdeal.τ).loc Cert.InConvRefIdeal.main_arg0)
          ∧ r.2.mem ((c.tc : Thread Cert.InConvRefIdeal.nD Cert.InConvRefIdeal.τ).loc Cert.InConvRefIdeal.main_arg1) = m' ((c.tc : Thread Cert.InConvRefIdeal.nD Cert.InConvRefIdeal.τ).loc Cert.InConvRefIdeal.main_arg1)
          ∧ r.2.mem ((c.tc : Thread Cert.InConvRefIdeal.nD Cert.InConvRefIdeal.τ).loc Cert.InConvRefIdeal.main_arg2) = m' ((c.tc : Thread Cert.InConvRefIdeal.nD Cert.InConvRefIdeal.τ).loc Cert.InConvRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v7)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v7) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v526) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Route_RouteIdeal : Prop :=
  True

def algebraic_RouteIdeal_RouteRefIdeal_pre_finite_inputs [hRouteIdeal : Cert.RouteIdeal.Facts] [hRouteRefIdeal : Cert.RouteRefIdeal.Facts] [hPre_finite_inputs : Cert.Pre_finite_inputs.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_finite_inputs m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)) →
    ∃ (v0 : (c : Dev Cert.RouteIdeal.nD) → Buf (Elt Ideal) ((c.tc : Thread Cert.RouteIdeal.nD Cert.RouteIdeal.τ).loc Cert.RouteIdeal.main_v6_0)) (v1 : (c : Dev Cert.RouteIdeal.nD) → Buf (Elt Ideal) ((c.tc : Thread Cert.RouteIdeal.nD Cert.RouteIdeal.τ).loc Cert.RouteIdeal.main_v6_1)) (v2 : (c : Dev Cert.RouteIdeal.nD) → Buf (Elt Ideal) ((c.tc : Thread Cert.RouteIdeal.nD Cert.RouteIdeal.τ).loc Cert.RouteIdeal.main_v6_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v6_0) = v0 c
          ∧ r.2.mem ((c.tc : Thread Cert.RouteIdeal.nD Cert.RouteIdeal.τ).loc Cert.RouteIdeal.main_v6_1) = v1 c
          ∧ r.2.mem ((c.tc : Thread Cert.RouteIdeal.nD Cert.RouteIdeal.τ).loc Cert.RouteIdeal.main_v6_2) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v13) = v0 c
          ∧ r.2.mem ((c.tc : Thread Cert.RouteRefIdeal.nD Cert.RouteRefIdeal.τ).loc Cert.RouteRefIdeal.main_v54) = v1 c
          ∧ r.2.mem ((c.tc : Thread Cert.RouteRefIdeal.nD Cert.RouteRefIdeal.τ).loc Cert.RouteRefIdeal.main_v55) = v2 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3))

def Claim : Prop :=
  ∃ (hPack : Cert.Pack.Facts) (hPackRef : Cert.PackRef.Facts) (hPle : Cert.Ple.Facts) (hPleIdeal : Cert.PleIdeal.Facts) (hPleRefIdeal : Cert.PleRefIdeal.Facts) (hMixer : Cert.Mixer.Facts) (hMixerIdeal : Cert.MixerIdeal.Facts) (hMixerRefIdeal : Cert.MixerRefIdeal.Facts) (hProj : Cert.Proj.Facts) (hProjIdeal : Cert.ProjIdeal.Facts) (hProjRefIdeal : Cert.ProjRefIdeal.Facts) (hInS5 : Cert.InS5.Facts) (hInS5Ideal : Cert.InS5Ideal.Facts) (hInS5RefIdeal : Cert.InS5RefIdeal.Facts) (hInConv : Cert.InConv.Facts) (hInConvIdeal : Cert.InConvIdeal.Facts) (hInConvRefIdeal : Cert.InConvRefIdeal.Facts) (hConv : Cert.Conv.Facts) (hConvIdeal : Cert.ConvIdeal.Facts) (hConvRefIdeal : Cert.ConvRefIdeal.Facts) (hRoute : Cert.Route.Facts) (hRouteIdeal : Cert.RouteIdeal.Facts) (hRouteRefIdeal : Cert.RouteRefIdeal.Facts) (hPre_finite_inputs : Cert.Pre_finite_inputs.Facts),
    quiescent_Pack (hPack := hPack)
    ∧ quiescent_PackRef (hPackRef := hPackRef)
    ∧ quiescent_Ple (hPle := hPle)
    ∧ quiescent_PleIdeal (hPleIdeal := hPleIdeal)
    ∧ quiescent_PleRefIdeal (hPleRefIdeal := hPleRefIdeal)
    ∧ quiescent_Mixer (hMixer := hMixer)
    ∧ quiescent_MixerIdeal (hMixerIdeal := hMixerIdeal)
    ∧ quiescent_MixerRefIdeal (hMixerRefIdeal := hMixerRefIdeal)
    ∧ quiescent_Proj (hProj := hProj)
    ∧ quiescent_ProjIdeal (hProjIdeal := hProjIdeal)
    ∧ quiescent_ProjRefIdeal (hProjRefIdeal := hProjRefIdeal)
    ∧ quiescent_InS5 (hInS5 := hInS5)
    ∧ quiescent_InS5Ideal (hInS5Ideal := hInS5Ideal)
    ∧ quiescent_InS5RefIdeal (hInS5RefIdeal := hInS5RefIdeal)
    ∧ quiescent_InConv (hInConv := hInConv)
    ∧ quiescent_InConvIdeal (hInConvIdeal := hInConvIdeal)
    ∧ quiescent_InConvRefIdeal (hInConvRefIdeal := hInConvRefIdeal)
    ∧ quiescent_Conv (hConv := hConv)
    ∧ quiescent_ConvIdeal (hConvIdeal := hConvIdeal)
    ∧ quiescent_ConvRefIdeal (hConvRefIdeal := hConvRefIdeal)
    ∧ quiescent_Route (hRoute := hRoute)
    ∧ quiescent_RouteIdeal (hRouteIdeal := hRouteIdeal)
    ∧ quiescent_RouteIdeal_pre_finite_inputs (hRouteIdeal := hRouteIdeal) (hPre_finite_inputs := hPre_finite_inputs)
    ∧ quiescent_RouteRefIdeal (hRouteRefIdeal := hRouteRefIdeal)
    ∧ quiescent_RouteRefIdeal_pre_finite_inputs (hRouteRefIdeal := hRouteRefIdeal) (hPre_finite_inputs := hPre_finite_inputs)
    ∧ bitexact_Pack_PackRef (hPack := hPack) (hPackRef := hPackRef)
    ∧ preserves_Ple_PleIdeal
    ∧ algebraic_PleIdeal_PleRefIdeal (hPleIdeal := hPleIdeal) (hPleRefIdeal := hPleRefIdeal)
    ∧ preserves_Mixer_MixerIdeal
    ∧ algebraic_MixerIdeal_MixerRefIdeal (hMixerIdeal := hMixerIdeal) (hMixerRefIdeal := hMixerRefIdeal)
    ∧ preserves_Proj_ProjIdeal
    ∧ algebraic_ProjIdeal_ProjRefIdeal (hProjIdeal := hProjIdeal) (hProjRefIdeal := hProjRefIdeal)
    ∧ preserves_InS5_InS5Ideal
    ∧ algebraic_InS5Ideal_InS5RefIdeal (hInS5Ideal := hInS5Ideal) (hInS5RefIdeal := hInS5RefIdeal)
    ∧ preserves_InConv_InConvIdeal
    ∧ algebraic_InConvIdeal_InConvRefIdeal (hInConvIdeal := hInConvIdeal) (hInConvRefIdeal := hInConvRefIdeal)
    ∧ preserves_Conv_ConvIdeal
    ∧ algebraic_ConvIdeal_ConvRefIdeal (hConvIdeal := hConvIdeal) (hConvRefIdeal := hConvRefIdeal)
    ∧ preserves_Route_RouteIdeal
    ∧ algebraic_RouteIdeal_RouteRefIdeal_pre_finite_inputs (hRouteIdeal := hRouteIdeal) (hRouteRefIdeal := hRouteRefIdeal) (hPre_finite_inputs := hPre_finite_inputs)
-- ==== Pre_finite_inputs.lean ====
abbrev S24576x2048 : Shape := ⟨2, ![24576, 2048]⟩
abbrev S1x2048 : Shape := ⟨2, ![1, 2048]⟩
abbrev S1x2048x2048 : Shape := ⟨3, ![1, 2048, 2048]⟩
abbrev S1x8x2x128x128 : Shape := ⟨5, ![1, 8, 2, 128, 128]⟩
abbrev S_ : Shape := ⟨0, ![]⟩

class Facts : Prop where
  bcast_S_S24576x2048 : S_.BroadcastsInDim S24576x2048 (![] : Fin 0 → Fin S24576x2048.rank)
  reducesTo_S24576x2048_S_d0_1 : S24576x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x8x2x128x128 : S_.BroadcastsInDim S1x8x2x128x128 (![] : Fin 0 → Fin S1x8x2x128x128.rank)
  reducesTo_S1x8x2x128x128_S_d0_1_2_3_4 : S1x8x2x128x128.ReducesTo [0, 1, 2, 3, 4] S_

variable [Facts]

def fn_part1 {F : FTy → Type} [FloatOps F] (main_v13 : IVec S_ 1) (main_v16 : IVec S1x8x2x128x128 1) : IVec S_ 1 :=
  let main_c_5 : IVec S_ 1 := constantI S_ 1 1#1
  let main_v17 : IVec S_ 1 := (fun x v => Host.reduce IntOp.andi x v reducesTo_S1x8x2x128x128_S_d0_1_2_3_4 h_S_) main_v16 main_c_5
  let main_v18 : IVec S_ 1 := andi main_v13 main_v17
  main_v18

def fn {F : FTy → Type} [FloatOps F] (main_arg0 : FVec F S24576x2048 .f32) (main_arg1 : FVec F S1x2048 .f32) (main_arg2 : FVec F S1x2048x2048 .f32) (main_arg3 : FVec F S1x8x2x128x128 .f32) : IVec S_ 1 :=
  let main_v0 : FVec F S24576x2048 .f32 := Host.absf main_arg0
  let main_cst : FVec F S_ .f32 := constant S_ .f32 0x7F800000#32
  let main_v1 : FVec F S24576x2048 .f32 := broadcastInDim S24576x2048 ![] bcast_S_S24576x2048 main_cst
  let main_v2 : IVec S24576x2048 1 := cmpf .olt main_v0 main_v1
  let main_c : IVec S_ 1 := constantI S_ 1 1#1
  let main_v3 : IVec S_ 1 := (fun x v => Host.reduce IntOp.andi x v reducesTo_S24576x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048x2048 .f32 := Host.absf main_arg2
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  let main_c_3 : IVec S_ 1 := constantI S_ 1 1#1
  let main_v12 : IVec S_ 1 := (fun x v => Host.reduce IntOp.andi x v reducesTo_S1x2048x2048_S_d0_1_2 h_S_) main_v11 main_c_3
  let main_v13 : IVec S_ 1 := andi main_v8 main_v12
  let main_v14 : FVec F S1x8x2x128x128 .f32 := Host.absf main_arg3
  let main_cst_4 : FVec F S_ .f32 := constant S_ .f32 0x7F800000#32
  let main_v15 : FVec F S1x8x2x128x128 .f32 := broadcastInDim S1x8x2x128x128 ![] bcast_S_S1x8x2x128x128 main_cst_4
  let main_v16 : IVec S1x8x2x128x128 1 := cmpf .olt main_v14 main_v15
  fn_part1 (F := F) main_v13 main_v16
-- ==== Pack.lean ====
abbrev S1x16384x2048 : Shape := ⟨3, ![1, 16384, 2048]⟩
abbrev S16384x2048 : Shape := ⟨2, ![16384, 2048]⟩
abbrev S16384x1x2048 : Shape := ⟨3, ![16384, 1, 2048]⟩
abbrev S256x2048 : Shape := ⟨2, ![256, 2048]⟩
abbrev S256x1x2048 : Shape := ⟨3, ![256, 1, 2048]⟩
abbrev S1x2048 : Shape := ⟨2, ![1, 2048]⟩
abbrev S1x1x2048 : Shape := ⟨3, ![1, 1, 2048]⟩

abbrev nBuf : Space → Nat
  | .hbm => 5
  | .vmem => 6
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S16384x2048, .f32⟩
  | .hbm, ⟨3, _⟩ => ⟨S16384x2048, .f32⟩
  | .hbm, ⟨4, _⟩ => ⟨S16384x1x2048, .i32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1x2048, .i32⟩
  | .local _ .vmem, ⟨5, _⟩ => ⟨S256x1x2048, .i32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PackRef.lean ====
abbrev S1x16384x2048 : Shape := ⟨3, ![1, 16384, 2048]⟩
abbrev S16384x2048 : Shape := ⟨2, ![16384, 2048]⟩
abbrev S_ : Shape := ⟨0, ![]⟩
abbrev S16384x1x2048 : Shape := ⟨3, ![16384, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S16384x2048, .f32⟩
  | .hbm, ⟨3, _⟩ => ⟨S16384x2048, .bf16⟩
  | .hbm, ⟨4, _⟩ => ⟨S16384x2048, .i16⟩
  | .hbm, ⟨5, _⟩ => ⟨S16384x2048, .i32⟩
  | .hbm, ⟨6, _⟩ => ⟨S16384x2048, .f32⟩
  | .hbm, ⟨7, _⟩ => ⟨S16384x2048, .bf16⟩
  | .hbm, ⟨8, _⟩ => ⟨S16384x2048, .i16⟩
  | .hbm, ⟨9, _⟩ => ⟨S16384x2048, .i32⟩
  | .hbm, ⟨10, _⟩ => ⟨S_, .i32⟩
  | .hbm, ⟨11, _⟩ => ⟨S16384x2048, .i32⟩
  | .hbm, ⟨12, _⟩ => ⟨S16384x2048, .i32⟩
  | .hbm, ⟨13, _⟩ => ⟨S16384x2048, .i32⟩
  | .hbm, ⟨14, _⟩ => ⟨S16384x1x2048, .i32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [BitOps F]
-- ==== Ple.lean ====
abbrev S24576x2048 : Shape := ⟨2, ![24576, 2048]⟩
abbrev S1x4x4096x256 : Shape := ⟨4, ![1, 4, 4096, 256]⟩
abbrev S1x4x2048x256 : Shape := ⟨4, ![1, 4, 2048, 256]⟩
abbrev S1x2048 : Shape := ⟨2, ![1, 2048]⟩
abbrev S1x256x2048 : Shape := ⟨3, ![1, 256, 2048]⟩
abbrev S1x2048x2048 : Shape := ⟨3, ![1, 2048, 2048]⟩
abbrev S2048 : Shape := ⟨1, ![2048]⟩
abbrev S4x4096x256 : Shape := ⟨3, ![4, 4096, 256]⟩
abbrev S16384x256 : Shape := ⟨2, ![16384, 256]⟩
abbrev S4x2048x256 : Shape := ⟨3, ![4, 2048, 256]⟩
abbrev S8192x256 : Shape := ⟨2, ![8192, 256]⟩
abbrev S24576x256 : Shape := ⟨2, ![24576, 256]⟩
abbrev S2048x2048 : Shape := ⟨2, ![2048, 2048]⟩
abbrev S256x2048 : Shape := ⟨2, ![256, 2048]⟩
abbrev S16384x2048 : Shape := ⟨2, ![16384, 2048]⟩
abbrev S8192x2048 : Shape := ⟨2, ![8192, 2048]⟩
abbrev S256x256 : Shape := ⟨2, ![256, 256]⟩
abbrev S256 : Shape := ⟨1, ![256]⟩
abbrev S256x1 : Shape := ⟨2, ![256, 1]⟩

abbrev nBuf : Space → Nat
  | .hbm => 24
  | .vmem => 13
  | .smem => 0
  | _ => 0

abbrev bufTy : (tb : Table) → Fin (tcTables nBuf tb) → BufTy
  | .hbm, ⟨0, _⟩ => ⟨S24576x2048, .f32⟩
  | .hbm, ⟨1, _⟩ => ⟨S1x4x4096x256, .f32⟩
  | .hbm, ⟨2, _⟩ => ⟨S1x4x2048x256, .f32⟩
  | .hbm, ⟨3, _⟩ => ⟨S1x2048, .f32⟩
  | .hbm, ⟨4, _⟩ => ⟨S1x256x2048, .f32⟩
  | .hbm, ⟨5, _⟩ => ⟨S1x2048x2048, .f32⟩
  | .hbm, ⟨6, _⟩ => ⟨S1x2048, .f32⟩
  | .hbm, ⟨7, _⟩ => ⟨S2048, .f32⟩
  | .hbm, ⟨8, _⟩ => ⟨S4x4096x256, .f32⟩
  | .hbm, ⟨9, _⟩ => ⟨S16384x256, .f32⟩
  | .hbm, ⟨10, _⟩ => ⟨S4x2048x256, .f32⟩
  | .hbm, ⟨11, _⟩ => ⟨S8192x256, .f32⟩
  | .hbm, ⟨12, _⟩ => ⟨S24576x256, .f32⟩
  | .hbm, ⟨13, _⟩ => ⟨S2048, .f32⟩
  | .hbm, ⟨14, _⟩ => ⟨S2048x2048, .f32⟩
  | .hbm, ⟨15, _⟩ => ⟨S2048x2048, .bf16⟩
  | .hbm, ⟨16, _⟩ => ⟨S2048, .f32⟩
  | .hbm, ⟨17, _⟩ => ⟨S256x2048, .f32⟩
  | .hbm, ⟨18, _⟩ => ⟨S256x2048, .bf16⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S16384x2048, .f32⟩
  | .hbm, ⟨23, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x256, .f32⟩
  | .local _ .vmem, ⟨3, _⟩ => ⟨S256x256, .f32⟩
  | .local _ .vmem, ⟨4, _⟩ => ⟨S1x2048, .f32⟩
  | .local _ .vmem, ⟨5, _⟩ => ⟨S2048x2048, .bf16⟩
  | .local _ .vmem, ⟨6, _⟩ => ⟨S1x2048, .f32⟩
  | .local _ .vmem, ⟨7, _⟩ => ⟨S256x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c64_i32 : BitVec 32 := 64#32
  let v52 : BitVec 1 := Scalar.cmpi .slt arg0 c64_i32
  let v53 : BitVec 32 := Scalar.extui v52
  let c0_i32 : BitVec 32 := 0#32
  let v54 : BitVec 1 := Scalar.cmpi .ne v53 c0_i32
  v54

def k0_cond2 (i : grid0.Coords) : BitVec 1 :=
  let arg0 : BitVec 32 := BitVec.ofNat 32 (i 0).val
  let c64_i32 : BitVec 32 := 64#32
  let v52 : BitVec 1 := Scalar.cmpi .slt arg0 c64_i32
  let v_true : BitVec 1 := 1#1
  let v55 : BitVec 1 := Scalar.xori v52 v_true
  let v56 : BitVec 32 := Scalar.extui v55
  let c0_i32_23 : BitVec 32 := 0#32
  let v57 : BitVec 1 := Scalar.cmpi .ne v56 c0_i32_23
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PleRefIdeal.lean ====
abbrev S24576x2048 : Shape := ⟨2, ![24576, 2048]⟩
abbrev S1x4x4096x256 : Shape := ⟨4, ![1, 4, 4096, 256]⟩
abbrev S1x4x2048x256 : Shape := ⟨4, ![1, 4, 2048, 256]⟩
abbrev S1x2048 : Shape := ⟨2, ![1, 2048]⟩
abbrev S1x256x2048 : Shape := ⟨3, ![1, 256, 2048]⟩
abbrev S1x2048x2048 : Shape := ⟨3, ![1, 2048, 2048]⟩
abbrev S2048 : Shape := ⟨1, ![2048]⟩
abbrev S16384x2048 : Shape := ⟨2, ![16384, 2048]⟩
abbrev S4x4096x256 : Shape := ⟨3, ![4, 4096, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S2048x2048 : Shape := ⟨2, ![2048, 2048]⟩
abbrev S256x2048 : Shape := ⟨2, ![256, 2048]⟩
abbrev S8192x2048 : Shape := ⟨2, ![8192, 2048]⟩
abbrev S4x2048x256 : Shape := ⟨3, ![4, 2048, 256]⟩
abbrev S8192x256 : Shape := ⟨2, ![8192, 256]⟩
abbrev S8192 : Shape := ⟨1, ![8192]⟩
abbrev S8192x1 : Shape := ⟨2, ![8192, 1]⟩

abbrev nBuf : Space → Nat
  | .hbm => 116
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S1x4x4096x256, .f32⟩
  | .hbm, ⟨2, _⟩ => ⟨S1x4x2048x256, .f32⟩
  | .hbm, ⟨3, _⟩ => ⟨S1x2048, .f32⟩
  | .hbm, ⟨4, _⟩ => ⟨S1x256x2048, .f32⟩
  | .hbm, ⟨5, _⟩ => ⟨S1x2048x2048, .f32⟩
  | .hbm, ⟨6, _⟩ => ⟨S1x2048, .f32⟩
  | .hbm, ⟨7, _⟩ => ⟨S2048, .f32⟩
  | .hbm, ⟨8, _⟩ => ⟨S16384x2048, .f32⟩
  | .hbm, ⟨9, _⟩ => ⟨S4x4096x256, .f32⟩
  | .hbm, ⟨10, _⟩ => ⟨S16384x256, .f32⟩
  | .hbm, ⟨11, _⟩ => ⟨S2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S2048x2048, .f32⟩
  | .hbm, ⟨29, _⟩ => ⟨S16384x2048, .f32⟩
  | .hbm, ⟨30, _⟩ => ⟨S2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S256x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x2048, .f32⟩
  | .hbm, ⟨58, _⟩ => ⟨S16384x2048, .f32⟩
  | .hbm, ⟨59, _⟩ => ⟨S1x2048, .f32⟩
  | .hbm, ⟨60, _⟩ => ⟨S16384x2048, .f32⟩
  | .hbm, ⟨61, _⟩ => ⟨S16384x2048, .f32⟩
  | .hbm, ⟨62, _⟩ => ⟨S8192x2048, .f32⟩
  | .hbm, ⟨63, _⟩ => ⟨S4x2048x256, .f32⟩
  | .hbm, ⟨64, _⟩ => ⟨S8192x256, .f32⟩
  | .hbm, ⟨65, _⟩ => ⟨S2048, .f32⟩
  | .hbm, ⟨66, _⟩ => ⟨S8192x2048, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S8192x2048, .f32⟩
  | .hbm, ⟨78, _⟩ => ⟨S8192x2048, .f32⟩
  | .hbm, ⟨79, _⟩ => ⟨S1x2048, .f32⟩
  | .hbm, ⟨80, _⟩ => ⟨S8192x2048, .f32⟩
  | .hbm, ⟨81, _⟩ => ⟨S8192x2048, .f32⟩
  | .hbm, ⟨82, _⟩ => ⟨S2048x2048, .f32⟩
  | .hbm, ⟨83, _⟩ => ⟨S8192x2048, .f32⟩
  | .hbm, ⟨84, _⟩ => ⟨S2048, .f32⟩
  | .hbm, ⟨85, _⟩ => ⟨S1x2048, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S_, .f32⟩
  | .hbm, ⟨91, _⟩ => ⟨S8192x2048, .f32⟩
  | .hbm, ⟨92, _⟩ => ⟨S8192x2048, .f32⟩
  | .hbm, ⟨93, _⟩ => ⟨S_, .f32⟩
  | .hbm, ⟨94, _⟩ => ⟨S8192x2048, .f32⟩
  | .hbm, ⟨95, _⟩ => ⟨S8192x2048, .f32⟩
  | .hbm, ⟨96, _⟩ => ⟨S256x2048, .f32⟩
  | .hbm, ⟨97, _⟩ => ⟨S8192x2048, .f32⟩
  | .hbm, ⟨98, _⟩ => ⟨S8192x2048, .f32⟩
  | .hbm, ⟨99, _⟩ => ⟨S8192x2048, .f32⟩
  | .hbm, ⟨100, _⟩ => ⟨S8192x2048, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S8192x1, .f32⟩
  | .hbm, ⟨111, _⟩ => ⟨S8192x2048, .f32⟩
  | .hbm, ⟨112, _⟩ => ⟨S8192x2048, .f32⟩
  | .hbm, ⟨113, _⟩ => ⟨S1x2048, .f32⟩
  | .hbm, ⟨114, _⟩ => ⟨S8192x2048, .f32⟩
  | .hbm, ⟨115, _⟩ => ⟨S8192x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_12 : Ref sig .tc := ⟨.hbm, 101, rfl⟩
abbrev main_v80 : Ref sig .tc := ⟨.hbm, 102, rfl⟩
abbrev main_v81 : Ref sig .tc := ⟨.hbm, 103, rfl⟩
abbrev main_cst_13 : Ref sig .tc := ⟨.hbm, 104, rfl⟩
abbrev main_v82 : Ref sig .tc := ⟨.hbm, 105, rfl⟩
abbrev main_v83 : Ref sig .tc := ⟨.hbm, 106, rfl⟩
abbrev main_cst_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== Mixer.lean ====
abbrev S24576x1024 : Shape := ⟨2, ![24576, 1024]⟩
abbrev S24576x4096 : Shape := ⟨2, ![24576, 4096]⟩
abbrev S24576x2048 : Shape := ⟨2, ![24576, 2048]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 20
  | .vmem => 17
  | .smem => 0
  | _ => 0

abbrev bufTy : (tb : Table) → Fin (tcTables nBuf tb) → BufTy
  | .hbm, ⟨0, _⟩ => ⟨S24576x1024, .f32⟩
  | .hbm, ⟨1, _⟩ => ⟨S24576x1024, .bf16⟩
  | .hbm, ⟨2, _⟩ => ⟨S24576x4096, .bf16⟩
  | .hbm, ⟨3, _⟩ => ⟨S24576x2048, .f32⟩
  | .hbm, ⟨4, _⟩ => ⟨S1x1024x1024, .f32⟩
  | .hbm, ⟨5, _⟩ => ⟨S1x1024, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1024x2048, .f32⟩
  | .hbm, ⟨13, _⟩ => ⟨S1024x2048, .bf16⟩
  | .hbm, ⟨14, _⟩ => ⟨S1024x2048, .f32⟩
  | .hbm, ⟨15, _⟩ => ⟨S1024x2048, .bf16⟩
  | .hbm, ⟨16, _⟩ => ⟨S2048x2048, .f32⟩
  | .hbm, ⟨17, _⟩ => ⟨S2048x2048, .bf16⟩
  | .hbm, ⟨18, _⟩ => ⟨S1x1024, .f32⟩
  | .hbm, ⟨19, _⟩ => ⟨S24576x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x1024, .bf16⟩
  | .local _ .vmem, ⟨11, _⟩ => ⟨S1x1024, .f32⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixerRefIdeal.lean ====
abbrev S24576x1024 : Shape := ⟨2, ![24576, 1024]⟩
abbrev S24576x4096 : Shape := ⟨2, ![24576, 4096]⟩
abbrev S24576x2048 : Shape := ⟨2, ![24576, 2048]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S_ : Shape := ⟨0, ![]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩

abbrev nBuf : Space → Nat
  | .hbm => 47
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S24576x1024, .bf16⟩
  | .hbm, ⟨2, _⟩ => ⟨S24576x4096, .bf16⟩
  | .hbm, ⟨3, _⟩ => ⟨S24576x2048, .f32⟩
  | .hbm, ⟨4, _⟩ => ⟨S1x1024x1024, .f32⟩
  | .hbm, ⟨5, _⟩ => ⟨S1x1024, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S24576x1024, .f32⟩
  | .hbm, ⟨10, _⟩ => ⟨S24576x4096, .f32⟩
  | .hbm, ⟨11, _⟩ => ⟨S_, .f32⟩
  | .hbm, ⟨12, _⟩ => ⟨S24576x1024, .f32⟩
  | .hbm, ⟨13, _⟩ => ⟨S24576x1024, .f32⟩
  | .hbm, ⟨14, _⟩ => ⟨S24576x1024, .f32⟩
  | .hbm, ⟨15, _⟩ => ⟨S_, .f32⟩
  | .hbm, ⟨16, _⟩ => ⟨S24576x1024, .f32⟩
  | .hbm, ⟨17, _⟩ => ⟨S24576x1024, .f32⟩
  | .hbm, ⟨18, _⟩ => ⟨S24576x1024, .f32⟩
  | .hbm, ⟨19, _⟩ => ⟨S24576x1024, .f32⟩
  | .hbm, ⟨20, _⟩ => ⟨S1024x1024, .f32⟩
  | .hbm, ⟨21, _⟩ => ⟨S24576x1024, .f32⟩
  | .hbm, ⟨22, _⟩ => ⟨S1024, .f32⟩
  | .hbm, ⟨23, _⟩ => ⟨S1x1024, .f32⟩
  | .hbm, ⟨24, _⟩ => ⟨S24576x1024, .f32⟩
  | .hbm, ⟨25, _⟩ => ⟨S24576x1024, .f32⟩
  | .hbm, ⟨26, _⟩ => ⟨S24576x1024, .f32⟩
  | .hbm, ⟨27, _⟩ => ⟨S24576x1024, .f32⟩
  | .hbm, ⟨28, _⟩ => ⟨S_, .f32⟩
  | .hbm, ⟨29, _⟩ => ⟨S24576x1024, .f32⟩
  | .hbm, ⟨30, _⟩ => ⟨S24576x1024, .f32⟩
  | .hbm, ⟨31, _⟩ => ⟨S_, .f32⟩
  | .hbm, ⟨32, _⟩ => ⟨S24576x1024, .f32⟩
  | .hbm, ⟨33, _⟩ => ⟨S24576x1024, .f32⟩
  | .hbm, ⟨34, _⟩ => ⟨S24576x1024, .f32⟩
  | .hbm, ⟨35, _⟩ => ⟨S1024x2048, .f32⟩
  | .hbm, ⟨36, _⟩ => ⟨S24576x2048, .f32⟩
  | .hbm, ⟨37, _⟩ => ⟨S1024x2048, .f32⟩
  | .hbm, ⟨38, _⟩ => ⟨S24576x2048, .f32⟩
  | .hbm, ⟨39, _⟩ => ⟨S24576x2048, .f32⟩
  | .hbm, ⟨40, _⟩ => ⟨S24576x2048, .f32⟩
  | .hbm, ⟨41, _⟩ => ⟨S24576x2048, .f32⟩
  | .hbm, ⟨42, _⟩ => ⟨S24576x2048, .f32⟩
  | .hbm, ⟨43, _⟩ => ⟨S24576x2048, .f32⟩
  | .hbm, ⟨44, _⟩ => ⟨S2048x2048, .f32⟩
  | .hbm, ⟨45, _⟩ => ⟨S24576x2048, .f32⟩
  | .hbm, ⟨46, _⟩ => ⟨S24576x2048, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proj.lean ====
abbrev S24576x2048 : Shape := ⟨2, ![24576, 2048]⟩
abbrev S1x2048 : Shape := ⟨2, ![1, 2048]⟩
abbrev S1x2048x4096 : Shape := ⟨3, ![1, 2048, 4096]⟩
abbrev S1x4096 : Shape := ⟨2, ![1, 4096]⟩
abbrev S2048 : Shape := ⟨1, ![2048]⟩
abbrev S2048x4096 : Shape := ⟨2, ![2048, 4096]⟩
abbrev S4096 : Shape := ⟨1, ![4096]⟩
abbrev S24576x4096 : Shape := ⟨2, ![24576, 4096]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S1x2048x4096, .f32⟩
  | .hbm, ⟨3, _⟩ => ⟨S1x4096, .f32⟩
  | .hbm, ⟨4, _⟩ => ⟨S2048, .f32⟩
  | .hbm, ⟨5, _⟩ => ⟨S2048x4096, .f32⟩
  | .hbm, ⟨6, _⟩ => ⟨S2048x4096, .bf16⟩
  | .hbm, ⟨7, _⟩ => ⟨S4096, .f32⟩
  | .hbm, ⟨8, _⟩ => ⟨S1x2048, .f32⟩
  | .hbm, ⟨9, _⟩ => ⟨S1x4096, .f32⟩
  | .hbm, ⟨10, _⟩ => ⟨S24576x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![48, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S24576x2048 : Shape := ⟨2, ![24576, 2048]⟩
abbrev S1x2048 : Shape := ⟨2, ![1, 2048]⟩
abbrev S1x2048x4096 : Shape := ⟨3, ![1, 2048, 4096]⟩
abbrev S1x4096 : Shape := ⟨2, ![1, 4096]⟩
abbrev S2048 : Shape := ⟨1, ![2048]⟩
abbrev S_ : Shape := ⟨0, ![]⟩
abbrev S24576 : Shape := ⟨1, ![24576]⟩
abbrev S24576x1 : Shape := ⟨2, ![24576, 1]⟩
abbrev S2048x4096 : Shape := ⟨2, ![2048, 4096]⟩
abbrev S24576x4096 : Shape := ⟨2, ![24576, 4096]⟩
abbrev S4096 : Shape := ⟨1, ![4096]⟩

abbrev nBuf : Space → Nat
  | .hbm => 36
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S1x2048x4096, .f32⟩
  | .hbm, ⟨3, _⟩ => ⟨S1x4096, .f32⟩
  | .hbm, ⟨4, _⟩ => ⟨S2048, .f32⟩
  | .hbm, ⟨5, _⟩ => ⟨S24576x2048, .f32⟩
  | .hbm, ⟨6, _⟩ => ⟨S_, .f32⟩
  | .hbm, ⟨7, _⟩ => ⟨S24576, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S_, .f32⟩
  | .hbm, ⟨13, _⟩ => ⟨S24576x1, .f32⟩
  | .hbm, ⟨14, _⟩ => ⟨S24576x1, .f32⟩
  | .hbm, ⟨15, _⟩ => ⟨S24576x1, .f32⟩
  | .hbm, ⟨16, _⟩ => ⟨S24576x2048, .f32⟩
  | .hbm, ⟨17, _⟩ => ⟨S24576x2048, .f32⟩
  | .hbm, ⟨18, _⟩ => ⟨S1x2048, .f32⟩
  | .hbm, ⟨19, _⟩ => ⟨S24576x2048, .f32⟩
  | .hbm, ⟨20, _⟩ => ⟨S24576x2048, .f32⟩
  | .hbm, ⟨21, _⟩ => ⟨S2048x4096, .f32⟩
  | .hbm, ⟨22, _⟩ => ⟨S24576x4096, .f32⟩
  | .hbm, ⟨23, _⟩ => ⟨S4096, .f32⟩
  | .hbm, ⟨24, _⟩ => ⟨S1x4096, .f32⟩
  | .hbm, ⟨25, _⟩ => ⟨S24576x4096, .f32⟩
  | .hbm, ⟨26, _⟩ => ⟨S24576x4096, .f32⟩
  | .hbm, ⟨27, _⟩ => ⟨S24576x4096, .f32⟩
  | .hbm, ⟨28, _⟩ => ⟨S24576x4096, .f32⟩
  | .hbm, ⟨29, _⟩ => ⟨S_, .f32⟩
  | .hbm, ⟨30, _⟩ => ⟨S24576x4096, .f32⟩
  | .hbm, ⟨31, _⟩ => ⟨S24576x4096, .f32⟩
  | .hbm, ⟨32, _⟩ => ⟨S_, .f32⟩
  | .hbm, ⟨33, _⟩ => ⟨S24576x4096, .f32⟩
  | .hbm, ⟨34, _⟩ => ⟨S24576x4096, .f32⟩
  | .hbm, ⟨35, _⟩ => ⟨S24576x4096, .bf16⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== InS5.lean ====
abbrev S24576x2048 : Shape := ⟨2, ![24576, 2048]⟩
abbrev S1x2048 : Shape := ⟨2, ![1, 2048]⟩
abbrev S1x2048x3072 : Shape := ⟨3, ![1, 2048, 3072]⟩
abbrev S2048 : Shape := ⟨1, ![2048]⟩
abbrev S2048x3072 : Shape := ⟨2, ![2048, 3072]⟩
abbrev S2048x1024 : Shape := ⟨2, ![2048, 1024]⟩
abbrev S_ : Shape := ⟨0, ![]⟩
abbrev S1024 : Shape := ⟨1, ![1024]⟩
abbrev S1x1024 : Shape := ⟨2, ![1, 1024]⟩
abbrev S24576x1024 : Shape := ⟨2, ![24576, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 8
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S1x2048x3072, .f32⟩
  | .hbm, ⟨3, _⟩ => ⟨S2048, .f32⟩
  | .hbm, ⟨4, _⟩ => ⟨S2048x3072, .f32⟩
  | .hbm, ⟨5, _⟩ => ⟨S2048x3072, .bf16⟩
  | .hbm, ⟨6, _⟩ => ⟨S2048x1024, .bf16⟩
  | .hbm, ⟨7, _⟩ => ⟨S_, .f32⟩
  | .hbm, ⟨8, _⟩ => ⟨S1024, .f32⟩
  | .hbm, ⟨9, _⟩ => ⟨S1x2048, .f32⟩
  | .hbm, ⟨10, _⟩ => ⟨S1x1024, .f32⟩
  | .hbm, ⟨11, _⟩ => ⟨S24576x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![48, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InS5RefIdeal.lean ====
abbrev S24576x2048 : Shape := ⟨2, ![24576, 2048]⟩
abbrev S1x2048 : Shape := ⟨2, ![1, 2048]⟩
abbrev S1x2048x3072 : Shape := ⟨3, ![1, 2048, 3072]⟩
abbrev S2048 : Shape := ⟨1, ![2048]⟩
abbrev S_ : Shape := ⟨0, ![]⟩
abbrev S24576 : Shape := ⟨1, ![24576]⟩
abbrev S24576x1 : Shape := ⟨2, ![24576, 1]⟩
abbrev S2048x3072 : Shape := ⟨2, ![2048, 3072]⟩
abbrev S24576x3072 : Shape := ⟨2, ![24576, 3072]⟩
abbrev S24576x1024 : Shape := ⟨2, ![24576, 1024]⟩

abbrev nBuf : Space → Nat
  | .hbm => 23
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S1x2048x3072, .f32⟩
  | .hbm, ⟨3, _⟩ => ⟨S2048, .f32⟩
  | .hbm, ⟨4, _⟩ => ⟨S24576x2048, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x2048, .f32⟩
  | .hbm, ⟨16, _⟩ => ⟨S24576x2048, .f32⟩
  | .hbm, ⟨17, _⟩ => ⟨S1x2048, .f32⟩
  | .hbm, ⟨18, _⟩ => ⟨S24576x2048, .f32⟩
  | .hbm, ⟨19, _⟩ => ⟨S24576x2048, .f32⟩
  | .hbm, ⟨20, _⟩ => ⟨S2048x3072, .f32⟩
  | .hbm, ⟨21, _⟩ => ⟨S24576x3072, .f32⟩
  | .hbm, ⟨22, _⟩ => ⟨S24576x1024, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== InConv.lean ====
abbrev S24576x2048 : Shape := ⟨2, ![24576, 2048]⟩
abbrev S1x2048 : Shape := ⟨2, ![1, 2048]⟩
abbrev S1x2048x3072 : Shape := ⟨3, ![1, 2048, 3072]⟩
abbrev S2048 : Shape := ⟨1, ![2048]⟩
abbrev S2048x3072 : Shape := ⟨2, ![2048, 3072]⟩
abbrev S2048x2048 : Shape := ⟨2, ![2048, 2048]⟩
abbrev S_ : Shape := ⟨0, ![]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S1x2048x3072, .f32⟩
  | .hbm, ⟨3, _⟩ => ⟨S2048, .f32⟩
  | .hbm, ⟨4, _⟩ => ⟨S2048x3072, .f32⟩
  | .hbm, ⟨5, _⟩ => ⟨S2048x3072, .bf16⟩
  | .hbm, ⟨6, _⟩ => ⟨S2048x2048, .bf16⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S24576x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![48, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InConvRefIdeal.lean ====
abbrev S24576x2048 : Shape := ⟨2, ![24576, 2048]⟩
abbrev S1x2048 : Shape := ⟨2, ![1, 2048]⟩
abbrev S1x2048x3072 : Shape := ⟨3, ![1, 2048, 3072]⟩
abbrev S2048 : Shape := ⟨1, ![2048]⟩
abbrev S_ : Shape := ⟨0, ![]⟩
abbrev S24576 : Shape := ⟨1, ![24576]⟩
abbrev S24576x1 : Shape := ⟨2, ![24576, 1]⟩
abbrev S2048x3072 : Shape := ⟨2, ![2048, 3072]⟩
abbrev S24576x3072 : Shape := ⟨2, ![24576, 3072]⟩

abbrev nBuf : Space → Nat
  | .hbm => 24
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S1x2048x3072, .f32⟩
  | .hbm, ⟨3, _⟩ => ⟨S2048, .f32⟩
  | .hbm, ⟨4, _⟩ => ⟨S24576x2048, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x2048, .f32⟩
  | .hbm, ⟨16, _⟩ => ⟨S24576x2048, .f32⟩
  | .hbm, ⟨17, _⟩ => ⟨S1x2048, .f32⟩
  | .hbm, ⟨18, _⟩ => ⟨S24576x2048, .f32⟩
  | .hbm, ⟨19, _⟩ => ⟨S24576x2048, .f32⟩
  | .hbm, ⟨20, _⟩ => ⟨S2048x3072, .f32⟩
  | .hbm, ⟨21, _⟩ => ⟨S24576x3072, .f32⟩
  | .hbm, ⟨22, _⟩ => ⟨S24576x2048, .f32⟩
  | .hbm, ⟨23, _⟩ => ⟨S24576x2048, .bf16⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Conv.lean ====
abbrev S24576x2048 : Shape := ⟨2, ![24576, 2048]⟩
abbrev S1x31x1024 : Shape := ⟨3, ![1, 31, 1024]⟩
abbrev S1x1024 : Shape := ⟨2, ![1, 1024]⟩
abbrev S31x1024 : Shape := ⟨2, ![31, 1024]⟩
abbrev S1024 : Shape := ⟨1, ![1024]⟩
abbrev S24576x1024 : Shape := ⟨2, ![24576, 1024]⟩
abbrev S16x1024 : Shape := ⟨2, ![16, 1024]⟩
abbrev S256x1024 : Shape := ⟨2, ![256, 1024]⟩
abbrev S288x1024 : Shape := ⟨2, ![288, 1024]⟩
abbrev S96x128 : Shape := ⟨2, ![96, 128]⟩
abbrev S64x128 : Shape := ⟨2, ![64, 128]⟩
abbrev S1x128 : Shape := ⟨2, ![1, 128]⟩
abbrev S256 : Shape := ⟨1, ![256]⟩
abbrev S256x1 : Shape := ⟨2, ![256, 1]⟩

abbrev nBuf : Space → Nat
  | .hbm => 13
  | .vmem => 20
  | .smem => 0
  | _ => 0

abbrev bufTy : (tb : Table) → Fin (tcTables nBuf tb) → BufTy
  | .hbm, ⟨0, _⟩ => ⟨S24576x2048, .bf16⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S31x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S24576x1024, .bf16⟩
  | .local _ .vmem, ⟨0, _⟩ => ⟨S16x1024, .bf16⟩
  | .local _ .vmem, ⟨1, _⟩ => ⟨S16x1024, .bf16⟩
  | .local _ .vmem, ⟨2, _⟩ => ⟨S16x1024, .bf16⟩
  | .local _ .vmem, ⟨3, _⟩ => ⟨S16x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S31x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S288x1024, .f32⟩
  | .local _ .vmem, ⟨19, _⟩ => ⟨S256x1024, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![96], ![false]⟩

@[reducible] def k0_t1_loop : Scf.Loop 32 :=
  let c0_i32_30 : BitVec 32 := 0#32
  let c4_i32 : BitVec 32 := 4#32
  let v67 : BitVec 32 := Scalar.addi c0_i32_30 c4_i32
  let c1_i32 : BitVec 32 := 1#32
  ⟨c0_i32_30, v67, c1_i32⟩
def k0_mult1 (k0_t1 : Fin k0_t1_loop.trips) : BitVec 32 :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  v103
def k0_off1 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v105 : Index := Scalar.indexCast v104
  let c0_48 : Index := 0#32
  ![v105.toNat, 0]
def k0_off2 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v298 : Index := Scalar.indexCast v104
  let c0_85 : Index := 0#32
  ![v298.toNat, 0]
def k0_off3 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v302 : Index := Scalar.indexCast v104
  let c128 : Index := 128#32
  ![v302.toNat, 128]
def k0_off4 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v495 : Index := Scalar.indexCast v104
  let c128_151 : Index := 128#32
  ![v495.toNat, 128]
def k0_off5 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v499 : Index := Scalar.indexCast v104
  let c256 : Index := 256#32
  ![v499.toNat, 256]
def k0_off6 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v692 : Index := Scalar.indexCast v104
  let c256_217 : Index := 256#32
  ![v692.toNat, 256]
def k0_off7 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v696 : Index := Scalar.indexCast v104
  let c384 : Index := 384#32
  ![v696.toNat, 384]
def k0_off8 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v889 : Index := Scalar.indexCast v104
  let c384_283 : Index := 384#32
  ![v889.toNat, 384]
def k0_off9 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v893 : Index := Scalar.indexCast v104
  let c512 : Index := 512#32
  ![v893.toNat, 512]
def k0_off10 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v1086 : Index := Scalar.indexCast v104
  let c512_349 : Index := 512#32
  ![v1086.toNat, 512]
def k0_off11 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v1090 : Index := Scalar.indexCast v104
  let c640 : Index := 640#32
  ![v1090.toNat, 640]
def k0_off12 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v1283 : Index := Scalar.indexCast v104
  let c640_415 : Index := 640#32
  ![v1283.toNat, 640]
def k0_off13 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v1287 : Index := Scalar.indexCast v104
  let c768 : Index := 768#32
  ![v1287.toNat, 768]
def k0_off14 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v1480 : Index := Scalar.indexCast v104
  let c768_481 : Index := 768#32
  ![v1480.toNat, 768]
def k0_off15 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v1484 : Index := Scalar.indexCast v104
  let c896 : Index := 896#32
  ![v1484.toNat, 896]
def k0_off16 (k0_t1 : Fin k0_t1_loop.trips) : Fin 2 → Nat :=
  let c0_i32_30 : BitVec 32 := 0#32
  let c1_i32 : BitVec 32 := 1#32
  let arg14 : BitVec 32 := Scf.iv c0_i32_30 c1_i32 k0_t1
  let c64_i32 : BitVec 32 := 64#32
  let v103 : BitVec 32 := Scalar.muli arg14 c64_i32
  let v104 : BitVec 32 := v103
  let v1677 : Index := Scalar.indexCast v104
  let c896_547 : Index := 896#32
  ![v1677.toNat, 896]
def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1535_i32 : BitVec 32 := 1535#32
  let v2 : BitVec 32 := Scalar.minsi v1 c1535_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1535_i32 : BitVec 32 := 1535#32
  let v2 : BitVec 32 := Scalar.minsi v1 c1535_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S24576x2048 : Shape := ⟨2, ![24576, 2048]⟩
abbrev S1x31x1024 : Shape := ⟨3, ![1, 31, 1024]⟩
abbrev S1x1024 : Shape := ⟨2, ![1, 1024]⟩
abbrev S16384x2048 : Shape := ⟨2, ![16384, 2048]⟩
abbrev S4x4096x2048 : Shape := ⟨3, ![4, 4096, 2048]⟩
abbrev S4x4096x1024 : Shape := ⟨3, ![4, 4096, 1024]⟩
abbrev S_ : Shape := ⟨0, ![]⟩
abbrev S4x4126x1024 : Shape := ⟨3, ![4, 4126, 1024]⟩
abbrev S1x1x1024 : Shape := ⟨3, ![1, 1, 1024]⟩
abbrev S1024 : Shape := ⟨1, ![1024]⟩
abbrev S4x4096 : Shape := ⟨2, ![4, 4096]⟩
abbrev S4x4096x1 : Shape := ⟨3, ![4, 4096, 1]⟩
abbrev S16384x1024 : Shape := ⟨2, ![16384, 1024]⟩
abbrev S8192x2048 : Shape := ⟨2, ![8192, 2048]⟩
abbrev S4x2048x2048 : Shape := ⟨3, ![4, 2048, 2048]⟩
abbrev S4x2048x1024 : Shape := ⟨3, ![4, 2048, 1024]⟩
abbrev S4x2078x1024 : Shape := ⟨3, ![4, 2078, 1024]⟩
abbrev S4x2048 : Shape := ⟨2, ![4, 2048]⟩
abbrev S4x2048x1 : Shape := ⟨3, ![4, 2048, 1]⟩
abbrev S8192x1024 : Shape := ⟨2, ![8192, 1024]⟩
abbrev S24576x1024 : Shape := ⟨2, ![24576, 1024]⟩

abbrev nBuf : Space → Nat
  | .hbm => 568
  | .vmem => 0
  | .smem => 0
  | _ => 0

abbrev hbmTy0_0 (i : Nat) : BufTy := match i % 128 with
  | 0 => ⟨S24576x2048, .bf16⟩
  | 1 => ⟨S1x31x1024, .f32⟩
  | 2 => ⟨S1x1024, .f32⟩
  | 3 => ⟨S1x1024, .f32⟩
  | 4 => ⟨S1x1024, .f32⟩
  | 5 => ⟨S24576x2048, .f32⟩
  | 6 => ⟨S16384x2048, .f32⟩
  | 7 => ⟨S4x4096x2048, .f32⟩
  | 8 => ⟨S4x4096x1024, .f32⟩
  | 9 => ⟨S4x4096x1024, .f32⟩
  | 10 => ⟨S4x4096x1024, .f32⟩
  | 11 => ⟨S4x4096x1024, .f32⟩
  | 12 => ⟨S_, .f32⟩
  | 13 => ⟨S4x4096x1024, .f32⟩
  | 14 => ⟨S4x4096x1024, .f32⟩
  | 15 => ⟨S_, .f32⟩
  | 16 => ⟨S4x4096x1024, .f32⟩
  | 17 => ⟨S4x4096x1024, .f32⟩
  | 18 => ⟨S4x4096x1024, .f32⟩
  | 19 => ⟨S_, .i32⟩
  | 20 => ⟨S_, .f32⟩
  | 21 => ⟨S4x4126x1024, .f32⟩
  | 22 => ⟨S4x4096x1024, .f32⟩
  | 23 => ⟨S1x1x1024, .f32⟩
  | 24 => ⟨S1024, .f32⟩
  | 25 => ⟨S1x1x1024, .f32⟩
  | 26 => ⟨S4x4096x1024, .f32⟩
  | 27 => ⟨S4x4096x1024, .f32⟩
  | 28 => ⟨S_, .f32⟩
  | 29 => ⟨S4x4096x1024, .f32⟩
  | 30 => ⟨S4x4096x1024, .f32⟩
  | 31 => ⟨S4x4096x1024, .f32⟩
  | 32 => ⟨S1x1x1024, .f32⟩
  | 33 => ⟨S1024, .f32⟩
  | 34 => ⟨S1x1x1024, .f32⟩
  | 35 => ⟨S4x4096x1024, .f32⟩
  | 36 => ⟨S4x4096x1024, .f32⟩
  | 37 => ⟨S4x4096x1024, .f32⟩
  | 38 => ⟨S4x4096x1024, .f32⟩
  | 39 => ⟨S1x1x1024, .f32⟩
  | 40 => ⟨S1024, .f32⟩
  | 41 => ⟨S1x1x1024, .f32⟩
  | 42 => ⟨S4x4096x1024, .f32⟩
  | 43 => ⟨S4x4096x1024, .f32⟩
  | 44 => ⟨S4x4096x1024, .f32⟩
  | 45 => ⟨S4x4096x1024, .f32⟩
  | 46 => ⟨S1x1x1024, .f32⟩
  | 47 => ⟨S1024, .f32⟩
  | 48 => ⟨S1x1x1024, .f32⟩
  | 49 => ⟨S4x4096x1024, .f32⟩
  | 50 => ⟨S4x4096x1024, .f32⟩
  | 51 => ⟨S4x4096x1024, .f32⟩
  | 52 => ⟨S4x4096x1024, .f32⟩
  | 53 => ⟨S1x1x1024, .f32⟩
  | 54 => ⟨S1024, .f32⟩
  | 55 => ⟨S1x1x1024, .f32⟩
  | 56 => ⟨S4x4096x1024, .f32⟩
  | 57 => ⟨S4x4096x1024, .f32⟩
  | 58 => ⟨S4x4096x1024, .f32⟩
  | 59 => ⟨S4x4096x1024, .f32⟩
  | 60 => ⟨S1x1x1024, .f32⟩
  | 61 => ⟨S1024, .f32⟩
  | 62 => ⟨S1x1x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S1x1x1024, .f32⟩
  | 68 => ⟨S1024, .f32⟩
  | 69 => ⟨S1x1x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S1x1x1024, .f32⟩
  | 75 => ⟨S1024, .f32⟩
  | 76 => ⟨S1x1x1024, .f32⟩
  | 77 => ⟨S4x4096x1024, .f32⟩
  | 78 => ⟨S4x4096x1024, .f32⟩
  | 79 => ⟨S4x4096x1024, .f32⟩
  | 80 => ⟨S4x4096x1024, .f32⟩
  | 81 => ⟨S1x1x1024, .f32⟩
  | 82 => ⟨S1024, .f32⟩
  | 83 => ⟨S1x1x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S1x1x1024, .f32⟩
  | 89 => ⟨S1024, .f32⟩
  | 90 => ⟨S1x1x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S1x1x1024, .f32⟩
  | 96 => ⟨S1024, .f32⟩
  | 97 => ⟨S1x1x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S1x1x1024, .f32⟩
  | 103 => ⟨S1024, .f32⟩
  | 104 => ⟨S1x1x1024, .f32⟩
  | 105 => ⟨S4x4096x1024, .f32⟩
  | 106 => ⟨S4x4096x1024, .f32⟩
  | 107 => ⟨S4x4096x1024, .f32⟩
  | 108 => ⟨S4x4096x1024, .f32⟩
  | 109 => ⟨S1x1x1024, .f32⟩
  | 110 => ⟨S1024, .f32⟩
  | 111 => ⟨S1x1x1024, .f32⟩
  | 112 => ⟨S4x4096x1024, .f32⟩
  | 113 => ⟨S4x4096x1024, .f32⟩
  | 114 => ⟨S4x4096x1024, .f32⟩
  | 115 => ⟨S4x4096x1024, .f32⟩
  | 116 => ⟨S1x1x1024, .f32⟩
  | 117 => ⟨S1024, .f32⟩
  | 118 => ⟨S1x1x1024, .f32⟩
  | 119 => ⟨S4x4096x1024, .f32⟩
  | 120 => ⟨S4x4096x1024, .f32⟩
  | 121 => ⟨S4x4096x1024, .f32⟩
  | 122 => ⟨S4x4096x1024, .f32⟩
  | 123 => ⟨S1x1x1024, .f32⟩
  | 124 => ⟨S1024, .f32⟩
  | 125 => ⟨S1x1x1024, .f32⟩
  | 126 => ⟨S4x4096x1024, .f32⟩
  | 127 => ⟨S4x4096x1024, .f32⟩
  | _ => ⟨S24576x2048, .bf16⟩

abbrev hbmTy0_1 (i : Nat) : BufTy := match i % 128 with
  | 0 => ⟨S4x4096x1024, .f32⟩
  | 1 => ⟨S4x4096x1024, .f32⟩
  | 2 => ⟨S1x1x1024, .f32⟩
  | 3 => ⟨S1024, .f32⟩
  | 4 => ⟨S1x1x1024, .f32⟩
  | 5 => ⟨S4x4096x1024, .f32⟩
  | 6 => ⟨S4x4096x1024, .f32⟩
  | 7 => ⟨S4x4096x1024, .f32⟩
  | 8 => ⟨S4x4096x1024, .f32⟩
  | 9 => ⟨S1x1x1024, .f32⟩
  | 10 => ⟨S1024, .f32⟩
  | 11 => ⟨S1x1x1024, .f32⟩
  | 12 => ⟨S4x4096x1024, .f32⟩
  | 13 => ⟨S4x4096x1024, .f32⟩
  | 14 => ⟨S4x4096x1024, .f32⟩
  | 15 => ⟨S4x4096x1024, .f32⟩
  | 16 => ⟨S1x1x1024, .f32⟩
  | 17 => ⟨S1024, .f32⟩
  | 18 => ⟨S1x1x1024, .f32⟩
  | 19 => ⟨S4x4096x1024, .f32⟩
  | 20 => ⟨S4x4096x1024, .f32⟩
  | 21 => ⟨S4x4096x1024, .f32⟩
  | 22 => ⟨S4x4096x1024, .f32⟩
  | 23 => ⟨S1x1x1024, .f32⟩
  | 24 => ⟨S1024, .f32⟩
  | 25 => ⟨S1x1x1024, .f32⟩
  | 26 => ⟨S4x4096x1024, .f32⟩
  | 27 => ⟨S4x4096x1024, .f32⟩
  | 28 => ⟨S4x4096x1024, .f32⟩
  | 29 => ⟨S4x4096x1024, .f32⟩
  | 30 => ⟨S1x1x1024, .f32⟩
  | 31 => ⟨S1024, .f32⟩
  | 32 => ⟨S1x1x1024, .f32⟩
  | 33 => ⟨S4x4096x1024, .f32⟩
  | 34 => ⟨S4x4096x1024, .f32⟩
  | 35 => ⟨S4x4096x1024, .f32⟩
  | 36 => ⟨S4x4096x1024, .f32⟩
  | 37 => ⟨S1x1x1024, .f32⟩
  | 38 => ⟨S1024, .f32⟩
  | 39 => ⟨S1x1x1024, .f32⟩
  | 40 => ⟨S4x4096x1024, .f32⟩
  | 41 => ⟨S4x4096x1024, .f32⟩
  | 42 => ⟨S4x4096x1024, .f32⟩
  | 43 => ⟨S4x4096x1024, .f32⟩
  | 44 => ⟨S1x1x1024, .f32⟩
  | 45 => ⟨S1024, .f32⟩
  | 46 => ⟨S1x1x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S1x1x1024, .f32⟩
  | 52 => ⟨S1024, .f32⟩
  | 53 => ⟨S1x1x1024, .f32⟩
  | 54 => ⟨S4x4096x1024, .f32⟩
  | 55 => ⟨S4x4096x1024, .f32⟩
  | 56 => ⟨S4x4096x1024, .f32⟩
  | 57 => ⟨S4x4096x1024, .f32⟩
  | 58 => ⟨S1x1x1024, .f32⟩
  | 59 => ⟨S1024, .f32⟩
  | 60 => ⟨S1x1x1024, .f32⟩
  | 61 => ⟨S4x4096x1024, .f32⟩
  | 62 => ⟨S4x4096x1024, .f32⟩
  | 63 => ⟨S4x4096x1024, .f32⟩
  | 64 => ⟨S4x4096x1024, .f32⟩
  | 65 => ⟨S1x1x1024, .f32⟩
  | 66 => ⟨S1024, .f32⟩
  | 67 => ⟨S1x1x1024, .f32⟩
  | 68 => ⟨S4x4096x1024, .f32⟩
  | 69 => ⟨S4x4096x1024, .f32⟩
  | 70 => ⟨S4x4096x1024, .f32⟩
  | 71 => ⟨S4x4096x1024, .f32⟩
  | 72 => ⟨S1x1x1024, .f32⟩
  | 73 => ⟨S1024, .f32⟩
  | 74 => ⟨S1x1x1024, .f32⟩
  | 75 => ⟨S4x4096x1024, .f32⟩
  | 76 => ⟨S4x4096x1024, .f32⟩
  | 77 => ⟨S4x4096x1024, .f32⟩
  | 78 => ⟨S4x4096x1024, .f32⟩
  | 79 => ⟨S1x1x1024, .f32⟩
  | 80 => ⟨S1024, .f32⟩
  | 81 => ⟨S1x1x1024, .f32⟩
  | 82 => ⟨S4x4096x1024, .f32⟩
  | 83 => ⟨S4x4096x1024, .f32⟩
  | 84 => ⟨S4x4096x1024, .f32⟩
  | 85 => ⟨S4x4096x1024, .f32⟩
  | 86 => ⟨S1x1x1024, .f32⟩
  | 87 => ⟨S1024, .f32⟩
  | 88 => ⟨S1x1x1024, .f32⟩
  | 89 => ⟨S4x4096x1024, .f32⟩
  | 90 => ⟨S4x4096x1024, .f32⟩
  | 91 => ⟨S4x4096x1024, .f32⟩
  | 92 => ⟨S4x4096x1024, .f32⟩
  | 93 => ⟨S1x1x1024, .f32⟩
  | 94 => ⟨S1024, .f32⟩
  | 95 => ⟨S1x1x1024, .f32⟩
  | 96 => ⟨S4x4096x1024, .f32⟩
  | 97 => ⟨S4x4096x1024, .f32⟩
  | 98 => ⟨S4x4096x1024, .f32⟩
  | 99 => ⟨S4x4096x1024, .f32⟩
  | 100 => ⟨S1x1x1024, .f32⟩
  | 101 => ⟨S1024, .f32⟩
  | 102 => ⟨S1x1x1024, .f32⟩
  | 103 => ⟨S4x4096x1024, .f32⟩
  | 104 => ⟨S4x4096x1024, .f32⟩
  | 105 => ⟨S4x4096x1024, .f32⟩
  | 106 => ⟨S4x4096x1024, .f32⟩
  | 107 => ⟨S1x1x1024, .f32⟩
  | 108 => ⟨S1024, .f32⟩
  | 109 => ⟨S1x1x1024, .f32⟩
  | 110 => ⟨S4x4096x1024, .f32⟩
  | 111 => ⟨S4x4096x1024, .f32⟩
  | 112 => ⟨S4x4096x1024, .f32⟩
  | 113 => ⟨S1024, .f32⟩
  | 114 => ⟨S1x1x1024, .f32⟩
  | 115 => ⟨S4x4096x1024, .f32⟩
  | 116 => ⟨S4x4096x1024, .f32⟩
  | 117 => ⟨S_, .f32⟩
  | 118 => ⟨S4x4096, .f32⟩
  | 119 => ⟨S4x4096x1, .f32⟩
  | 120 => ⟨S_, .f32⟩
  | 121 => ⟨S4x4096x1, .f32⟩
  | 122 => ⟨S4x4096x1, .f32⟩
  | 123 => ⟨S4x4096x1024, .f32⟩
  | 124 => ⟨S4x4096x1024, .f32⟩
  | 125 => ⟨S4x4096x1024, .f32⟩
  | 126 => ⟨S_, .f32⟩
  | 127 => ⟨S4x4096, .f32⟩
  | _ => ⟨S24576x2048, .bf16⟩

abbrev hbmTy0_2 (i : Nat) : BufTy := match i % 128 with
  | 0 => ⟨S4x4096x1, .f32⟩
  | 1 => ⟨S_, .f32⟩
  | 2 => ⟨S4x4096x1, .f32⟩
  | 3 => ⟨S4x4096x1, .f32⟩
  | 4 => ⟨S4x4096x1024, .f32⟩
  | 5 => ⟨S4x4096x1024, .f32⟩
  | 6 => ⟨S_, .f32⟩
  | 7 => ⟨S4x4096x1, .f32⟩
  | 8 => ⟨S4x4096x1, .f32⟩
  | 9 => ⟨S4x4096x1, .f32⟩
  | 10 => ⟨S4x4096x1024, .f32⟩
  | 11 => ⟨S4x4096x1024, .f32⟩
  | 12 => ⟨S1024, .f32⟩
  | 13 => ⟨S1x1x1024, .f32⟩
  | 14 => ⟨S4x4096x1024, .f32⟩
  | 15 => ⟨S4x4096x1024, .f32⟩
  | 16 => ⟨S1024, .f32⟩
  | 17 => ⟨S1x1x1024, .f32⟩
  | 18 => ⟨S4x4096x1024, .f32⟩
  | 19 => ⟨S4x4096x1024, .f32⟩
  | 20 => ⟨S4x4096x1024, .f32⟩
  | 21 => ⟨S4x4096x1024, .f32⟩
  | 22 => ⟨S_, .f32⟩
  | 23 => ⟨S4x4096x1024, .f32⟩
  | 24 => ⟨S4x4096x1024, .f32⟩
  | 25 => ⟨S_, .f32⟩
  | 26 => ⟨S4x4096x1024, .f32⟩
  | 27 => ⟨S4x4096x1024, .f32⟩
  | 28 => ⟨S4x4096x1024, .f32⟩
  | 29 => ⟨S16384x1024, .f32⟩
  | 30 => ⟨S8192x2048, .f32⟩
  | 31 => ⟨S4x2048x2048, .f32⟩
  | 32 => ⟨S4x2048x1024, .f32⟩
  | 33 => ⟨S4x2048x1024, .f32⟩
  | 34 => ⟨S4x2048x1024, .f32⟩
  | 35 => ⟨S4x2048x1024, .f32⟩
  | 36 => ⟨S_, .f32⟩
  | 37 => ⟨S4x2048x1024, .f32⟩
  | 38 => ⟨S4x2048x1024, .f32⟩
  | 39 => ⟨S_, .f32⟩
  | 40 => ⟨S4x2048x1024, .f32⟩
  | 41 => ⟨S4x2048x1024, .f32⟩
  | 42 => ⟨S4x2048x1024, .f32⟩
  | 43 => ⟨S_, .i32⟩
  | 44 => ⟨S_, .f32⟩
  | 45 => ⟨S4x2078x1024, .f32⟩
  | 46 => ⟨S4x2048x1024, .f32⟩
  | 47 => ⟨S1x1x1024, .f32⟩
  | 48 => ⟨S1024, .f32⟩
  | 49 => ⟨S1x1x1024, .f32⟩
  | 50 => ⟨S4x2048x1024, .f32⟩
  | 51 => ⟨S4x2048x1024, .f32⟩
  | 52 => ⟨S_, .f32⟩
  | 53 => ⟨S4x2048x1024, .f32⟩
  | 54 => ⟨S4x2048x1024, .f32⟩
  | 55 => ⟨S4x2048x1024, .f32⟩
  | 56 => ⟨S1x1x1024, .f32⟩
  | 57 => ⟨S1024, .f32⟩
  | 58 => ⟨S1x1x1024, .f32⟩
  | 59 => ⟨S4x2048x1024, .f32⟩
  | 60 => ⟨S4x2048x1024, .f32⟩
  | 61 => ⟨S4x2048x1024, .f32⟩
  | 62 => ⟨S4x2048x1024, .f32⟩
  | 63 => ⟨S1x1x1024, .f32⟩
  | 64 => ⟨S1024, .f32⟩
  | 65 => ⟨S1x1x1024, .f32⟩
  | 66 => ⟨S4x2048x1024, .f32⟩
  | 67 => ⟨S4x2048x1024, .f32⟩
  | 68 => ⟨S4x2048x1024, .f32⟩
  | 69 => ⟨S4x2048x1024, .f32⟩
  | 70 => ⟨S1x1x1024, .f32⟩
  | 71 => ⟨S1024, .f32⟩
  | 72 => ⟨S1x1x1024, .f32⟩
  | 73 => ⟨S4x2048x1024, .f32⟩
  | 74 => ⟨S4x2048x1024, .f32⟩
  | 75 => ⟨S4x2048x1024, .f32⟩
  | 76 => ⟨S4x2048x1024, .f32⟩
  | 77 => ⟨S1x1x1024, .f32⟩
  | 78 => ⟨S1024, .f32⟩
  | 79 => ⟨S1x1x1024, .f32⟩
  | 80 => ⟨S4x2048x1024, .f32⟩
  | 81 => ⟨S4x2048x1024, .f32⟩
  | 82 => ⟨S4x2048x1024, .f32⟩
  | 83 => ⟨S4x2048x1024, .f32⟩
  | 84 => ⟨S1x1x1024, .f32⟩
  | 85 => ⟨S1024, .f32⟩
  | 86 => ⟨S1x1x1024, .f32⟩
  | 87 => ⟨S4x2048x1024, .f32⟩
  | 88 => ⟨S4x2048x1024, .f32⟩
  | 89 => ⟨S4x2048x1024, .f32⟩
  | 90 => ⟨S4x2048x1024, .f32⟩
  | 91 => ⟨S1x1x1024, .f32⟩
  | 92 => ⟨S1024, .f32⟩
  | 93 => ⟨S1x1x1024, .f32⟩
  | 94 => ⟨S4x2048x1024, .f32⟩
  | 95 => ⟨S4x2048x1024, .f32⟩
  | 96 => ⟨S4x2048x1024, .f32⟩
  | 97 => ⟨S4x2048x1024, .f32⟩
  | 98 => ⟨S1x1x1024, .f32⟩
  | 99 => ⟨S1024, .f32⟩
  | 100 => ⟨S1x1x1024, .f32⟩
  | 101 => ⟨S4x2048x1024, .f32⟩
  | 102 => ⟨S4x2048x1024, .f32⟩
  | 103 => ⟨S4x2048x1024, .f32⟩
  | 104 => ⟨S4x2048x1024, .f32⟩
  | 105 => ⟨S1x1x1024, .f32⟩
  | 106 => ⟨S1024, .f32⟩
  | 107 => ⟨S1x1x1024, .f32⟩
  | 108 => ⟨S4x2048x1024, .f32⟩
  | 109 => ⟨S4x2048x1024, .f32⟩
  | 110 => ⟨S4x2048x1024, .f32⟩
  | 111 => ⟨S4x2048x1024, .f32⟩
  | 112 => ⟨S1x1x1024, .f32⟩
  | 113 => ⟨S1024, .f32⟩
  | 114 => ⟨S1x1x1024, .f32⟩
  | 115 => ⟨S4x2048x1024, .f32⟩
  | 116 => ⟨S4x2048x1024, .f32⟩
  | 117 => ⟨S4x2048x1024, .f32⟩
  | 118 => ⟨S4x2048x1024, .f32⟩
  | 119 => ⟨S1x1x1024, .f32⟩
  | 120 => ⟨S1024, .f32⟩
  | 121 => ⟨S1x1x1024, .f32⟩
  | 122 => ⟨S4x2048x1024, .f32⟩
  | 123 => ⟨S4x2048x1024, .f32⟩
  | 124 => ⟨S4x2048x1024, .f32⟩
  | 125 => ⟨S4x2048x1024, .f32⟩
  | 126 => ⟨S1x1x1024, .f32⟩
  | 127 => ⟨S1024, .f32⟩
  | _ => ⟨S24576x2048, .bf16⟩

abbrev hbmTy0_3 (i : Nat) : BufTy := match i % 128 with
  | 0 => ⟨S1x1x1024, .f32⟩
  | 1 => ⟨S4x2048x1024, .f32⟩
  | 2 => ⟨S4x2048x1024, .f32⟩
  | 3 => ⟨S4x2048x1024, .f32⟩
  | 4 => ⟨S4x2048x1024, .f32⟩
  | 5 => ⟨S1x1x1024, .f32⟩
  | 6 => ⟨S1024, .f32⟩
  | 7 => ⟨S1x1x1024, .f32⟩
  | 8 => ⟨S4x2048x1024, .f32⟩
  | 9 => ⟨S4x2048x1024, .f32⟩
  | 10 => ⟨S4x2048x1024, .f32⟩
  | 11 => ⟨S4x2048x1024, .f32⟩
  | 12 => ⟨S1x1x1024, .f32⟩
  | 13 => ⟨S1024, .f32⟩
  | 14 => ⟨S1x1x1024, .f32⟩
  | 15 => ⟨S4x2048x1024, .f32⟩
  | 16 => ⟨S4x2048x1024, .f32⟩
  | 17 => ⟨S4x2048x1024, .f32⟩
  | 18 => ⟨S4x2048x1024, .f32⟩
  | 19 => ⟨S1x1x1024, .f32⟩
  | 20 => ⟨S1024, .f32⟩
  | 21 => ⟨S1x1x1024, .f32⟩
  | 22 => ⟨S4x2048x1024, .f32⟩
  | 23 => ⟨S4x2048x1024, .f32⟩
  | 24 => ⟨S4x2048x1024, .f32⟩
  | 25 => ⟨S4x2048x1024, .f32⟩
  | 26 => ⟨S1x1x1024, .f32⟩
  | 27 => ⟨S1024, .f32⟩
  | 28 => ⟨S1x1x1024, .f32⟩
  | 29 => ⟨S4x2048x1024, .f32⟩
  | 30 => ⟨S4x2048x1024, .f32⟩
  | 31 => ⟨S4x2048x1024, .f32⟩
  | 32 => ⟨S4x2048x1024, .f32⟩
  | 33 => ⟨S1x1x1024, .f32⟩
  | 34 => ⟨S1024, .f32⟩
  | 35 => ⟨S1x1x1024, .f32⟩
  | 36 => ⟨S4x2048x1024, .f32⟩
  | 37 => ⟨S4x2048x1024, .f32⟩
  | 38 => ⟨S4x2048x1024, .f32⟩
  | 39 => ⟨S4x2048x1024, .f32⟩
  | 40 => ⟨S1x1x1024, .f32⟩
  | 41 => ⟨S1024, .f32⟩
  | 42 => ⟨S1x1x1024, .f32⟩
  | 43 => ⟨S4x2048x1024, .f32⟩
  | 44 => ⟨S4x2048x1024, .f32⟩
  | 45 => ⟨S4x2048x1024, .f32⟩
  | 46 => ⟨S4x2048x1024, .f32⟩
  | 47 => ⟨S1x1x1024, .f32⟩
  | 48 => ⟨S1024, .f32⟩
  | 49 => ⟨S1x1x1024, .f32⟩
  | 50 => ⟨S4x2048x1024, .f32⟩
  | 51 => ⟨S4x2048x1024, .f32⟩
  | 52 => ⟨S4x2048x1024, .f32⟩
  | 53 => ⟨S4x2048x1024, .f32⟩
  | 54 => ⟨S1x1x1024, .f32⟩
  | 55 => ⟨S1024, .f32⟩
  | 56 => ⟨S1x1x1024, .f32⟩
  | 57 => ⟨S4x2048x1024, .f32⟩
  | 58 => ⟨S4x2048x1024, .f32⟩
  | 59 => ⟨S4x2048x1024, .f32⟩
  | 60 => ⟨S4x2048x1024, .f32⟩
  | 61 => ⟨S1x1x1024, .f32⟩
  | 62 => ⟨S1024, .f32⟩
  | 63 => ⟨S1x1x1024, .f32⟩
  | 64 => ⟨S4x2048x1024, .f32⟩
  | 65 => ⟨S4x2048x1024, .f32⟩
  | 66 => ⟨S4x2048x1024, .f32⟩
  | 67 => ⟨S4x2048x1024, .f32⟩
  | 68 => ⟨S1x1x1024, .f32⟩
  | 69 => ⟨S1024, .f32⟩
  | 70 => ⟨S1x1x1024, .f32⟩
  | 71 => ⟨S4x2048x1024, .f32⟩
  | 72 => ⟨S4x2048x1024, .f32⟩
  | 73 => ⟨S4x2048x1024, .f32⟩
  | 74 => ⟨S4x2048x1024, .f32⟩
  | 75 => ⟨S1x1x1024, .f32⟩
  | 76 => ⟨S1024, .f32⟩
  | 77 => ⟨S1x1x1024, .f32⟩
  | 78 => ⟨S4x2048x1024, .f32⟩
  | 79 => ⟨S4x2048x1024, .f32⟩
  | 80 => ⟨S4x2048x1024, .f32⟩
  | 81 => ⟨S4x2048x1024, .f32⟩
  | 82 => ⟨S1x1x1024, .f32⟩
  | 83 => ⟨S1024, .f32⟩
  | 84 => ⟨S1x1x1024, .f32⟩
  | 85 => ⟨S4x2048x1024, .f32⟩
  | 86 => ⟨S4x2048x1024, .f32⟩
  | 87 => ⟨S4x2048x1024, .f32⟩
  | 88 => ⟨S4x2048x1024, .f32⟩
  | 89 => ⟨S1x1x1024, .f32⟩
  | 90 => ⟨S1024, .f32⟩
  | 91 => ⟨S1x1x1024, .f32⟩
  | 92 => ⟨S4x2048x1024, .f32⟩
  | 93 => ⟨S4x2048x1024, .f32⟩
  | 94 => ⟨S4x2048x1024, .f32⟩
  | 95 => ⟨S4x2048x1024, .f32⟩
  | 96 => ⟨S1x1x1024, .f32⟩
  | 97 => ⟨S1024, .f32⟩
  | 98 => ⟨S1x1x1024, .f32⟩
  | 99 => ⟨S4x2048x1024, .f32⟩
  | 100 => ⟨S4x2048x1024, .f32⟩
  | 101 => ⟨S4x2048x1024, .f32⟩
  | 102 => ⟨S4x2048x1024, .f32⟩
  | 103 => ⟨S1x1x1024, .f32⟩
  | 104 => ⟨S1024, .f32⟩
  | 105 => ⟨S1x1x1024, .f32⟩
  | 106 => ⟨S4x2048x1024, .f32⟩
  | 107 => ⟨S4x2048x1024, .f32⟩
  | 108 => ⟨S4x2048x1024, .f32⟩
  | 109 => ⟨S4x2048x1024, .f32⟩
  | 110 => ⟨S1x1x1024, .f32⟩
  | 111 => ⟨S1024, .f32⟩
  | 112 => ⟨S1x1x1024, .f32⟩
  | 113 => ⟨S4x2048x1024, .f32⟩
  | 114 => ⟨S4x2048x1024, .f32⟩
  | 115 => ⟨S4x2048x1024, .f32⟩
  | 116 => ⟨S4x2048x1024, .f32⟩
  | 117 => ⟨S1x1x1024, .f32⟩
  | 118 => ⟨S1024, .f32⟩
  | 119 => ⟨S1x1x1024, .f32⟩
  | 120 => ⟨S4x2048x1024, .f32⟩
  | 121 => ⟨S4x2048x1024, .f32⟩
  | 122 => ⟨S4x2048x1024, .f32⟩
  | 123 => ⟨S4x2048x1024, .f32⟩
  | 124 => ⟨S1x1x1024, .f32⟩
  | 125 => ⟨S1024, .f32⟩
  | 126 => ⟨S1x1x1024, .f32⟩
  | 127 => ⟨S4x2048x1024, .f32⟩
  | _ => ⟨S24576x2048, .bf16⟩

abbrev hbmTy0_4 (i : Nat) : BufTy := match i % 128 with
  | 0 => ⟨S4x2048x1024, .f32⟩
  | 1 => ⟨S4x2048x1024, .f32⟩
  | 2 => ⟨S4x2048x1024, .f32⟩
  | 3 => ⟨S1x1x1024, .f32⟩
  | 4 => ⟨S1024, .f32⟩
  | 5 => ⟨S1x1x1024, .f32⟩
  | 6 => ⟨S4x2048x1024, .f32⟩
  | 7 => ⟨S4x2048x1024, .f32⟩
  | 8 => ⟨S4x2048x1024, .f32⟩
  | 9 => ⟨S1024, .f32⟩
  | 10 => ⟨S1x1x1024, .f32⟩
  | 11 => ⟨S4x2048x1024, .f32⟩
  | 12 => ⟨S4x2048x1024, .f32⟩
  | 13 => ⟨S_, .f32⟩
  | 14 => ⟨S4x2048, .f32⟩
  | 15 => ⟨S4x2048x1, .f32⟩
  | 16 => ⟨S_, .f32⟩
  | 17 => ⟨S4x2048x1, .f32⟩
  | 18 => ⟨S4x2048x1, .f32⟩
  | 19 => ⟨S4x2048x1024, .f32⟩
  | 20 => ⟨S4x2048x1024, .f32⟩
  | 21 => ⟨S4x2048x1024, .f32⟩
  | 22 => ⟨S_, .f32⟩
  | 23 => ⟨S4x2048, .f32⟩
  | 24 => ⟨S4x2048x1, .f32⟩
  | 25 => ⟨S_, .f32⟩
  | 26 => ⟨S4x2048x1, .f32⟩
  | 27 => ⟨S4x2048x1, .f32⟩
  | 28 => ⟨S4x2048x1024, .f32⟩
  | 29 => ⟨S4x2048x1024, .f32⟩
  | 30 => ⟨S_, .f32⟩
  | 31 => ⟨S4x2048x1, .f32⟩
  | 32 => ⟨S4x2048x1, .f32⟩
  | 33 => ⟨S4x2048x1, .f32⟩
  | 34 => ⟨S4x2048x1024, .f32⟩
  | 35 => ⟨S4x2048x1024, .f32⟩
  | 36 => ⟨S1024, .f32⟩
  | 37 => ⟨S1x1x1024, .f32⟩
  | 38 => ⟨S4x2048x1024, .f32⟩
  | 39 => ⟨S4x2048x1024, .f32⟩
  | 40 => ⟨S1024, .f32⟩
  | 41 => ⟨S1x1x1024, .f32⟩
  | 42 => ⟨S4x2048x1024, .f32⟩
  | 43 => ⟨S4x2048x1024, .f32⟩
  | 44 => ⟨S4x2048x1024, .f32⟩
  | 45 => ⟨S4x2048x1024, .f32⟩
  | 46 => ⟨S_, .f32⟩
  | 47 => ⟨S4x2048x1024, .f32⟩
  | 48 => ⟨S4x2048x1024, .f32⟩
  | 49 => ⟨S_, .f32⟩
  | 50 => ⟨S4x2048x1024, .f32⟩
  | 51 => ⟨S4x2048x1024, .f32⟩
  | 52 => ⟨S4x2048x1024, .f32⟩
  | 53 => ⟨S8192x1024, .f32⟩
  | 54 => ⟨S24576x1024, .f32⟩
  | 55 => ⟨S24576x1024, .bf16⟩
  | _ => ⟨S24576x2048, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S24576x2048, .bf16⟩

abbrev bufTy : (tb : Table) → Fin (tcTables nBuf tb) → BufTy
  | .hbm, ⟨i, _⟩ => hbmTy i
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_cst_2 : Ref sig .tc := ⟨.hbm, 245, rfl⟩
abbrev main_v235 : Ref sig .tc := ⟨.hbm, 246, rfl⟩
abbrev main_v236 : Ref sig .tc := ⟨.hbm, 247, rfl⟩
abbrev main_cst_3 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_cst_4 : Ref sig .tc := ⟨.hbm, 254, rfl⟩
abbrev main_v242 : Ref sig .tc := ⟨.hbm, 255, rfl⟩
abbrev main_v243 : Ref sig .tc := ⟨.hbm, 256, rfl⟩
abbrev main_cst_5 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_cst_6 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_call1_v0 : Ref sig .tc := ⟨.hbm, 276, rfl⟩
abbrev main_call1_v1 : Ref sig .tc := ⟨.hbm, 277, rfl⟩
abbrev main_call1_cst : Ref sig .tc := ⟨.hbm, 278, rfl⟩
abbrev main_call1_v2 : Ref sig .tc := ⟨.hbm, 279, rfl⟩
abbrev main_call1_v3 : Ref sig .tc := ⟨.hbm, 280, rfl⟩
abbrev main_call1_cst_0 : Ref sig .tc := ⟨.hbm, 281, rfl⟩
abbrev main_call1_v4 : Ref sig .tc := ⟨.hbm, 282, rfl⟩
abbrev main_call1_v5 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_cst_7 : Ref sig .tc := ⟨.hbm, 292, rfl⟩
abbrev main_v269 : Ref sig .tc := ⟨.hbm, 293, rfl⟩
abbrev main_v270 : Ref sig .tc := ⟨.hbm, 294, rfl⟩
abbrev main_cst_8 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_c_9 : Ref sig .tc := ⟨.hbm, 299, rfl⟩
abbrev main_call2_v0 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_cst_10 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_v293 : Ref sig .tc := ⟨.hbm, 321, rfl⟩
abbrev main_v294 : Ref sig .tc := ⟨.hbm, 322, rfl⟩
abbrev main_v295 : Ref sig .tc := ⟨.hbm, 323, rfl⟩
abbrev main_v296 : Ref sig .tc := ⟨.hbm, 324, rfl⟩
abbrev main_v297 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_v301 : Ref sig .tc := ⟨.hbm, 329, rfl⟩
abbrev main_v302 : Ref sig .tc := ⟨.hbm, 330, rfl⟩
abbrev main_v303 : Ref sig .tc := ⟨.hbm, 331, rfl⟩
abbrev main_v304 : Ref sig .tc := ⟨.hbm, 332, rfl⟩
abbrev main_v305 : Ref sig .tc := ⟨.hbm, 333, rfl⟩
abbrev main_v306 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_v318 : Ref sig .tc := ⟨.hbm, 346, rfl⟩
abbrev main_v319 : Ref sig .tc := ⟨.hbm, 347, rfl⟩
abbrev main_v320 : Ref sig .tc := ⟨.hbm, 348, rfl⟩
abbrev main_v321 : Ref sig .tc := ⟨.hbm, 349, rfl⟩
abbrev main_v322 : Ref sig .tc := ⟨.hbm, 350, rfl⟩
abbrev main_v323 : Ref sig .tc := ⟨.hbm, 351, rfl⟩
abbrev main_v324 : Ref sig .tc := ⟨.hbm, 352, rfl⟩
abbrev main_v325 : Ref sig .tc := ⟨.hbm, 353, rfl⟩
abbrev main_v326 : Ref sig .tc := ⟨.hbm, 354, rfl⟩
abbrev main_v327 : Ref sig .tc := ⟨.hbm, 355, rfl⟩
abbrev main_v328 : Ref sig .tc := ⟨.hbm, 356, rfl⟩
abbrev main_v329 : Ref sig .tc := ⟨.hbm, 357, rfl⟩
abbrev main_v330 : Ref sig .tc := ⟨.hbm, 358, rfl⟩
abbrev main_v331 : Ref sig .tc := ⟨.hbm, 359, rfl⟩
abbrev main_v332 : Ref sig .tc := ⟨.hbm, 360, rfl⟩
abbrev main_v333 : Ref sig .tc := ⟨.hbm, 361, rfl⟩
abbrev main_v334 : Ref sig .tc := ⟨.hbm, 362, rfl⟩
abbrev main_v335 : Ref sig .tc := ⟨.hbm, 363, rfl⟩
abbrev main_v336 : Ref sig .tc := ⟨.hbm, 364, rfl⟩
abbrev main_v337 : Ref sig .tc := ⟨.hbm, 365, rfl⟩
abbrev main_v338 : Ref sig .tc := ⟨.hbm, 366, rfl⟩
abbrev main_v339 : Ref sig .tc := ⟨.hbm, 367, rfl⟩
abbrev main_v340 : Ref sig .tc := ⟨.hbm, 368, rfl⟩
abbrev main_v341 : Ref sig .tc := ⟨.hbm, 369, rfl⟩
abbrev main_v342 : Ref sig .tc := ⟨.hbm, 370, rfl⟩
abbrev main_v343 : Ref sig .tc := ⟨.hbm, 371, rfl⟩
abbrev main_v344 : Ref sig .tc := ⟨.hbm, 372, rfl⟩
abbrev main_v345 : Ref sig .tc := ⟨.hbm, 373, rfl⟩
abbrev main_v346 : Ref sig .tc := ⟨.hbm, 374, rfl⟩
abbrev main_v347 : Ref sig .tc := ⟨.hbm, 375, rfl⟩
abbrev main_v348 : Ref sig .tc := ⟨.hbm, 376, rfl⟩
abbrev main_v349 : Ref sig .tc := ⟨.hbm, 377, rfl⟩
abbrev main_v350 : Ref sig .tc := ⟨.hbm, 378, rfl⟩
abbrev main_v351 : Ref sig .tc := ⟨.hbm, 379, rfl⟩
abbrev main_v352 : Ref sig .tc := ⟨.hbm, 380, rfl⟩
abbrev main_v353 : Ref sig .tc := ⟨.hbm, 381, rfl⟩
abbrev main_v354 : Ref sig .tc := ⟨.hbm, 382, rfl⟩
abbrev main_v355 : Ref sig .tc := ⟨.hbm, 383, rfl⟩
abbrev main_v356 : Ref sig .tc := ⟨.hbm, 384, rfl⟩
abbrev main_v357 : Ref sig .tc := ⟨.hbm, 385, rfl⟩
abbrev main_v358 : Ref sig .tc := ⟨.hbm, 386, rfl⟩
abbrev main_v359 : Ref sig .tc := ⟨.hbm, 387, rfl⟩
abbrev main_v360 : Ref sig .tc := ⟨.hbm, 388, rfl⟩
abbrev main_v361 : Ref sig .tc := ⟨.hbm, 389, rfl⟩
abbrev main_v362 : Ref sig .tc := ⟨.hbm, 390, rfl⟩
abbrev main_v363 : Ref sig .tc := ⟨.hbm, 391, rfl⟩
abbrev main_v364 : Ref sig .tc := ⟨.hbm, 392, rfl⟩
abbrev main_v365 : Ref sig .tc := ⟨.hbm, 393, rfl⟩
abbrev main_v366 : Ref sig .tc := ⟨.hbm, 394, rfl⟩
abbrev main_v367 : Ref sig .tc := ⟨.hbm, 395, rfl⟩
abbrev main_v368 : Ref sig .tc := ⟨.hbm, 396, rfl⟩
abbrev main_v369 : Ref sig .tc := ⟨.hbm, 397, rfl⟩
abbrev main_v370 : Ref sig .tc := ⟨.hbm, 398, rfl⟩
abbrev main_v371 : Ref sig .tc := ⟨.hbm, 399, rfl⟩
abbrev main_v372 : Ref sig .tc := ⟨.hbm, 400, rfl⟩
abbrev main_v373 : Ref sig .tc := ⟨.hbm, 401, rfl⟩
abbrev main_v374 : Ref sig .tc := ⟨.hbm, 402, rfl⟩
abbrev main_v375 : Ref sig .tc := ⟨.hbm, 403, rfl⟩
abbrev main_v376 : Ref sig .tc := ⟨.hbm, 404, rfl⟩
abbrev main_v377 : Ref sig .tc := ⟨.hbm, 405, rfl⟩
abbrev main_v378 : Ref sig .tc := ⟨.hbm, 406, rfl⟩
abbrev main_v379 : Ref sig .tc := ⟨.hbm, 407, rfl⟩
abbrev main_v380 : Ref sig .tc := ⟨.hbm, 408, rfl⟩
abbrev main_v381 : Ref sig .tc := ⟨.hbm, 409, rfl⟩
abbrev main_v382 : Ref sig .tc := ⟨.hbm, 410, rfl⟩
abbrev main_v383 : Ref sig .tc := ⟨.hbm, 411, rfl⟩
abbrev main_v384 : Ref sig .tc := ⟨.hbm, 412, rfl⟩
abbrev main_v385 : Ref sig .tc := ⟨.hbm, 413, rfl⟩
abbrev main_v386 : Ref sig .tc := ⟨.hbm, 414, rfl⟩
abbrev main_v387 : Ref sig .tc := ⟨.hbm, 415, rfl⟩
abbrev main_v388 : Ref sig .tc := ⟨.hbm, 416, rfl⟩
abbrev main_v389 : Ref sig .tc := ⟨.hbm, 417, rfl⟩
abbrev main_v390 : Ref sig .tc := ⟨.hbm, 418, rfl⟩
abbrev main_v391 : Ref sig .tc := ⟨.hbm, 419, rfl⟩
abbrev main_v392 : Ref sig .tc := ⟨.hbm, 420, rfl⟩
abbrev main_v393 : Ref sig .tc := ⟨.hbm, 421, rfl⟩
abbrev main_v394 : Ref sig .tc := ⟨.hbm, 422, rfl⟩
abbrev main_v395 : Ref sig .tc := ⟨.hbm, 423, rfl⟩
abbrev main_v396 : Ref sig .tc := ⟨.hbm, 424, rfl⟩
abbrev main_v397 : Ref sig .tc := ⟨.hbm, 425, rfl⟩
abbrev main_v398 : Ref sig .tc := ⟨.hbm, 426, rfl⟩
abbrev main_v399 : Ref sig .tc := ⟨.hbm, 427, rfl⟩
abbrev main_v400 : Ref sig .tc := ⟨.hbm, 428, rfl⟩
abbrev main_v401 : Ref sig .tc := ⟨.hbm, 429, rfl⟩
abbrev main_v402 : Ref sig .tc := ⟨.hbm, 430, rfl⟩
abbrev main_v403 : Ref sig .tc := ⟨.hbm, 431, rfl⟩
abbrev main_v404 : Ref sig .tc := ⟨.hbm, 432, rfl⟩
abbrev main_v405 : Ref sig .tc := ⟨.hbm, 433, rfl⟩
abbrev main_v406 : Ref sig .tc := ⟨.hbm, 434, rfl⟩
abbrev main_v407 : Ref sig .tc := ⟨.hbm, 435, rfl⟩
abbrev main_v408 : Ref sig .tc := ⟨.hbm, 436, rfl⟩
abbrev main_v409 : Ref sig .tc := ⟨.hbm, 437, rfl⟩
abbrev main_v410 : Ref sig .tc := ⟨.hbm, 438, rfl⟩
abbrev main_v411 : Ref sig .tc := ⟨.hbm, 439, rfl⟩
abbrev main_v412 : Ref sig .tc := ⟨.hbm, 440, rfl⟩
abbrev main_v413 : Ref sig .tc := ⟨.hbm, 441, rfl⟩
abbrev main_v414 : Ref sig .tc := ⟨.hbm, 442, rfl⟩
abbrev main_v415 : Ref sig .tc := ⟨.hbm, 443, rfl⟩
abbrev main_v416 : Ref sig .tc := ⟨.hbm, 444, rfl⟩
abbrev main_v417 : Ref sig .tc := ⟨.hbm, 445, rfl⟩
abbrev main_v418 : Ref sig .tc := ⟨.hbm, 446, rfl⟩
abbrev main_v419 : Ref sig .tc := ⟨.hbm, 447, rfl⟩
abbrev main_v420 : Ref sig .tc := ⟨.hbm, 448, rfl⟩
abbrev main_v421 : Ref sig .tc := ⟨.hbm, 449, rfl⟩
abbrev main_v422 : Ref sig .tc := ⟨.hbm, 450, rfl⟩
abbrev main_v423 : Ref sig .tc := ⟨.hbm, 451, rfl⟩
abbrev main_v424 : Ref sig .tc := ⟨.hbm, 452, rfl⟩
abbrev main_v425 : Ref sig .tc := ⟨.hbm, 453, rfl⟩
abbrev main_v426 : Ref sig .tc := ⟨.hbm, 454, rfl⟩
abbrev main_v427 : Ref sig .tc := ⟨.hbm, 455, rfl⟩
abbrev main_v428 : Ref sig .tc := ⟨.hbm, 456, rfl⟩
abbrev main_v429 : Ref sig .tc := ⟨.hbm, 457, rfl⟩
abbrev main_v430 : Ref sig .tc := ⟨.hbm, 458, rfl⟩
abbrev main_v431 : Ref sig .tc := ⟨.hbm, 459, rfl⟩
abbrev main_v432 : Ref sig .tc := ⟨.hbm, 460, rfl⟩
abbrev main_v433 : Ref sig .tc := ⟨.hbm, 461, rfl⟩
abbrev main_v434 : Ref sig .tc := ⟨.hbm, 462, rfl⟩
abbrev main_v435 : Ref sig .tc := ⟨.hbm, 463, rfl⟩
abbrev main_v436 : Ref sig .tc := ⟨.hbm, 464, rfl⟩
abbrev main_v437 : Ref sig .tc := ⟨.hbm, 465, rfl⟩
abbrev main_v438 : Ref sig .tc := ⟨.hbm, 466, rfl⟩
abbrev main_v439 : Ref sig .tc := ⟨.hbm, 467, rfl⟩
abbrev main_v440 : Ref sig .tc := ⟨.hbm, 468, rfl⟩
abbrev main_v441 : Ref sig .tc := ⟨.hbm, 469, rfl⟩
abbrev main_v442 : Ref sig .tc := ⟨.hbm, 470, rfl⟩
abbrev main_v443 : Ref sig .tc := ⟨.hbm, 471, rfl⟩
abbrev main_v444 : Ref sig .tc := ⟨.hbm, 472, rfl⟩
abbrev main_v445 : Ref sig .tc := ⟨.hbm, 473, rfl⟩
abbrev main_v446 : Ref sig .tc := ⟨.hbm, 474, rfl⟩
abbrev main_v447 : Ref sig .tc := ⟨.hbm, 475, rfl⟩
abbrev main_v448 : Ref sig .tc := ⟨.hbm, 476, rfl⟩
abbrev main_v449 : Ref sig .tc := ⟨.hbm, 477, rfl⟩
abbrev main_v450 : Ref sig .tc := ⟨.hbm, 478, rfl⟩
abbrev main_v451 : Ref sig .tc := ⟨.hbm, 479, rfl⟩
abbrev main_v452 : Ref sig .tc := ⟨.hbm, 480, rfl⟩
abbrev main_v453 : Ref sig .tc := ⟨.hbm, 481, rfl⟩
abbrev main_v454 : Ref sig .tc := ⟨.hbm, 482, rfl⟩
abbrev main_v455 : Ref sig .tc := ⟨.hbm, 483, rfl⟩
abbrev main_v456 : Ref sig .tc := ⟨.hbm, 484, rfl⟩
abbrev main_v457 : Ref sig .tc := ⟨.hbm, 485, rfl⟩
abbrev main_v458 : Ref sig .tc := ⟨.hbm, 486, rfl⟩
abbrev main_v459 : Ref sig .tc := ⟨.hbm, 487, rfl⟩
abbrev main_v460 : Ref sig .tc := ⟨.hbm, 488, rfl⟩
abbrev main_v461 : Ref sig .tc := ⟨.hbm, 489, rfl⟩
abbrev main_v462 : Ref sig .tc := ⟨.hbm, 490, rfl⟩
abbrev main_v463 : Ref sig .tc := ⟨.hbm, 491, rfl⟩
abbrev main_v464 : Ref sig .tc := ⟨.hbm, 492, rfl⟩
abbrev main_v465 : Ref sig .tc := ⟨.hbm, 493, rfl⟩
abbrev main_v466 : Ref sig .tc := ⟨.hbm, 494, rfl⟩
abbrev main_v467 : Ref sig .tc := ⟨.hbm, 495, rfl⟩
abbrev main_v468 : Ref sig .tc := ⟨.hbm, 496, rfl⟩
abbrev main_v469 : Ref sig .tc := ⟨.hbm, 497, rfl⟩
abbrev main_v470 : Ref sig .tc := ⟨.hbm, 498, rfl⟩
abbrev main_v471 : Ref sig .tc := ⟨.hbm, 499, rfl⟩
abbrev main_v472 : Ref sig .tc := ⟨.hbm, 500, rfl⟩
abbrev main_v473 : Ref sig .tc := ⟨.hbm, 501, rfl⟩
abbrev main_v474 : Ref sig .tc := ⟨.hbm, 502, rfl⟩
abbrev main_v475 : Ref sig .tc := ⟨.hbm, 503, rfl⟩
abbrev main_v476 : Ref sig .tc := ⟨.hbm, 504, rfl⟩
abbrev main_v477 : Ref sig .tc := ⟨.hbm, 505, rfl⟩
abbrev main_v478 : Ref sig .tc := ⟨.hbm, 506, rfl⟩
abbrev main_v479 : Ref sig .tc := ⟨.hbm, 507, rfl⟩
abbrev main_v480 : Ref sig .tc := ⟨.hbm, 508, rfl⟩
abbrev main_v481 : Ref sig .tc := ⟨.hbm, 509, rfl⟩
abbrev main_v482 : Ref sig .tc := ⟨.hbm, 510, rfl⟩
abbrev main_v483 : Ref sig .tc := ⟨.hbm, 511, rfl⟩
abbrev main_v484 : Ref sig .tc := ⟨.hbm, 512, rfl⟩
abbrev main_v485 : Ref sig .tc := ⟨.hbm, 513, rfl⟩
abbrev main_v486 : Ref sig .tc := ⟨.hbm, 514, rfl⟩
abbrev main_v487 : Ref sig .tc := ⟨.hbm, 515, rfl⟩
abbrev main_v488 : Ref sig .tc := ⟨.hbm, 516, rfl⟩
abbrev main_v489 : Ref sig .tc := ⟨.hbm, 517, rfl⟩
abbrev main_v490 : Ref sig .tc := ⟨.hbm, 518, rfl⟩
abbrev main_v491 : Ref sig .tc := ⟨.hbm, 519, rfl⟩
abbrev main_v492 : Ref sig .tc := ⟨.hbm, 520, rfl⟩
abbrev main_v493 : Ref sig .tc := ⟨.hbm, 521, rfl⟩
abbrev main_v494 : Ref sig .tc := ⟨.hbm, 522, rfl⟩
abbrev main_v495 : Ref sig .tc := ⟨.hbm, 523, rfl⟩
abbrev main_v496 : Ref sig .tc := ⟨.hbm, 524, rfl⟩
abbrev main_cst_11 : Ref sig .tc := ⟨.hbm, 525, rfl⟩
abbrev main_v497 : Ref sig .tc := ⟨.hbm, 526, rfl⟩
abbrev main_v498 : Ref sig .tc := ⟨.hbm, 527, rfl⟩
abbrev main_cst_12 : Ref sig .tc := ⟨.hbm, 528, rfl⟩
abbrev main_v499 : Ref sig .tc := ⟨.hbm, 529, rfl⟩
abbrev main_v500 : Ref sig .tc := ⟨.hbm, 530, rfl⟩
abbrev main_v501 : Ref sig .tc := ⟨.hbm, 531, rfl⟩
abbrev main_v502 : Ref sig .tc := ⟨.hbm, 532, rfl⟩
abbrev main_v503 : Ref sig .tc := ⟨.hbm, 533, rfl⟩
abbrev main_cst_13 : Ref sig .tc := ⟨.hbm, 534, rfl⟩
abbrev main_v504 : Ref sig .tc := ⟨.hbm, 535, rfl⟩
abbrev main_v505 : Ref sig .tc := ⟨.hbm, 536, rfl⟩
abbrev main_cst_14 : Ref sig .tc := ⟨.hbm, 537, rfl⟩
abbrev main_v506 : Ref sig .tc := ⟨.hbm, 538, rfl⟩
abbrev main_v507 : Ref sig .tc := ⟨.hbm, 539, rfl⟩
abbrev main_v508 : Ref sig .tc := ⟨.hbm, 540, rfl⟩
abbrev main_v509 : Ref sig .tc := ⟨.hbm, 541, rfl⟩
abbrev main_cst_15 : Ref sig .tc := ⟨.hbm, 542, rfl⟩
abbrev main_v510 : Ref sig .tc := ⟨.hbm, 543, rfl⟩
abbrev main_v511 : Ref sig .tc := ⟨.hbm, 544, rfl⟩
abbrev main_v512 : Ref sig .tc := ⟨.hbm, 545, rfl⟩
abbrev main_v513 : Ref sig .tc := ⟨.hbm, 546, rfl⟩
abbrev main_v514 : Ref sig .tc := ⟨.hbm, 547, rfl⟩
abbrev main_v515 : Ref sig .tc := ⟨.hbm, 548, rfl⟩
abbrev main_v516 : Ref sig .tc := ⟨.hbm, 549, rfl⟩
abbrev main_v517 : Ref sig .tc := ⟨.hbm, 550, rfl⟩
abbrev main_v518 : Ref sig .tc := ⟨.hbm, 551, rfl⟩
abbrev main_v519 : Ref sig .tc := ⟨.hbm, 552, rfl⟩
abbrev main_v520 : Ref sig .tc := ⟨.hbm, 553, rfl⟩
abbrev main_v521 : Ref sig .tc := ⟨.hbm, 554, rfl⟩
abbrev main_v522 : Ref sig .tc := ⟨.hbm, 555, rfl⟩
abbrev main_call3_v0 : Ref sig .tc := ⟨.hbm, 556, rfl⟩
abbrev main_call3_v1 : Ref sig .tc := ⟨.hbm, 557, rfl⟩
abbrev main_call3_cst : Ref sig .tc := ⟨.hbm, 558, rfl⟩
abbrev main_call3_v2 : Ref sig .tc := ⟨.hbm, 559, rfl⟩
abbrev main_call3_v3 : Ref sig .tc := ⟨.hbm, 560, rfl⟩
abbrev main_call3_cst_0 : Ref sig .tc := ⟨.hbm, 561, rfl⟩
abbrev main_call3_v4 : Ref sig .tc := ⟨.hbm, 562, rfl⟩
abbrev main_call3_v5 : Ref sig .tc := ⟨.hbm, 563, rfl⟩
abbrev main_v523 : Ref sig .tc := ⟨.hbm, 564, rfl⟩
abbrev main_v524 : Ref sig .tc := ⟨.hbm, 565, rfl⟩
abbrev main_v525 : Ref sig .tc := ⟨.hbm, 566, rfl⟩
abbrev main_v526 : Ref sig .tc := ⟨.hbm, 567, rfl⟩

abbrev nD : Nat := 1
abbrev τ : Topo := Topo.v7x

variable {F : FTy → Type} [FloatOps F]
-- ==== Route.lean ====
abbrev S24576x2048 : Shape := ⟨2, ![24576, 2048]⟩
abbrev S1x2048 : Shape := ⟨2, ![1, 2048]⟩
abbrev S1x2048x2048 : Shape := ⟨3, ![1, 2048, 2048]⟩
abbrev S1x8x2x128x128 : Shape := ⟨5, ![1, 8, 2, 128, 128]⟩
abbrev S2048 : Shape := ⟨1, ![2048]⟩
abbrev S2048x2048 : Shape := ⟨2, ![2048, 2048]⟩
abbrev S8x2x128x128 : Shape := ⟨4, ![8, 2, 128, 128]⟩
abbrev S24576x128 : Shape := ⟨2, ![24576, 128]⟩
abbrev S256x2048 : Shape := ⟨2, ![256, 2048]⟩
abbrev S256x128 : Shape := ⟨2, ![256, 128]⟩
abbrev S128x256 : Shape := ⟨2, ![128, 256]⟩
abbrev S56x256 : Shape := ⟨2, ![56, 256]⟩
abbrev S256 : Shape := ⟨1, ![256]⟩
abbrev S256x1 : Shape := ⟨2, ![256, 1]⟩
abbrev S1x1x128x128 : Shape := ⟨4, ![1, 1, 128, 128]⟩
abbrev S128x128 : Shape := ⟨2, ![128, 128]⟩
abbrev S1x256 : Shape := ⟨2, ![1, 256]⟩

abbrev nBuf : Space → Nat
  | .hbm => 13
  | .vmem => 15
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S1x2048x2048, .f32⟩
  | .hbm, ⟨3, _⟩ => ⟨S1x8x2x128x128, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S8x2x128x128, .f32⟩
  | .hbm, ⟨8, _⟩ => ⟨S8x2x128x128, .bf16⟩
  | .hbm, ⟨9, _⟩ => ⟨S1x2048, .f32⟩
  | .hbm, ⟨10, _⟩ => ⟨S24576x2048, .f32⟩
  | .hbm, ⟨11, _⟩ => ⟨S24576x128, .i32⟩
  | .hbm, ⟨12, _⟩ => ⟨S24576x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S8x2x128x128, .bf16⟩
  | .local _ .vmem, ⟨5, _⟩ => ⟨S256x2048, .f32⟩
  | .local _ .vmem, ⟨6, _⟩ => ⟨S256x2048, .f32⟩
  | .local _ .vmem, ⟨7, _⟩ => ⟨S256x128, .i32⟩
  | .local _ .vmem, ⟨8, _⟩ => ⟨S256x128, .i32⟩
  | .local _ .vmem, ⟨9, _⟩ => ⟨S256x128, .f32⟩
  | .local _ .vmem, ⟨10, _⟩ => ⟨S256x128, .f32⟩
  | .local _ .vmem, ⟨11, _⟩ => ⟨S128x256, .f32⟩
  | .local _ .vmem, ⟨12, _⟩ => ⟨S128x256, .f32⟩
  | .local _ .vmem, ⟨13, _⟩ => ⟨S56x256, .f32⟩
  | .local _ .vmem, ⟨14, _⟩ => ⟨S56x256, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouteRefIdeal.lean ====
abbrev S24576x2048 : Shape := ⟨2, ![24576, 2048]⟩
abbrev S1x2048 : Shape := ⟨2, ![1, 2048]⟩
abbrev S1x2048x2048 : Shape := ⟨3, ![1, 2048, 2048]⟩
abbrev S1x8x2x128x128 : Shape := ⟨5, ![1, 8, 2, 128, 128]⟩
abbrev S2048 : Shape := ⟨1, ![2048]⟩
abbrev S_ : Shape := ⟨0, ![]⟩
abbrev S24576 : Shape := ⟨1, ![24576]⟩
abbrev S24576x1 : Shape := ⟨2, ![24576, 1]⟩
abbrev S2048x2048 : Shape := ⟨2, ![2048, 2048]⟩
abbrev S24576x8x2x128 : Shape := ⟨4, ![24576, 8, 2, 128]⟩
abbrev S8x2x128x128 : Shape := ⟨4, ![8, 2, 128, 128]⟩
abbrev S8x2x128x24576 : Shape := ⟨4, ![8, 2, 128, 24576]⟩
abbrev S24576x8x2x16 : Shape := ⟨4, ![24576, 8, 2, 16]⟩
abbrev S24576x8x1x16 : Shape := ⟨4, ![24576, 8, 1, 16]⟩
abbrev S24576x8x16 : Shape := ⟨3, ![24576, 8, 16]⟩
abbrev S24576x8x16x1 : Shape := ⟨4, ![24576, 8, 16, 1]⟩
abbrev S24576x8x16x16 : Shape := ⟨4, ![24576, 8, 16, 16]⟩
abbrev S24576x8x256 : Shape := ⟨3, ![24576, 8, 256]⟩
abbrev S1 : Shape := ⟨1, ![1]⟩
abbrev S1x1x1x1 : Shape := ⟨4, ![1, 1, 1, 1]⟩
abbrev S24576x8 : Shape := ⟨2, ![24576, 8]⟩
abbrev S24576x8x1 : Shape := ⟨3, ![24576, 8, 1]⟩
abbrev S24576x128 : Shape := ⟨2, ![24576, 128]⟩

abbrev nBuf : Space → Nat
  | .hbm => 92
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S1x2048x2048, .f32⟩
  | .hbm, ⟨3, _⟩ => ⟨S1x8x2x128x128, .f32⟩
  | .hbm, ⟨4, _⟩ => ⟨S2048, .f32⟩
  | .hbm, ⟨5, _⟩ => ⟨S24576x2048, .f32⟩
  | .hbm, ⟨6, _⟩ => ⟨S_, .f32⟩
  | .hbm, ⟨7, _⟩ => ⟨S24576, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S_, .f32⟩
  | .hbm, ⟨13, _⟩ => ⟨S24576x1, .f32⟩
  | .hbm, ⟨14, _⟩ => ⟨S24576x1, .f32⟩
  | .hbm, ⟨15, _⟩ => ⟨S24576x1, .f32⟩
  | .hbm, ⟨16, _⟩ => ⟨S24576x2048, .f32⟩
  | .hbm, ⟨17, _⟩ => ⟨S24576x2048, .f32⟩
  | .hbm, ⟨18, _⟩ => ⟨S1x2048, .f32⟩
  | .hbm, ⟨19, _⟩ => ⟨S24576x2048, .f32⟩
  | .hbm, ⟨20, _⟩ => ⟨S24576x2048, .f32⟩
  | .hbm, ⟨21, _⟩ => ⟨S2048x2048, .f32⟩
  | .hbm, ⟨22, _⟩ => ⟨S24576x2048, .f32⟩
  | .hbm, ⟨23, _⟩ => ⟨S24576x8x2x128, .f32⟩
  | .hbm, ⟨24, _⟩ => ⟨S8x2x128x128, .f32⟩
  | .hbm, ⟨25, _⟩ => ⟨S8x2x128x24576, .f32⟩
  | .hbm, ⟨26, _⟩ => ⟨S24576x8x2x128, .f32⟩
  | .hbm, ⟨27, _⟩ => ⟨S24576x8x2x16, .f32⟩
  | .hbm, ⟨28, _⟩ => ⟨S24576x8x2x16, .i32⟩
  | .hbm, ⟨29, _⟩ => ⟨S24576x8x1x16, .f32⟩
  | .hbm, ⟨30, _⟩ => ⟨S24576x8x16, .f32⟩
  | .hbm, ⟨31, _⟩ => ⟨S24576x8x16x1, .f32⟩
  | .hbm, ⟨32, _⟩ => ⟨S24576x8x1x16, .f32⟩
  | .hbm, ⟨33, _⟩ => ⟨S24576x8x16, .f32⟩
  | .hbm, ⟨34, _⟩ => ⟨S24576x8x1x16, .f32⟩
  | .hbm, ⟨35, _⟩ => ⟨S24576x8x16x16, .f32⟩
  | .hbm, ⟨36, _⟩ => ⟨S24576x8x16x16, .f32⟩
  | .hbm, ⟨37, _⟩ => ⟨S24576x8x16x16, .f32⟩
  | .hbm, ⟨38, _⟩ => ⟨S24576x8x256, .f32⟩
  | .hbm, ⟨39, _⟩ => ⟨S24576x8x1x16, .i32⟩
  | .hbm, ⟨40, _⟩ => ⟨S24576x8x16, .i32⟩
  | .hbm, ⟨41, _⟩ => ⟨S24576x8x16x1, .i32⟩
  | .hbm, ⟨42, _⟩ => ⟨S_, .i32⟩
  | .hbm, ⟨43, _⟩ => ⟨S24576x8x16x1, .i32⟩
  | .hbm, ⟨44, _⟩ => ⟨S24576x8x16x1, .i32⟩
  | .hbm, ⟨45, _⟩ => ⟨S24576x8x1x16, .i32⟩
  | .hbm, ⟨46, _⟩ => ⟨S24576x8x16, .i32⟩
  | .hbm, ⟨47, _⟩ => ⟨S24576x8x1x16, .i32⟩
  | .hbm, ⟨48, _⟩ => ⟨S24576x8x16x16, .i32⟩
  | .hbm, ⟨49, _⟩ => ⟨S24576x8x16x16, .i32⟩
  | .hbm, ⟨50, _⟩ => ⟨S24576x8x16x16, .i32⟩
  | .hbm, ⟨51, _⟩ => ⟨S24576x8x256, .i32⟩
  | .hbm, ⟨52, _⟩ => ⟨S24576x8x16, .f32⟩
  | .hbm, ⟨53, _⟩ => ⟨S24576x8x16, .i32⟩
  | .hbm, ⟨54, _⟩ => ⟨S_, .i32⟩
  | .hbm, ⟨55, _⟩ => ⟨S24576x8x16, .i32⟩
  | .hbm, ⟨56, _⟩ => ⟨S24576x8x16, .i1⟩
  | .hbm, ⟨57, _⟩ => ⟨S_, .i32⟩
  | .hbm, ⟨58, _⟩ => ⟨S24576x8x16, .i32⟩
  | .hbm, ⟨59, _⟩ => ⟨S24576x8x16, .i32⟩
  | .hbm, ⟨60, _⟩ => ⟨S24576x8x16, .i32⟩
  | .hbm, ⟨61, _⟩ => ⟨S24576x8x16x1, .i32⟩
  | .hbm, ⟨62, _⟩ => ⟨S1, .i32⟩
  | .hbm, ⟨63, _⟩ => ⟨S_, .i32⟩
  | .hbm, ⟨64, _⟩ => ⟨S24576x8x16x1, .i32⟩
  | .hbm, ⟨65, _⟩ => ⟨S24576x8x16x1, .i1⟩
  | .hbm, ⟨66, _⟩ => ⟨S1x1x1x1, .i32⟩
  | .hbm, ⟨67, _⟩ => ⟨S24576x8x16x1, .i32⟩
  | .hbm, ⟨68, _⟩ => ⟨S24576x8x16x1, .i1⟩
  | .hbm, ⟨69, _⟩ => ⟨S24576x8x16x1, .i1⟩
  | .hbm, ⟨70, _⟩ => ⟨S_, .i1⟩
  | .hbm, ⟨71, _⟩ => ⟨S24576x8x16, .i1⟩
  | .hbm, ⟨72, _⟩ => ⟨S24576x8x16, .i32⟩
  | .hbm, ⟨73, _⟩ => ⟨S_, .i32⟩
  | .hbm, ⟨74, _⟩ => ⟨S24576x8x16, .i32⟩
  | .hbm, ⟨75, _⟩ => ⟨S24576x8x16, .i32⟩
  | .hbm, ⟨76, _⟩ => ⟨S_, .f32⟩
  | .hbm, ⟨77, _⟩ => ⟨S24576x8, .f32⟩
  | .hbm, ⟨78, _⟩ => ⟨S_, .f32⟩
  | .hbm, ⟨79, _⟩ => ⟨S24576x8, .f32⟩
  | .hbm, ⟨80, _⟩ => ⟨S24576x8, .f32⟩
  | .hbm, ⟨81, _⟩ => ⟨S24576x8x1, .f32⟩
  | .hbm, ⟨82, _⟩ => ⟨S24576x8x16, .f32⟩
  | .hbm, ⟨83, _⟩ => ⟨S24576x8x16, .f32⟩
  | .hbm, ⟨84, _⟩ => ⟨S24576x8x16, .f32⟩
  | .hbm, ⟨85, _⟩ => ⟨S_, .f32⟩
  | .hbm, ⟨86, _⟩ => ⟨S24576x8, .f32⟩
  | .hbm, ⟨87, _⟩ => ⟨S24576x8x1, .f32⟩
  | .hbm, ⟨88, _⟩ => ⟨S24576x8x16, .f32⟩
  | .hbm, ⟨89, _⟩ => ⟨S24576x8x16, .f32⟩
  | .hbm, ⟨90, _⟩ => ⟨S24576x128, .i32⟩
  | .hbm, ⟨91, _⟩ => ⟨S24576x128, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_values : Ref sig .tc := ⟨.hbm, 27, rfl⟩
abbrev main_indices : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_values_2 : Ref sig .tc := ⟨.hbm, 52, rfl⟩
abbrev main_indices_3 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_c_1 : Ref sig .tc := ⟨.hbm, 62, rfl⟩
abbrev main_call0_c_2 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_3 : Ref sig .tc := ⟨.hbm, 70, rfl⟩
abbrev main_call0_v12 : Ref sig .tc := ⟨.hbm, 71, rfl⟩
abbrev main_call0_v13 : Ref sig .tc := ⟨.hbm, 72, rfl⟩
abbrev main_call0_c_4 : Ref sig .tc := ⟨.hbm, 73, rfl⟩
abbrev main_call0_v14 : Ref sig .tc := ⟨.hbm, 74, rfl⟩
abbrev main_v42 : Ref sig .tc := ⟨.hbm, 75, rfl⟩
abbrev main_cst_4 : Ref sig .tc := ⟨.hbm, 76, rfl⟩
abbrev main_v43 : Ref sig .tc := ⟨.hbm, 77, rfl⟩
abbrev main_cst_5 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_6 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩

abbrev nD : Nat := 1
abbrev τ : Topo := Topo.v7x

variable {F : FTy → Type} [FloatOps F]
-- ==== Proof.PackValue.lean ====
/-
  The packed expert table, word by word: the word of row `e` and column `d` holds the bf16 rounding of `peer_u[e, d]`
  in its high half and that of `peer_v[e, d]` in its low half. The kernel writes it with `pack_elementwise`, one row of
  256 at a time; the reference widens both roundings to 32 bits, shifts the first and takes the bitwise or.
-/
module

public import proofs.«01_k».proof.Defs
public import proofs.«01_k».proof.Proof.Gen.Pack.Frame
public import proofs.«01_k».proof.Proof.Gen.PackRef.Run
public import Idealize.ShloMosaic.Lib.Pipeline.Value
public import Idealize.ShloMosaic.Lib.ValueLayout
public import Idealize.ShloMosaic.Lib.Quiescent

@[expose] public section

noncomputable section

namespace Cert.PackProof

open Cert.Pack Cert.Pack.Gen Idealize.ShloMosaic Idealize.ShloMosaic.TcCoe Idealize.SL.Sem
open Idealize.ShloMosaic.Pipeline (Dat)

/-- Two 16-bit words side by side are the high one widened and shifted, or'ed with the low one widened. -/
theorem append_eq_or (a b : BitVec 16) :
    (a ++ b : BitVec 32) = IntOp.shli .host (a.setWidth 32) 16#32 ||| b.setWidth 32 := by
  have e : IntOp.shli .host (a.setWidth 32) 16#32 = (a.setWidth 32) <<< 16 := by
    unfold IntOp.shli
    rw [if_pos (by decide)]
    rfl
  rw [e]
  apply BitVec.eq_of_getLsbD_eq
  intro i hi
  simp only [BitVec.getLsbD_append, BitVec.getLsbD_or, BitVec.getLsbD_shiftLeft, BitVec.getLsbD_setWidth]
  by_cases h : i < 16
  · have h2 : i < 32 := by omega
    simp [h, h2]
  · have hb : b.getLsbD i = false := BitVec.getLsbD_of_ge _ _ (by omega)
    have h2 : i - 16 < 32 := by omega
    simp [h, hb, hi, h2]

variable {F : FTy → Type} [BitOps F]
variable (m : (ℓ : Loc nD τ sig) → Buf (Elt F) ℓ) (ρ : Dev nD → PrngReg)

/-- Where a word of the packed table finds its two weights in an expert table. -/
abbrev at3 (i : S16384x1x2048.Idx) : S1x16384x2048.Idx := fun a => match a with
  | ⟨0, _⟩ => ⟨0, Nat.one_pos⟩
  | ⟨1, _⟩ => ⟨(i 0).val, (i 0).isLt⟩
  | ⟨2, _⟩ => ⟨(i 2).val, (i 2).isLt⟩

theorem at3_zero (i : S16384x1x2048.Idx) : (at3 i 0).val = 0 := rfl
theorem at3_one (i : S16384x1x2048.Idx) : (at3 i 1).val = (i 0).val := rfl
theorem at3_two (i : S16384x1x2048.Idx) : (at3 i 2).val = (i 2).val := rfl

/-- The packed table of two expert tables. -/
def packed (u v : Vec F S1x16384x2048 .f32) : Vec F S16384x1x2048 .i32 := fun i =>
  BitOps.toBits (FloatOps.truncf .bf16 (by decide) (u (at3 i))) ++ BitOps.toBits (FloatOps.truncf .bf16 (by decide) (v (at3 i)))

/-- The first table as the region finds it: the argument without its leading unit axis. -/
theorem V_v0 (c : Dev nD) : V m c main_v0 = shapeCast _ (m ((c : Thread nD τ).loc main_arg0)) shapeCasts_S1x16384x2048_S16384x2048 := by
  show StableHlo.after hostOps0 (fun b => m (c, b)) main_v0 = _
  after_results <;> rfl
theorem V_v1 (c : Dev nD) : V m c main_v1 = shapeCast _ (m ((c : Thread nD τ).loc main_arg1)) shapeCasts_S1x16384x2048_S16384x2048 := by
  show StableHlo.after hostOps0 (fun b => m (c, b)) main_v1 = _
  after_results <;> rfl

/-- Reading the table without its leading unit axis. -/
theorem drop_apply (u : Vec F S1x16384x2048 .f32) (k : S16384x2048.Idx) (i : S1x16384x2048.Idx)
    (h0 : (i 0).val = 0) (h1 : (i 1).val = (k 0).val) (h2 : (i 2).val = (k 1).val) :
    shapeCast S16384x2048 u shapeCasts_S1x16384x2048_S16384x2048 k = u i :=
  shapeCast_apply _ _ k i (by rw [Shape.rowMajor_val_two, Shape.rowMajor_val_three, h0, h1, h2]; show (0 * 16384 + (k 0).val) * 2048 + (k 1).val = (k 0).val * 2048 + (k 1).val; omega)

/-- Where a word of a block finds its two weights in the blocks of the two tables. -/
abbrev at2 (y : S256x1x2048.Idx) : S256x2048.Idx := fun a => match a with
  | ⟨0, _⟩ => ⟨(y 0).val, (y 0).isLt⟩
  | ⟨1, _⟩ => ⟨(y 2).val, (y 2).isLt⟩

/-- The packed block of a block of each table. -/
def packedBlock (u v : Vec F S256x2048 .f32) : Vec F S256x1x2048 .i32 := fun y =>
  BitOps.toBits (FloatOps.truncf .bf16 (by decide) (u (at2 y))) ++ BitOps.toBits (FloatOps.truncf .bf16 (by decide) (v (at2 y)))

/-- Row `k` of a block is a slice of it. -/
theorem row_slices (k : ℕ) (hk : k < 256) : Shape.Slices S256x2048 ![k, 0] S1x2048 :=
  ⟨rfl, fun a => match a with
    | ⟨0, _⟩ => by show k + 1 ≤ 256; omega
    | ⟨1, _⟩ => by show 0 + 2048 ≤ 2048; omega⟩

/-- Row `k` of the packed operands, with a unit axis put before its columns, is row `k` of the packed block. -/
theorem row_piece (u v : Vec F S256x2048 .f32) (k : ℕ) (hk : k < 256) (x : S1x1x2048.Idx)
    (y : S256x1x2048.Idx) (h0 : (y 0).val = k + 1 * (x 0).val) (h2 : (y 2).val = 0 + 1 * (x 2).val) :
    shapeCast S1x1x2048 (extractStridedSlice S1x2048 ![k, 0]
      (packElementwise (shapeCast S256x2048 (View.ld v r0_0) shapeCasts_S256x2048_S256x2048) (shapeCast S256x2048 (View.ld u r0_0) shapeCasts_S256x2048_S256x2048)) (row_slices k hk))
      shapeCasts_S1x2048_S1x1x2048 x = packedBlock u v y := by
  have hx0 : (x 0).val < 1 := (x 0).isLt
  have hx1 : (x 1).val < 1 := (x 1).isLt
  have hx2 : (x 2).val < 2048 := (x 2).isLt
  have hz : (![0, 0] : Fin S256x2048.rank → Nat) = fun _ => 0 := by funext a; fin_cases a <;> rfl
  have hl (w : Vec F S256x2048 .f32) : shapeCast S256x2048 (View.ld w r0_0) shapeCasts_S256x2048_S256x2048 = w := by
    rw [View.ld_unit_zero hz]
    exact shapeCast_self w _
  rw [hl u, hl v]
  refine (shapeCast_apply _ _ x (fun a => match a with | ⟨0, _⟩ => ⟨0, Nat.one_pos⟩ | ⟨1, _⟩ => ⟨(x 2).val, hx2⟩ : S1x2048.Idx) ?_).trans ?_
  · rw [Shape.rowMajor_val_two, Shape.rowMajor_val_three]
    show 0 * 2048 + (x 2).val = ((x 0).val * 1 + (x 1).val) * 2048 + (x 2).val
    omega
  refine (extractStridedSlice_apply ![k, 0] _ _ _ (at2 y) (fun a => ?_)).trans rfl
  match a with
  | ⟨0, _⟩ => show (y 0).val = k + 0; omega
  | ⟨1, _⟩ => show (y 2).val = 0 + (x 2).val; omega

set_option maxRecDepth 4000 in
set_option maxHeartbeats 4000000 in
/-- The 256 stored rows make up the packed block. -/
theorem out_eq (u v : Vec F S256x2048 .f32) (y : S256x1x2048.Idx) : out0_2 u v y = packedBlock u v y := by
  dsimp only [out0_2]
  refine View.canon_apply_of_pieces (packedBlock u v) _ ?_ y (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine List.forall_mem_cons.mpr ⟨fun x => row_piece u v _ (by decide) x _ rfl rfl, ?_⟩
  repeat (refine List.forall_mem_cons.mpr ⟨fun x => row_piece u v _ (by decide) x _ rfl rfl, ?_⟩)
  exact fun p hp => absurd hp List.not_mem_nil

/-- The three windows step through their arrays together: block `t` at point `t`. -/
theorem idx_facts : ∀ t : Fin cfg0.N, win0_2.index t (0 : Fin 3) = t.val ∧ win0_2.index t (1 : Fin 3) = 0 ∧ win0_2.index t (2 : Fin 3) = 0
    ∧ win0_0.index t (0 : Fin 2) = t.val ∧ win0_0.index t (1 : Fin 2) = 0 ∧ win0_1.index t (0 : Fin 2) = t.val ∧ win0_1.index t (1 : Fin 2) = 0 :=
  (by decide +kernel : ∀ t : Fin grid0.N, _)

/-- What point `t` writes back is block `t` of the packed table. -/
theorem flushed_eq (c : Dev nD) (t : Fin cfg0.N) :
    (dats m 0 c).flushed 2 t = ((cfg0.win 2).blk t).view.read (Elt F)
      (packed (m ((c : Thread nD τ).loc main_arg0)) (m ((c : Thread nD τ).loc main_arg1))) := by
  show (cfg0.win 2).cut (grid0.coords t) ((dats m 0 c).after 2 t) = _
  rw [after0_2]
  obtain ⟨e0, e1, e2, a0, a1, b0, b1⟩ := idx_facts t
  funext y
  have hy0 : (y 0).val < 256 := (y 0).isLt
  have hy1 : (y 1).val < 1 := (y 1).isLt
  have hy2 : (y 2).val < 2048 := (y 2).isLt
  show out0_2 (iblk m c 0 t) (iblk m c 1 t) y = packed _ _ (((cfg0.win 2).blk t).view.emb y)
  refine (out_eq (iblk m c 0 t) (iblk m c 1 t) y).trans ?_
  unfold packed
  have hb0 : (((cfg0.win 2).blk t).view.emb y 0).val = win0_2.index t (0 : Fin 3) * 256 + 1 * (y 0).val := rfl
  have hb2 : (((cfg0.win 2).blk t).view.emb y 2).val = win0_2.index t (2 : Fin 3) * 2048 + 1 * (y 2).val := rfl
  have hu : iblk m c 0 t (at2 y) = m ((c : Thread nD τ).loc main_arg0) (at3 (((cfg0.win 2).blk t).view.emb y)) := by
    show V m c main_v0 (((cfg0.win 0).blk t).view.emb (at2 y)) = _
    rw [V_v0]
    have h0 : (((cfg0.win 0).blk t).view.emb (at2 y) 0).val = win0_0.index t (0 : Fin 2) * 256 + 1 * (y 0).val := rfl
    have h1 : (((cfg0.win 0).blk t).view.emb (at2 y) 1).val = win0_0.index t (1 : Fin 2) * 2048 + 1 * (y 2).val := rfl
    refine drop_apply _ _ _ (at3_zero _) ?_ ?_
    · rw [h0, at3_one]; omega
    · rw [h1, at3_two]; omega
  have hv : iblk m c 1 t (at2 y) = m ((c : Thread nD τ).loc main_arg1) (at3 (((cfg0.win 2).blk t).view.emb y)) := by
    show V m c main_v1 (((cfg0.win 1).blk t).view.emb (at2 y)) = _
    rw [V_v1]
    have h0 : (((cfg0.win 1).blk t).view.emb (at2 y) 0).val = win0_1.index t (0 : Fin 2) * 256 + 1 * (y 0).val := rfl
    have h1 : (((cfg0.win 1).blk t).view.emb (at2 y) 1).val = win0_1.index t (1 : Fin 2) * 2048 + 1 * (y 2).val := rfl
    refine drop_apply _ _ _ (at3_zero _) ?_ ?_
    · rw [h0, at3_one]; omega
    · rw [h1, at3_two]; omega
  show _ ++ _ = _ ++ _
  rw [← hu, ← hv]

/-- Every word of the packed table is in the block of one point, and every point writes back. -/
theorem cover (i : S16384x1x2048.Idx) : ∃ t : Fin cfg0.N, (cfg0.win 2).flush t = true ∧ i ∈ ((cfg0.win 2).blk t).view.set := by
  have hi0 : (i 0).val < 16384 := (i 0).isLt
  have hi1 : (i 1).val < 1 := (i 1).isLt
  have hi2 : (i 2).val < 2048 := (i 2).isLt
  let t : Fin cfg0.N := ⟨(i 0).val / 256, lt_of_lt_of_eq (by omega : (i 0).val / 256 < 64) N_0.symm⟩
  have hf : ∀ t : Fin cfg0.N, (cfg0.win 2).flush t = true := (by decide +kernel : ∀ t : Fin grid0.N, _)
  obtain ⟨e0, e1, e2, -⟩ := idx_facts t
  refine ⟨t, hf t, ?_⟩
  show i ∈ ((View.whole main_v2).slice (win0_2.rect t)).set
  rw [View.set_slice_whole, Rect.mem_set_unit]
  intro a
  have ht : t.val = (i 0).val / 256 := rfl
  match a with
  | ⟨0, _⟩ => show win0_2.index t (0 : Fin 3) * 256 ≤ (i 0).val ∧ (i 0).val < win0_2.index t (0 : Fin 3) * 256 + 256; omega
  | ⟨1, _⟩ => show win0_2.index t (1 : Fin 3) * 1 ≤ (i 1).val ∧ (i 1).val < win0_2.index t (1 : Fin 3) * 1 + 1; omega
  | ⟨2, _⟩ => show win0_2.index t (2 : Fin 3) * 2048 ≤ (i 2).val ∧ (i 2).val < win0_2.index t (2 : Fin 3) * 2048 + 2048; omega

/-- The array the kernel leaves is the packed table. -/
theorem final (c : Dev nD) : (dats m 0 c).arrAt 2 cfg0.N
    = packed (m ((c : Thread nD τ).loc main_arg0)) (m ((c : Thread nD τ).loc main_arg1)) :=
  (dats m 0 c).arrAt_eq_of_cover 2 _ (fun t _ => flushed_eq m c t) cover

/-- The reference's composed term, word by word, is the packed table. -/
theorem ref_eq (u v : Vec F S1x16384x2048 .f32) :
    (broadcastInDim Cert.PackRef.S16384x1x2048 ![0, 2] Cert.PackRef.Facts₀.bcast_S16384x2048_S16384x1x2048_0_2
      (ori (Host.shli (extui 32 (bitcastToInt (truncf .bf16 (shapeCast _ u shapeCasts_S1x16384x2048_S16384x2048) (by decide))) (by decide))
          (broadcastInDim S16384x2048 ![] Cert.PackRef.Facts₀.bcast_S_S16384x2048 (constantI Cert.PackRef.S_ 32 16#32)))
        (extui 32 (bitcastToInt (truncf .bf16 (shapeCast _ v shapeCasts_S1x16384x2048_S16384x2048) (by decide))) (by decide))) : Vec F S16384x1x2048 .i32)
      = packed u v := by
  funext i
  let k : S16384x2048.Idx := fun a => match a with
    | ⟨0, _⟩ => ⟨(i 0).val, (i 0).isLt⟩
    | ⟨1, _⟩ => ⟨(i 2).val, (i 2).isLt⟩
  refine (broadcastInDim_apply _ _ _ i k ?_).trans ?_
  · intro a
    match a with
    | ⟨0, _⟩ => rfl
    | ⟨1, _⟩ => rfl
  unfold packed
  rw [← drop_apply u k (at3 i) rfl rfl rfl, ← drop_apply v k (at3 i) rfl rfl rfl]
  exact (append_eq_or _ _).symm

end Cert.PackProof

end
-- ==== Proof.PackClaim.lean ====
/-
  The claims about the packed expert table: both programs run and leave their arguments unchanged, and their results
  are equal word by word.
-/
module

public import proofs.«01_k».proof.Proof.PackValue

@[expose] public section

noncomputable section

namespace Cert.PackProof

open Idealize.ShloMosaic Idealize.ShloMosaic.TcCoe Idealize.SL.Sem

theorem frame_kernel : Cert.quiescent_Pack := fun m ρ _ => Cert.Pack.Gen.frame m ρ

theorem frame_ref : Cert.quiescent_PackRef := fun m ρ _ =>
  (θ_run Cert.PackRef.defs _ _).mono (fun r h => ⟨fun c => ⟨(h c).2.1, (h c).2.2⟩,
      Idealize.ShloMosaic.sem_eq_zero_of_no_sems (by decide) r.2⟩)
    (Cert.PackRef.Value.run (F := Bits) m ρ)

theorem bitexact : Cert.bitexact_Pack_PackRef := by
  intro m ρ m' ρ' _ hagree
  refine ⟨fun c => packed (m ((c.tc : Thread _ _).loc Cert.Pack.main_arg0)) (m ((c.tc : Thread _ _).loc Cert.Pack.main_arg1)), ?_, ?_⟩
  · exact (θ_run Cert.Pack.defs _ _).mono (fun r h c => ⟨((h c).1 2).trans (final m c),
      ((h c).2 Cert.Pack.main_arg0 (Pipeline.mem_restRefs_of Cert.Pack.main_arg0 (by decide) (by decide))).trans (Cert.Pack.Gen.V_main_arg0 m c),
      ((h c).2 Cert.Pack.main_arg1 (Pipeline.mem_restRefs_of Cert.Pack.main_arg1 (by decide) (by decide))).trans (Cert.Pack.Gen.V_main_arg1 m c)⟩)
      (Cert.Pack.Gen.run_main (F := Bits) m ρ)
  · refine (θ_run Cert.PackRef.defs _ _).mono (fun r h c => ⟨(h c).1.trans ?_, (h c).2⟩)
      (Cert.PackRef.Value.run (F := Bits) m' ρ')
    rw [(hagree c).1, (hagree c).2]
    exact ref_eq _ _

end Cert.PackProof

end
-- ==== Proof.RowMath.lean ====
/-
  The layer's scalar formulas on the extended reals, one token at a time: the rms normalisation of a row, the logistic
  function and the exact gelu as the kernels write them and as the reference writes them.
-/
module

public import Idealize.ShloMosaic.Lib.Pointwise
public import Idealize.ShloMosaic.Lib.ValueLayout
public import Idealize.ShloMosaic.PureOps.Ideal.Laws

@[expose] public section

noncomputable section

namespace Cert.RowMath

open Idealize.ShloMosaic

/-- The f32 word of 2048, of the `1e-6` under the root, of one, of one half and of `1/√2`. -/
abbrev width : EReal := Ideal.ofBits .f32 0x45000000#32
abbrev eps : EReal := Ideal.ofBits .f32 0x358637BD#32
abbrev one : EReal := Ideal.ofBits .f32 0x3F800000#32
abbrev half : EReal := Ideal.ofBits .f32 0x3F000000#32
abbrev rootHalf : EReal := Ideal.ofBits .f32 0x3F3504F3#32

/-- The entry `k` of a row of 2048 after rms normalisation with gains `g`. -/
def normed (x g : Fin 2048 → EReal) (k : Fin 2048) : EReal :=
  x k * Ideal.rsqrt (Ideal.div (∑ k, x k * x k) width + eps) * g k

/-- The logistic function. -/
def sigmoid (z : EReal) : EReal := Ideal.div one (one + Ideal.exp (-z))

/-- The exact gelu. -/
def gelu (y : EReal) : EReal := half * y * (one + Ideal.erf (y * rootHalf))

/-- The word of one is the number one. -/
theorem one_eq : one = 1 := by
  simp [one, Ideal.ofBits, Ideal.ieee, -EReal.coe_mul]; norm_num

/-- The reference's gelu, written with the complement of the error function. -/
theorem gelu_erfc (y : EReal) : half * y * Ideal.erfc (-y * rootHalf) = gelu y := by
  unfold gelu
  rw [neg_mul, Ideal.erfc_neg, one_eq]

/-- An index of two axes is its two coordinates. -/
theorem eq_pair {n0 n1 : ℕ} (f : (⟨2, ![n0, n1]⟩ : Shape).Idx) (a : Fin n0) (b : Fin n1)
    (h0 : (f 0).val = a.val) (h1 : (f 1).val = b.val) : f = ix2 a b := by
  rw [eq_ix2 f]
  congr 1
  · exact Fin.ext h0
  · exact Fin.ext h1

/-- Rounding to bf16 changes no ideal value, and dropping a leading unit axis reads the same entry. -/
theorem cast_drop {n0 n1 : ℕ} (v : FVec Ideal ⟨3, ![1, n0, n1]⟩ .f32)
    (h : (⟨3, ![1, n0, n1]⟩ : Shape).ShapeCasts ⟨2, ![n0, n1]⟩) (hb : FTy.bits .bf16 < FTy.bits .f32) (a : Fin n0) (b : Fin n1) :
    truncf .bf16 (shapeCast ⟨2, ![n0, n1]⟩ v h) hb (ix2 a b) = v (ix3 0 a b) := by
  show shapeCast ⟨2, ![n0, n1]⟩ v h (ix2 a b) = _
  refine shapeCast_apply _ _ _ _ ?_
  rw [Shape.rowMajor_val_two, Shape.rowMajor_val_three]
  show ((0 : ℕ) * n0 + a.val) * n1 + b.val = a.val * n1 + b.val
  rw [zero_mul, zero_add]

end Cert.RowMath

end
-- ==== Proof.PleBlock.lean ====
/-
  The end of the layer, one entry at a time: the formula, and what the kernel's block of 256 tokens holds.
-/
module

public import proofs.«01_k».proof.Proof.RowMath
public import proofs.«01_k».proof.Proof.Gen.PleIdeal.Skeleton

@[expose] public section

set_option maxRecDepth 16384

noncomputable section

namespace Cert.PleProof

open Cert.PleIdeal Cert.PleIdeal.Gen Idealize.ShloMosaic Idealize.ShloMosaic.TcCoe Cert.RowMath

/-- Entry `j` of a token `x` after its per-layer embedding `p`, gated by the normalised token. -/
def embedded (x : Fin 2048 → EReal) (p : Fin 256 → EReal) (g : Fin 2048 → EReal) (wg : Fin 2048 → Fin 2048 → EReal)
    (bg : Fin 2048 → EReal) (wp : Fin 256 → Fin 2048 → EReal) (j : Fin 2048) : EReal :=
  x j + (∑ l, p l * wp l j) * sigmoid ((∑ k, normed x g k * wg k j) + bg j)

/-- Entry `j` of a token at the end of the layer: the embedded token, normalised with the last gains. -/
def ended (x : Fin 2048 → EReal) (p : Fin 256 → EReal) (g : Fin 2048 → EReal) (wg : Fin 2048 → Fin 2048 → EReal)
    (bg : Fin 2048 → EReal) (wp : Fin 256 → Fin 2048 → EReal) (gf : Fin 2048 → EReal) (j : Fin 2048) : EReal :=
  normed (embedded x p g wg bg wp) gf j

set_option maxHeartbeats 1000000 in
theorem embed_eq (x : Vec Ideal S256x2048 .f32) (g : Vec Ideal S1x2048 .f32) (wg : Vec Ideal S2048x2048 .bf16)
    (bg : Vec Ideal S1x2048 .f32) (p : Vec Ideal S256x256 .f32) (wp : Vec Ideal S256x2048 .bf16) (r : Fin 256) (j : Fin 2048) :
    k0_pay2 x g wg bg p wp (ix2 r j)
      = embedded (fun k => x (ix2 r k)) (fun l => p (ix2 r l)) (fun k => g (ix2 0 k)) (fun k l => wg (ix2 k l))
          (fun k => bg (ix2 0 k)) (fun l k => wp (ix2 l k)) j := by
  pointwise [k0_pay2, embedded, sigmoid, normed]
  simp only [sub_eq_add_neg, zero_add]

set_option maxHeartbeats 1000000 in
theorem norm_eq (z : FVec Ideal S256x2048 .f32) (gf : Vec Ideal S1x2048 .f32) (r : Fin 256) (j : Fin 2048) :
    k0_pay1 z gf (ix2 r j) = normed (fun k => z (ix2 r k)) (fun k => gf (ix2 0 k)) j := by
  pointwise [k0_pay1, normed]

/-- The kernel's block. -/
theorem pay_eq (x : Vec Ideal S256x2048 .f32) (g : Vec Ideal S1x2048 .f32) (wg : Vec Ideal S2048x2048 .bf16)
    (bg : Vec Ideal S1x2048 .f32) (p : Vec Ideal S256x256 .f32) (wp : Vec Ideal S256x2048 .bf16) (gf : Vec Ideal S1x2048 .f32)
    (r : Fin 256) (j : Fin 2048) :
    k0_pay1 (k0_pay2 x g wg bg p wp) gf (ix2 r j)
      = ended (fun k => x (ix2 r k)) (fun l => p (ix2 r l)) (fun k => g (ix2 0 k)) (fun k l => wg (ix2 k l))
          (fun k => bg (ix2 0 k)) (fun l k => wp (ix2 l k)) (fun k => gf (ix2 0 k)) j := by
  rw [norm_eq]
  unfold ended
  simp only [embed_eq]

end Cert.PleProof

end
-- ==== Proof.PleRef.lean ====
/-
  The end of the layer as the reference writes it, one entry at a time, for each of the two results.
-/
module

public import proofs.«01_k».proof.Proof.PleBlock
public import proofs.«01_k».proof.Proof.Gen.PleRefIdeal

@[expose] public section

set_option maxRecDepth 16384

noncomputable section

namespace Cert.PleProof

open Cert.PleRefIdeal Cert.PleRefIdeal.Gen Idealize.ShloMosaic Idealize.ShloMosaic.TcCoe Cert.RowMath

/-! ## The first result, 16384 tokens -/

/-- The tokens after the per-layer embedding, as the reference composes them. -/
def refFirstSum (x : FVec Ideal S16384x2048 .f32) (p : FVec Ideal S16384x256 .f32) (g : FVec Ideal S1x2048 .f32) (wp : FVec Ideal S1x256x2048 .f32)
    (wg : FVec Ideal S1x2048x2048 .f32) (bg : FVec Ideal S1x2048 .f32) : FVec Ideal S16384x2048 .f32 :=
  addf x (mulf (Host.dotGeneral dot_S16384x256_S256x2048_S16384x2048_1_0_0_1_n_n none p (shapeCast _ wp shapeCasts_S1x256x2048_S256x2048)) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (addf (Host.dotGeneral dot_S16384x2048_S2048x2048_S16384x2048_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ g shapeCasts_S1x2048_S2048)))) (shapeCast _ wg shapeCasts_S1x2048x2048_S2048x2048)) (broadcastInDim S16384x2048 ![0, 1] bcast_S1x2048_S16384x2048_0_1 (broadcastInDim S1x2048 ![1] bcast_S2048_S1x2048_1 (shapeCast _ bg shapeCasts_S1x2048_S2048)))))))))

/-- Their normalisation, as the reference composes it. -/
def refFirstNorm (z : FVec Ideal S16384x2048 .f32) (gf : FVec Ideal S2048 .f32) : FVec Ideal S16384x2048 .f32 :=
  mulf (mulf z (broadcastInDim S16384x2048 ![0, 1] bcast_S16384x1_S16384x2048_0_1 (Host.rsqrt (addf (Host.divf (broadcastInDim S16384x1 ![0] bcast_S16384_S16384x1_0 (Host.reduceAdd (mulf z z) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 gf))

set_option maxHeartbeats 1000000 in
theorem refFirstSum_eq (x : FVec Ideal S16384x2048 .f32) (p : FVec Ideal S16384x256 .f32) (g : FVec Ideal S1x2048 .f32) (wp : FVec Ideal S1x256x2048 .f32)
    (wg : FVec Ideal S1x2048x2048 .f32) (bg : FVec Ideal S1x2048 .f32) (r : Fin 16384) (j : Fin 2048) :
    refFirstSum x p g wp wg bg (ix2 r j)
      = embedded (fun k => x (ix2 r k)) (fun l => p (ix2 r l)) (fun k => g (ix2 0 k)) (fun k l => wg (ix3 0 k l))
          (fun k => bg (ix2 0 k)) (fun l k => wp (ix3 0 l k)) j := by
  pointwise [refFirstSum, embedded, sigmoid, normed]

set_option maxHeartbeats 1000000 in
theorem refFirstNorm_eq (z : FVec Ideal S16384x2048 .f32) (gf : FVec Ideal S2048 .f32) (r : Fin 16384) (j : Fin 2048) :
    refFirstNorm z gf (ix2 r j) = normed (fun k => z (ix2 r k)) (fun k => gf (ix1 k)) j := by
  pointwise [refFirstNorm, normed]

/-- The first result, one entry at a time. -/
theorem refFirst_eq (x : FVec Ideal S16384x2048 .f32) (p : FVec Ideal S16384x256 .f32) (g : FVec Ideal S1x2048 .f32) (wp : FVec Ideal S1x256x2048 .f32)
    (wg : FVec Ideal S1x2048x2048 .f32) (bg : FVec Ideal S1x2048 .f32) (gf : FVec Ideal S2048 .f32) (r : Fin 16384) (j : Fin 2048) :
    refFirstNorm (refFirstSum x p g wp wg bg) gf (ix2 r j)
      = ended (fun k => x (ix2 r k)) (fun l => p (ix2 r l)) (fun k => g (ix2 0 k)) (fun k l => wg (ix3 0 k l))
          (fun k => bg (ix2 0 k)) (fun l k => wp (ix3 0 l k)) (fun k => gf (ix1 k)) j := by
  rw [refFirstNorm_eq]
  unfold ended
  simp only [refFirstSum_eq]

/-! ## The second result, 8192 tokens -/

/-- The tokens after the per-layer embedding, as the reference composes them. -/
def refSecondSum (x : FVec Ideal S8192x2048 .f32) (p : FVec Ideal S8192x256 .f32) (g : FVec Ideal S1x2048 .f32) (wp : FVec Ideal S1x256x2048 .f32)
    (wg : FVec Ideal S1x2048x2048 .f32) (bg : FVec Ideal S1x2048 .f32) : FVec Ideal S8192x2048 .f32 :=
  addf x (mulf (Host.dotGeneral dot_S8192x256_S256x2048_S8192x2048_1_0_0_1_n_n none p (shapeCast _ wp shapeCasts_S1x256x2048_S256x2048)) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (Host.dotGeneral dot_S8192x2048_S2048x2048_S8192x2048_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ g shapeCasts_S1x2048_S2048)))) (shapeCast _ wg shapeCasts_S1x2048x2048_S2048x2048)) (broadcastInDim S8192x2048 ![0, 1] bcast_S1x2048_S8192x2048_0_1 (broadcastInDim S1x2048 ![1] bcast_S2048_S1x2048_1 (shapeCast _ bg shapeCasts_S1x2048_S2048)))))))))

/-- Their normalisation, as the reference composes it. -/
def refSecondNorm (z : FVec Ideal S8192x2048 .f32) (gf : FVec Ideal S2048 .f32) : FVec Ideal S8192x2048 .f32 :=
  mulf (mulf z (broadcastInDim S8192x2048 ![0, 1] bcast_S8192x1_S8192x2048_0_1 (Host.rsqrt (addf (Host.divf (broadcastInDim S8192x1 ![0] bcast_S8192_S8192x1_0 (Host.reduceAdd (mulf z z) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 gf))

set_option maxHeartbeats 1000000 in
theorem refSecondSum_eq (x : FVec Ideal S8192x2048 .f32) (p : FVec Ideal S8192x256 .f32) (g : FVec Ideal S1x2048 .f32) (wp : FVec Ideal S1x256x2048 .f32)
    (wg : FVec Ideal S1x2048x2048 .f32) (bg : FVec Ideal S1x2048 .f32) (r : Fin 8192) (j : Fin 2048) :
    refSecondSum x p g wp wg bg (ix2 r j)
      = embedded (fun k => x (ix2 r k)) (fun l => p (ix2 r l)) (fun k => g (ix2 0 k)) (fun k l => wg (ix3 0 k l))
          (fun k => bg (ix2 0 k)) (fun l k => wp (ix3 0 l k)) j := by
  pointwise [refSecondSum, embedded, sigmoid, normed]

set_option maxHeartbeats 1000000 in
theorem refSecondNorm_eq (z : FVec Ideal S8192x2048 .f32) (gf : FVec Ideal S2048 .f32) (r : Fin 8192) (j : Fin 2048) :
    refSecondNorm z gf (ix2 r j) = normed (fun k => z (ix2 r k)) (fun k => gf (ix1 k)) j := by
  pointwise [refSecondNorm, normed]

/-- The second result, one entry at a time. -/
theorem refSecond_eq (x : FVec Ideal S8192x2048 .f32) (p : FVec Ideal S8192x256 .f32) (g : FVec Ideal S1x2048 .f32) (wp : FVec Ideal S1x256x2048 .f32)
    (wg : FVec Ideal S1x2048x2048 .f32) (bg : FVec Ideal S1x2048 .f32) (gf : FVec Ideal S2048 .f32) (r : Fin 8192) (j : Fin 2048) :
    refSecondNorm (refSecondSum x p g wp wg bg) gf (ix2 r j)
      = ended (fun k => x (ix2 r k)) (fun l => p (ix2 r l)) (fun k => g (ix2 0 k)) (fun k l => wg (ix3 0 k l))
          (fun k => bg (ix2 0 k)) (fun l k => wp (ix3 0 l k)) (fun k => gf (ix1 k)) j := by
  rw [refSecondNorm_eq]
  unfold ended
  simp only [refSecondSum_eq]

end Cert.PleProof

end
-- ==== Proof.PleRun.lean ====
/-
  The last call of the layer, run: a point below 64 stores its 256 rows in the first result's window and leaves the
  second's as it found it, a point from 64 on the other way round. The first result's last block, stored at point 63,
  waits in its buffer until the last point writes it back.
-/
module

public import proofs.«01_k».proof.Proof.Gen.PleIdeal.Frame
public import proofs.«01_k».proof.Proof.Gen.PleIdeal.Skeleton
public import Idealize.ShloMosaic.Lib.Claim

@[expose] public section

set_option maxRecDepth 16384

noncomputable section

namespace Cert.PleProof

open Cert.PleIdeal Cert.PleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point stores -/

/-- The whole of each block, as the body loads and stores it. -/
abbrev rRows : Rect S256x2048 := Rect.unit (s := S256x2048) ![0, 0] S256x2048.size inb_S256x2048_S256x2048_0_0
abbrev rPer : Rect S256x256 := Rect.unit (s := S256x256) ![0, 0] S256x256.size inb_S256x256_S256x256_0_0
abbrev rLine : Rect S1x2048 := Rect.unit (s := S1x2048) ![0, 0] S1x2048.size inb_S1x2048_S1x2048_0_0
abbrev rGate : Rect S2048x2048 := Rect.unit (s := S2048x2048) ![0, 0] S2048x2048.size inb_S2048x2048_S2048x2048_0_0

/-- The rows a point stores, from its input blocks. -/
def rows (x0 : Vec F S256x2048 .f32) (x1 : Vec F S256x256 .f32) (x2 : Vec F S1x2048 .f32) (x3 : Vec F S2048x2048 .bf16) (x4 : Vec F S1x2048 .f32) (x5 : Vec F S256x2048 .bf16) (x6 : Vec F S1x2048 .f32) : Vec F S256x2048 .f32 :=
  View.canon [⟨rRows, k0_pay1 (k0_pay2 (View.ld x0 rRows) (View.ld x2 rLine) (View.ld x3 rGate) (View.ld x4 rLine) (View.ld x1 rPer) (View.ld x5 rRows)) (View.ld x6 rLine)⟩]

theorem cover_rows (p : Vec F S256x2048 .f32) (y : S256x2048.Idx) :
    ∃ pc ∈ ([⟨rRows, p⟩] : List (View.Piece (Elt F) S256x2048 .f32)), y ∈ pc.1.set :=
  View.cover_of_tiled [⟨rRows, p⟩] S256x2048.size (by rfl) y

/-! ## The body's two runs -/

set_option maxHeartbeats 1000000 in
/-- A point of the first result: its rows are stored in that window, the other is left. -/
theorem run_first (c : Dev nD) (E : Set ℕ) (i : grid0.Coords) (arg1 : Memref sig .tc .vmem S256x2048 .f32) (harg1 : arg1.IsWhole) (arg2 : Memref sig .tc .vmem S256x256 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .f32) (harg9 : arg9.IsWhole)
    (h1 : k0_cond1 i = 1#1) (h2 : ¬k0_cond2 i = 1#1)
    (x0 : Vec F S256x2048 .f32) (x1 : Vec F S256x256 .f32) (x2 : Vec F S1x2048 .f32) (x3 : Vec F S2048x2048 .bf16) (x4 : Vec F S1x2048 .f32) (x5 : Vec F S256x2048 .bf16) (x6 : Vec F S1x2048 .f32) (d : Vec F S256x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d', owns (c : Thread nD τ) arg8 fullShare d') ∗ owns (c : Thread nD τ) arg9 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (rows x0 x1 x2 x3 x4 x5 x6) ∗ owns (c : Thread nD τ) arg9 fullShare d) -∗ K ⟨⟩))
      ⊢ wp frame (wpE (defs₀ (F := F)) Variants.none c none) E (cc0_ple_final i arg1 harg1 arg2 harg2 arg3 harg3 arg4 harg4 arg5 harg5 arg6 harg6 arg7 harg7 arg8 harg8 arg9 harg9) K := by
  simp only [cc0_ple_final_eq_skeleton]; unfold cc0_ple_final_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e, %f7, -, H7⟩, ⟨%f8, %hf8, H8⟩, Hk⟩
  subst hf0 hf1 hf2 hf3 hf4 hf5 hf6
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  iexists f8; isplitr; · ipureintro; exact hf8
  iexact H8

set_option maxHeartbeats 1000000 in
/-- A point of the second result: its rows are stored in that window, the other is left. -/
theorem run_second (c : Dev nD) (E : Set ℕ) (i : grid0.Coords) (arg1 : Memref sig .tc .vmem S256x2048 .f32) (harg1 : arg1.IsWhole) (arg2 : Memref sig .tc .vmem S256x256 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .f32) (harg9 : arg9.IsWhole)
    (h1 : ¬k0_cond1 i = 1#1) (h2 : k0_cond2 i = 1#1)
    (x0 : Vec F S256x2048 .f32) (x1 : Vec F S256x256 .f32) (x2 : Vec F S1x2048 .f32) (x3 : Vec F S2048x2048 .bf16) (x4 : Vec F S1x2048 .f32) (x5 : Vec F S256x2048 .bf16) (x6 : Vec F S1x2048 .f32) (d : Vec F S256x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d', owns (c : Thread nD τ) arg9 fullShare d') ∗ owns (c : Thread nD τ) arg8 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare (rows x0 x1 x2 x3 x4 x5 x6) ∗ owns (c : Thread nD τ) arg8 fullShare d) -∗ K ⟨⟩))
      ⊢ wp frame (wpE (defs₀ (F := F)) Variants.none c none) E (cc0_ple_final i arg1 harg1 arg2 harg2 arg3 harg3 arg4 harg4 arg5 harg5 arg6 harg6 arg7 harg7 arg8 harg8 arg9 harg9) K := by
  simp only [cc0_ple_final_eq_skeleton]; unfold cc0_ple_final_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e, %f8, -, H8⟩, ⟨%f7, %hf7, H7⟩, Hk⟩
  subst hf0 hf1 hf2 hf3 hf4 hf5 hf6
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists _; isplitr
    swap; · iexact H8
    ipureintro
    exact View.read_writes_eq_canon _ _ _ (cover_rows _)
  iexists f7; isplitr; · ipureintro; exact hf7
  iexact H7

/-! ## Which points store what -/

theorem points : ∀ t : Fin cfg0.N, (k0_cond1 (grid0.coords t) = 1#1 ↔ t.val < 64) ∧ (k0_cond2 (grid0.coords t) = 1#1 ↔ 64 ≤ t.val) :=
  (by decide +kernel : ∀ t : Fin grid0.N, _)
theorem idle7 : ∀ t : Fin cfg0.N, cfg0.idle 7 (cfg0.grid.coords t) = decide (64 ≤ t.val) :=
  (by decide +kernel : ∀ t : Fin grid0.N, idle0 7 (grid0.coords t) = decide (64 ≤ t.val))
theorem idle8 : ∀ t : Fin cfg0.N, cfg0.idle 8 (cfg0.grid.coords t) = decide (t.val < 64) :=
  (by decide +kernel : ∀ t : Fin grid0.N, idle0 8 (grid0.coords t) = decide (t.val < 64))
theorem flush7 : ∀ t : Fin cfg0.N, (cfg0.win 7).flush t = decide (t.val < 63 ∨ t.val = 95) :=
  (by decide +kernel : ∀ t : Fin grid0.N, win0_7.flush t = decide (t.val < 63 ∨ t.val = 95))
theorem flush8 : ∀ t : Fin cfg0.N, (cfg0.win 8).flush t = decide (64 ≤ t.val) :=
  (by decide +kernel : ∀ t : Fin grid0.N, win0_8.flush t = decide (64 ≤ t.val))

/-! ## The proof data -/

/-- The rows of point `t`. -/
def rowsAt (c : Dev nD) (t : Fin cfg0.N) : Vec F S256x2048 .f32 := rows (iblk m c 0 t) (iblk m c 1 t) (iblk m c 2 t) (iblk m c 3 t) (iblk m c 4 t) (iblk m c 5 t) (iblk m c 6 t)

/-- The point whose rows the first result's buffer holds at `t`: `t` itself, or 63 after it. -/
def held (t : Fin cfg0.N) : Fin cfg0.N := ⟨min t.val 63, lt_of_le_of_lt (min_le_left _ _) t.isLt⟩

/-- The arrays as the region finds them; after a point the inputs' buffers at their blocks, the first result's at the rows
    of the last point below 64, the second's at the point's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rowsAt m c (held t)
    | ⟨8, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = rowsAt m c (held t) := by dsimp only [dats]
theorem after0_8 (c : Dev nD) (t : Fin cfg0.N) : (dats m 0 c).after 8 t = rowsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- From point 64 on the first result's buffer holds the rows of point 63. -/
theorem before0_7 (c : Dev nD) (d) : ∀ (n : ℕ) (hn : n < cfg0.N), 64 ≤ n → (dats m 0 c).before 7 ⟨n, hn⟩ d = rowsAt m c (held ⟨n, hn⟩)
  | n + 1, hn, h => by
    have hN : n + 1 < 96 := lt_of_lt_of_eq hn N_0
    have hp : n < cfg0.N := Nat.lt_of_succ_lt hn
    have hh : held ⟨n + 1, hn⟩ = held ⟨n, hp⟩ := Fin.ext (show min (n + 1) 63 = min n 63 by omega)
    rw [Dat.before_of_pos (dats m 0 c) 7 ⟨n + 1, hn⟩ (Nat.succ_ne_zero n) rfl]
    show (if (cfg0.win 7).flush ⟨n, hp⟩ = true then d else (dats m 0 c).left 7 ⟨n, hp⟩ d) = _
    have hfl : (cfg0.win 7).flush ⟨n, hp⟩ = false := by
      rw [flush7]; exact decide_eq_false (by show ¬(n < 63 ∨ n = 95); omega)
    rw [hfl, if_neg Bool.false_ne_true, hh]
    unfold Dat.left
    by_cases h' : 64 ≤ n
    · rw [(idle7 ⟨n, hp⟩).trans (decide_eq_true h')]
      exact before0_7 c d n hp h'
    · rw [(idle7 ⟨n, hp⟩).trans (decide_eq_false h')]
      exact (show (dats m 0 c).kept 7 ⟨n, hp⟩ d = (dats m 0 c).after 7 ⟨n, hp⟩ from rfl).trans (after0_7 m c ⟨n, hp⟩)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t ∗ (dats m 0 c).leavesExact 8 t)

/-- The first result's window after a point below 64, -/
theorem leaves7_first (c : Dev nD) (t : Fin cfg0.N) (h : t.val < 64) :
    (dats m 0 c).leavesExact 7 t = owns (c : Thread nD τ) (st0_7 t) fullShare (rowsAt m c t) := by
  unfold Dat.leavesExact
  rw [(idle7 t).trans (decide_eq_false (by omega)), after0_7, show held t = t from Fin.ext (show min t.val 63 = t.val by omega)]
/-- and from 64 on: what it held, the rows of point 63. -/
theorem leaves7_second (c : Dev nD) (t : Fin cfg0.N) (h : 64 ≤ t.val) :
    owns (c : Thread nD τ) (st0_7 t) fullShare (rowsAt m c (held t)) ⊢ (dats m 0 c).leavesExact 7 t := by
  unfold Dat.leavesExact
  rw [(idle7 t).trans (decide_eq_true h), after0_7]
  cases (cfg0.win 7).flush t
  · iintro H
    iexists (rowsAt m c (held t))
    rw [before0_7 m c _ t.val t.isLt h]
    iexact H
  · exact .rfl
/-- The second result's window, unstored and not written back below 64, -/
theorem leaves8_first (c : Dev nD) (t : Fin cfg0.N) (h : t.val < 64) :
    (dats m 0 c).leavesExact 8 t = iprop(∃ d, owns (c : Thread nD τ) (st0_8 t) fullShare ((dats m 0 c).before 8 t d)) := by
  unfold Dat.leavesExact
  rw [(idle8 t).trans (decide_eq_true h), (flush8 t).trans (decide_eq_false (by omega))]
/-- and stored from 64 on. -/
theorem leaves8_second (c : Dev nD) (t : Fin cfg0.N) (h : 64 ≤ t.val) :
    (dats m 0 c).leavesExact 8 t = owns (c : Thread nD τ) (st0_8 t) fullShare (rowsAt m c t) := by
  unfold Dat.leavesExact
  rw [(idle8 t).trans (decide_eq_false (by omega)), after0_8]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h : t.val < 64
  · rw [leaves7_first m c t h, leaves8_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c Set.univ (grid0.coords t) _ _ _ _ _ _ _ _ _ _ _ _ _ _ _ _ _ _ ((points t).1.mpr h)
      (fun h' => absurd ((points t).2.mp h') (by omega)) (iblk m c 0 t) (iblk m c 1 t) (iblk m c 2 t) (iblk m c 3 t) (iblk m c 4 t) (iblk m c 5 t) (iblk m c 6 t) ((dats m 0 c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  · have h := Nat.not_lt.mp h
    rw [leaves8_second m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_second c Set.univ (grid0.coords t) _ _ _ _ _ _ _ _ _ _ _ _ _ _ _ _ _ _
      (fun h' => absurd ((points t).1.mp h') (by omega)) ((points t).2.mpr h) (iblk m c 0 t) (iblk m c 1 t) (iblk m c 2 t) (iblk m c 3 t) (iblk m c 4 t) (iblk m c 5 t) (iblk m c 6 t) (rowsAt m c (held t)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexists _; iexact H8
    isplitl [H7]; · rw [before0_7 m c d7 t.val t.isLt h]; iexact H7
    iintro ⟨H0, H1, H2, H3, H4, H5, H6, H8, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves7_second m c t h); iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run : θ_run defs (onTc (τ := τ) (main (F := F))) (s₀ m ρ) (Pipeline.FramePost cfgs (dats m) 0 (V m)) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run m ρ)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_quiescent m ρ))

/-- The two results, named, with the arguments unchanged. -/
theorem run_results : θ_run defs (onTc (τ := τ) (main (F := F))) ⟨m, fun _ => 0, ρ⟩ (fun r => ∀ c : Dev nD,
      r.2.mem ((c.tc : Thread nD τ).loc main_v14_0) = (dats m 0 c).arrAt 7 cfg0.N
      ∧ r.2.mem ((c.tc : Thread nD τ).loc main_v14_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1 c).1 7, (h.1 c).1 8, h.2 c⟩) (θ_run_and (run m ρ) (unchanged m ρ))

end Cert.PleProof

end
-- ==== Proof.PleValue.lean ====
/-
  The end of the layer: each point that writes back puts down 256 tokens of what the reference computes, and the blocks
  cover both results.
-/
module

public import proofs.«01_k».proof.Proof.PleRef
public import proofs.«01_k».proof.Proof.PleRun
public import Idealize.ShloMosaic.Lib.ValueLayout

@[expose] public section

set_option maxRecDepth 16384

noncomputable section

namespace Cert.PleProof

open Cert.PleIdeal Cert.PleIdeal.Gen Idealize.ShloMosaic Idealize.ShloMosaic.TcCoe Idealize.SL.Sem Cert.RowMath
open Idealize.ShloMosaic.Pipeline (Dat)

variable (m : (ℓ : Loc nD τ sig) → Buf (Elt Ideal) ℓ)

/-! ## What the region finds in the arrays the host prepared -/

/-- The per-layer embeddings of the prompt's tokens and of the sample's, a row a token. -/
abbrev per1 (c : Dev nD) : FVec Ideal S16384x256 .f32 := shapeCast _ (shapeCast S4x4096x256 (m ((c : Thread nD τ).loc main_arg1)) shapeCasts_S1x4x4096x256_S4x4096x256) shapeCasts_S4x4096x256_S16384x256
abbrev per2 (c : Dev nD) : FVec Ideal S8192x256 .f32 := shapeCast _ (shapeCast S4x2048x256 (m ((c : Thread nD τ).loc main_arg2)) shapeCasts_S1x4x2048x256_S4x2048x256) shapeCasts_S4x2048x256_S8192x256

theorem V_v4 (c : Dev nD) : V m c main_v4 = concatenate (α := EReal) S24576x256 0 [⟨S16384x256, per1 m c⟩, ⟨S8192x256, per2 m c⟩] concatenates_S16384x256_S8192x256_S24576x256_d0 := by
  show StableHlo.after hostOps0 (fun b => m (c, b)) main_v4 = _
  after_results <;> rfl
theorem V_v11 (c : Dev nD) : V m c main_v11 = shapeCast _ (shapeCast S2048 (m ((c : Thread nD τ).loc main_arg3)) shapeCasts_S1x2048_S2048) shapeCasts_S2048_S1x2048 := by
  show StableHlo.after hostOps0 (fun b => m (c, b)) main_v11 = _
  after_results <;> rfl
theorem V_v12 (c : Dev nD) : V m c main_v12 = shapeCast _ (shapeCast S2048 (m ((c : Thread nD τ).loc main_arg6)) shapeCasts_S1x2048_S2048) shapeCasts_S2048_S1x2048 := by
  show StableHlo.after hostOps0 (fun b => m (c, b)) main_v12 = _
  after_results <;> rfl
theorem V_v7 (c : Dev nD) : V m c main_v7 = truncf (F := Ideal) .bf16 (shapeCast _ (m ((c : Thread nD τ).loc main_arg5)) shapeCasts_S1x2048x2048_S2048x2048) bitsLt_bf16_f32 := by
  show StableHlo.after hostOps0 (fun b => m (c, b)) main_v7 = _
  after_results <;> rfl
theorem V_v10 (c : Dev nD) : V m c main_v10 = truncf (F := Ideal) .bf16 (shapeCast _ (m ((c : Thread nD τ).loc main_arg4)) shapeCasts_S1x256x2048_S256x2048) bitsLt_bf16_f32 := by
  show StableHlo.after hostOps0 (fun b => m (c, b)) main_v10 = _
  after_results <;> rfl
theorem V_v13 (c : Dev nD) : V m c main_v13 = shapeCast _ (m ((c : Thread nD τ).loc main_arg7)) shapeCasts_S2048_S1x2048 := by
  show StableHlo.after hostOps0 (fun b => m (c, b)) main_v13 = _
  after_results <;> rfl

/-- Two arrays put one below the other, read at a row. -/
def stacked (a : FVec Ideal S16384x256 .f32) (b : FVec Ideal S8192x256 .f32) (r : Fin 24576) (k : Fin 256) : EReal :=
  if h : r.val < 16384 then a (ix2 ⟨r.val, h⟩ k) else b (ix2 ⟨r.val - 16384, by omega⟩ k)

theorem concat_eq (a : FVec Ideal S16384x256 .f32) (b : FVec Ideal S8192x256 .f32) (r : Fin 24576) (k : Fin 256) :
    concatenate (α := EReal) S24576x256 0 [⟨S16384x256, a⟩, ⟨S8192x256, b⟩] concatenates_S16384x256_S8192x256_S24576x256_d0 (ix2 r k) = stacked a b r k := by
  pointwise [stacked]

abbrev per (c : Dev nD) (r : Fin 24576) (k : Fin 256) : EReal := stacked (per1 m c) (per2 m c) r k

/-! ## The blocks at point `t` -/

/-- Token `a` of the block of point `t`. -/
abbrev tok (t : Fin cfg0.N) (a : Fin 256) : Fin 24576 :=
  ⟨t.val * 256 + a.val, by have h := lt_of_lt_of_eq t.isLt N_0; omega⟩

/-- The token windows step together, 256 tokens a point; the weights stay. -/
theorem idx_in : ∀ t : Fin cfg0.N, win0_0.index t (0 : Fin 2) = t.val ∧ win0_0.index t (1 : Fin 2) = 0 ∧ win0_1.index t (0 : Fin 2) = t.val ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0 :=
  (by decide +kernel : ∀ t : Fin grid0.N, _)

theorem block0 (c : Dev nD) (t : Fin cfg0.N) (a : Fin 256) (k : Fin 2048) :
    iblk m c 0 t (ix2 a k) = m ((c : Thread nD τ).loc main_arg0) (ix2 (tok t a) k) := by
  show V m c main_arg0 (((cfg0.win 0).blk t).view.emb (ix2 a k)) = _
  have h := idx_in t
  have e : ((cfg0.win 0).blk t).view.emb (ix2 a k) = ix2 (tok t a) k := by
    refine eq_pair _ _ _ ?_ ?_
    · show win0_0.index t (0 : Fin 2) * 256 + 1 * a.val = t.val * 256 + a.val
      omega
    · show win0_0.index t (1 : Fin 2) * 2048 + 1 * k.val = k.val
      omega
  rw [e, V_main_arg0]
theorem block1 (c : Dev nD) (t : Fin cfg0.N) (a : Fin 256) (k : Fin 256) :
    iblk m c 1 t (ix2 a k) = per m c (tok t a) k := by
  show V m c main_v4 (((cfg0.win 1).blk t).view.emb (ix2 a k)) = _
  have h := idx_in t
  have e : ((cfg0.win 1).blk t).view.emb (ix2 a k) = ix2 (tok t a) k := by
    refine eq_pair _ _ _ ?_ ?_
    · show win0_1.index t (0 : Fin 2) * 256 + 1 * a.val = t.val * 256 + a.val
      omega
    · show win0_1.index t (1 : Fin 2) * 256 + 1 * k.val = k.val
      omega
  rw [e, V_v4]
  exact concat_eq _ _ _ _
theorem block2 (c : Dev nD) (t : Fin cfg0.N) (a : Fin 1) (k : Fin 2048) :
    iblk m c 2 t (ix2 a k) = m ((c : Thread nD τ).loc main_arg3) (ix2 0 k) := by
  show V m c main_v11 (((cfg0.win 2).blk t).view.emb (ix2 a k)) = _
  have h := idx_in t
  have e : ((cfg0.win 2).blk t).view.emb (ix2 a k) = ix2 (a) k := by
    refine eq_pair _ _ _ ?_ ?_
    · show win0_2.index t (0 : Fin 2) * 1 + 1 * a.val = a.val
      omega
    · show win0_2.index t (1 : Fin 2) * 2048 + 1 * k.val = k.val
      omega
  rw [e, V_v11]
  pointwise
theorem block3 (c : Dev nD) (t : Fin cfg0.N) (a : Fin 2048) (k : Fin 2048) :
    iblk m c 3 t (ix2 a k) = m ((c : Thread nD τ).loc main_arg5) (ix3 0 a k) := by
  show V m c main_v7 (((cfg0.win 3).blk t).view.emb (ix2 a k)) = _
  have h := idx_in t
  have e : ((cfg0.win 3).blk t).view.emb (ix2 a k) = ix2 (a) k := by
    refine eq_pair _ _ _ ?_ ?_
    · show win0_3.index t (0 : Fin 2) * 2048 + 1 * a.val = a.val
      omega
    · show win0_3.index t (1 : Fin 2) * 2048 + 1 * k.val = k.val
      omega
  rw [e, V_v7]
  exact cast_drop _ _ _ a k
theorem block4 (c : Dev nD) (t : Fin cfg0.N) (a : Fin 1) (k : Fin 2048) :
    iblk m c 4 t (ix2 a k) = m ((c : Thread nD τ).loc main_arg6) (ix2 0 k) := by
  show V m c main_v12 (((cfg0.win 4).blk t).view.emb (ix2 a k)) = _
  have h := idx_in t
  have e : ((cfg0.win 4).blk t).view.emb (ix2 a k) = ix2 (a) k := by
    refine eq_pair _ _ _ ?_ ?_
    · show win0_4.index t (0 : Fin 2) * 1 + 1 * a.val = a.val
      omega
    · show win0_4.index t (1 : Fin 2) * 2048 + 1 * k.val = k.val
      omega
  rw [e, V_v12]
  pointwise
theorem block5 (c : Dev nD) (t : Fin cfg0.N) (a : Fin 256) (k : Fin 2048) :
    iblk m c 5 t (ix2 a k) = m ((c : Thread nD τ).loc main_arg4) (ix3 0 a k) := by
  show V m c main_v10 (((cfg0.win 5).blk t).view.emb (ix2 a k)) = _
  have h := idx_in t
  have e : ((cfg0.win 5).blk t).view.emb (ix2 a k) = ix2 (a) k := by
    refine eq_pair _ _ _ ?_ ?_
    · show win0_5.index t (0 : Fin 2) * 256 + 1 * a.val = a.val
      omega
    · show win0_5.index t (1 : Fin 2) * 2048 + 1 * k.val = k.val
      omega
  rw [e, V_v10]
  exact cast_drop _ _ _ a k
theorem block6 (c : Dev nD) (t : Fin cfg0.N) (a : Fin 1) (k : Fin 2048) :
    iblk m c 6 t (ix2 a k) = m ((c : Thread nD τ).loc main_arg7) (ix1 k) := by
  show V m c main_v13 (((cfg0.win 6).blk t).view.emb (ix2 a k)) = _
  have h := idx_in t
  have e : ((cfg0.win 6).blk t).view.emb (ix2 a k) = ix2 (a) k := by
    refine eq_pair _ _ _ ?_ ?_
    · show win0_6.index t (0 : Fin 2) * 1 + 1 * a.val = a.val
      omega
    · show win0_6.index t (1 : Fin 2) * 2048 + 1 * k.val = k.val
      omega
  rw [e, V_v13]
  pointwise

/-! ## The rows a point stores -/

theorem zeros : (![0, 0] : Fin 2 → ℕ) = fun _ => 0 := by funext a; fin_cases a <;> rfl

/-- They are one payload of the whole blocks. -/
theorem rows_eq (x0 : Vec Ideal S256x2048 .f32) (x1 : Vec Ideal S256x256 .f32) (x2 : Vec Ideal S1x2048 .f32) (x3 : Vec Ideal S2048x2048 .bf16)
    (x4 : Vec Ideal S1x2048 .f32) (x5 : Vec Ideal S256x2048 .bf16) (x6 : Vec Ideal S1x2048 .f32) :
    rows x0 x1 x2 x3 x4 x5 x6 = k0_pay1 (k0_pay2 x0 x2 x3 x4 x1 x5) x6 := by
  dsimp only [rows]
  rw [View.canon_unit_zero zeros]
  rw [View.ld_unit_zero (S := S256x2048) zeros, View.ld_unit_zero (S := S256x2048) zeros, View.ld_unit_zero (S := S256x256) zeros,
    View.ld_unit_zero (S := S1x2048) zeros, View.ld_unit_zero (S := S1x2048) zeros, View.ld_unit_zero (S := S1x2048) zeros,
    View.ld_unit_zero (S := S2048x2048) zeros]

/-- Token `r` at the end of the layer, entry `j`, from the launch contents and its embedding `p`. -/
def tokenEnd (c : Dev nD) (r : Fin 24576) (p : Fin 256 → EReal) (j : Fin 2048) : EReal :=
  ended (fun k => m ((c : Thread nD τ).loc main_arg0) (ix2 r k)) p (fun k => m ((c : Thread nD τ).loc main_arg3) (ix2 0 k)) (fun k l => m ((c : Thread nD τ).loc main_arg5) (ix3 0 k l))
    (fun k => m ((c : Thread nD τ).loc main_arg6) (ix2 0 k)) (fun l k => m ((c : Thread nD τ).loc main_arg4) (ix3 0 l k)) (fun k => m ((c : Thread nD τ).loc main_arg7) (ix1 k)) j

theorem congr_token (c : Dev nD) (r r' : Fin 24576) (p p' : Fin 256 → EReal) (j : Fin 2048) (h : r.val = r'.val) (hp : ∀ l, p l = p' l) :
    tokenEnd m c r p j = tokenEnd m c r' p' j := by
  rw [Fin.ext h, funext hp]

theorem rowsAt_eq (c : Dev nD) (t : Fin cfg0.N) (a : Fin 256) (j : Fin 2048) :
    rowsAt m c t (ix2 a j) = tokenEnd m c (tok t a) (fun l => per m c (tok t a) l) j := by
  unfold rowsAt
  rw [rows_eq]
  refine (pay_eq _ _ _ _ _ _ _ a j).trans ?_
  simp only [block0, block1, block2, block3, block4, block5, block6]
  rfl

/-- Rows `o` on of an array, read at a row. -/
theorem slice_row {n o : ℕ} (v : FVec Ideal S24576x2048 .f32) (h : Shape.Slices S24576x2048 ![o, 0] ⟨2, ![n, 2048]⟩) (r : Fin n) (hr : o + r.val < 24576) (k : Fin 2048) :
    extractStridedSlice ⟨2, ![n, 2048]⟩ ![o, 0] v h (ix2 r k) = v (ix2 ⟨o + r.val, hr⟩ k) := by
  pointwise

/-! ## The first result -/

/-- What the reference computes of the launch contents. -/
abbrev F (c : Dev nD) : Vec Ideal S16384x2048 .f32 :=
  refFirstNorm (refFirstSum (extractStridedSlice S16384x2048 ![0, 0] (m ((c : Thread nD τ).loc main_arg0)) Cert.PleRefIdeal.Facts₀.slices_S24576x2048_S16384x2048_0_0) (per1 m c)
    (m ((c : Thread nD τ).loc main_arg3)) (m ((c : Thread nD τ).loc main_arg4)) (m ((c : Thread nD τ).loc main_arg5)) (m ((c : Thread nD τ).loc main_arg6))) (m ((c : Thread nD τ).loc main_arg7))

theorem F_eq (c : Dev nD) (r : Fin 16384) (j : Fin 2048) :
    F m c (ix2 r j) = tokenEnd m c (⟨0 + r.val, by omega⟩ : Fin 24576) (fun l => per1 m c (ix2 r l)) j := by
  refine (refFirst_eq _ _ _ _ _ _ _ r j).trans ?_
  refine congrArg (fun f => ended f _ _ _ _ _ _ j) ?_
  funext k
  exact slice_row _ _ _ _ k

theorem idx7 : ∀ t : Fin cfg0.N, win0_7.index t (0 : Fin 2) = min t.val 63 ∧ win0_7.index t (1 : Fin 2) = 0 :=
  (by decide +kernel : ∀ t : Fin grid0.N, _)

theorem flushed7_eq (c : Dev nD) (t : Fin cfg0.N) (hf : (cfg0.win 7).flush t = true) :
    (dats m 0 c).flushed 7 t = ((cfg0.win 7).blk t).view.read (Elt Ideal) (F m c) := by
  show (cfg0.win 7).cut (grid0.coords t) ((dats m 0 c).after 7 t) = _
  rw [after0_7]
  rw [flush7] at hf
  have hf := of_decide_eq_true hf
  have hN := lt_of_lt_of_eq t.isLt N_0
  funext y
  show rowsAt m c (held t) y = F m c (((cfg0.win 7).blk t).view.emb y)
  obtain ⟨a, j, rfl⟩ : ∃ (a : Fin 256) (j : Fin 2048), y = ix2 a j := ⟨y 0, y 1, eq_ix2 y⟩
  have h := idx7 t
  have hr : min t.val 63 * 256 + a.val < 16384 := by omega
  have e : ((cfg0.win 7).blk t).view.emb (ix2 a j) = ix2 (⟨min t.val 63 * 256 + a.val, hr⟩ : Fin 16384) j := by
    refine eq_pair _ _ _ ?_ ?_
    · show win0_7.index t (0 : Fin 2) * 256 + 1 * a.val = min t.val 63 * 256 + a.val
      omega
    · show win0_7.index t (1 : Fin 2) * 2048 + 1 * j.val = j.val
      omega
  rw [e, F_eq, rowsAt_eq]
  refine congr_token m c _ _ _ _ j ?_ ?_
  · show min t.val 63 * 256 + a.val = 0 + (min t.val 63 * 256 + a.val)
    omega
  · intro l
    exact dif_pos hr

theorem cover7 (i : S16384x2048.Idx) : ∃ t : Fin cfg0.N, (cfg0.win 7).flush t = true ∧ i ∈ ((cfg0.win 7).blk t).view.set := by
  have hi0 : (i 0).val < 16384 := (i 0).isLt
  have hi1 : (i 1).val < 2048 := (i 1).isLt
  let n := if (i 0).val / 256 < 63 then (i 0).val / 256 else 95
  have hn : n < 96 := by show (if (i 0).val / 256 < 63 then (i 0).val / 256 else 95) < 96; split <;> omega
  let t : Fin cfg0.N := ⟨n, lt_of_lt_of_eq hn N_0.symm⟩
  have ht : min t.val 63 = (i 0).val / 256 := by
    show min (if (i 0).val / 256 < 63 then (i 0).val / 256 else 95) 63 = _; split <;> omega
  have h := idx7 t
  refine ⟨t, ?_, ?_⟩
  · rw [flush7]
    refine decide_eq_true ?_
    show (if (i 0).val / 256 < 63 then (i 0).val / 256 else 95) < 63 ∨ (if (i 0).val / 256 < 63 then (i 0).val / 256 else 95) = 95; split <;> omega
  show i ∈ ((View.whole main_v14_0).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 2048 ≤ (i 1).val ∧ (i 1).val < win0_7.index t (1 : Fin 2) * 2048 + 2048; omega

/-- The array the kernel leaves is the reference's. -/
theorem final7 (c : Dev nD) : (dats m 0 c).arrAt 7 cfg0.N = F m c :=
  (dats m 0 c).arrAt_eq_of_cover 7 _ (fun t ht => flushed7_eq m c t ht) cover7

/-! ## The second result -/

/-- What the reference computes of the launch contents. -/
abbrev S (c : Dev nD) : Vec Ideal S8192x2048 .f32 :=
  refSecondNorm (refSecondSum (extractStridedSlice S8192x2048 ![16384, 0] (m ((c : Thread nD τ).loc main_arg0)) Cert.PleRefIdeal.Facts₀.slices_S24576x2048_S8192x2048_16384_0) (per2 m c)
    (m ((c : Thread nD τ).loc main_arg3)) (m ((c : Thread nD τ).loc main_arg4)) (m ((c : Thread nD τ).loc main_arg5)) (m ((c : Thread nD τ).loc main_arg6))) (m ((c : Thread nD τ).loc main_arg7))

theorem S_eq (c : Dev nD) (r : Fin 8192) (j : Fin 2048) :
    S m c (ix2 r j) = tokenEnd m c (⟨16384 + r.val, by omega⟩ : Fin 24576) (fun l => per2 m c (ix2 r l)) j := by
  refine (refSecond_eq _ _ _ _ _ _ _ r j).trans ?_
  refine congrArg (fun f => ended f _ _ _ _ _ _ j) ?_
  funext k
  exact slice_row _ _ _ _ k

theorem idx8 : ∀ t : Fin cfg0.N, win0_8.index t (0 : Fin 2) = (t.val - 64) ∧ win0_8.index t (1 : Fin 2) = 0 :=
  (by decide +kernel : ∀ t : Fin grid0.N, _)

theorem flushed8_eq (c : Dev nD) (t : Fin cfg0.N) (hf : (cfg0.win 8).flush t = true) :
    (dats m 0 c).flushed 8 t = ((cfg0.win 8).blk t).view.read (Elt Ideal) (S m c) := by
  show (cfg0.win 8).cut (grid0.coords t) ((dats m 0 c).after 8 t) = _
  rw [after0_8]
  rw [flush8] at hf
  have hf := of_decide_eq_true hf
  have hN := lt_of_lt_of_eq t.isLt N_0
  funext y
  show rowsAt m c t y = S m c (((cfg0.win 8).blk t).view.emb y)
  obtain ⟨a, j, rfl⟩ : ∃ (a : Fin 256) (j : Fin 2048), y = ix2 a j := ⟨y 0, y 1, eq_ix2 y⟩
  have h := idx8 t
  have hr : (t.val - 64) * 256 + a.val < 8192 := by omega
  have e : ((cfg0.win 8).blk t).view.emb (ix2 a j) = ix2 (⟨(t.val - 64) * 256 + a.val, hr⟩ : Fin 8192) j := by
    refine eq_pair _ _ _ ?_ ?_
    · show win0_8.index t (0 : Fin 2) * 256 + 1 * a.val = (t.val - 64) * 256 + a.val
      omega
    · show win0_8.index t (1 : Fin 2) * 2048 + 1 * j.val = j.val
      omega
  rw [e, S_eq, rowsAt_eq]
  refine congr_token m c _ _ _ _ j ?_ ?_
  · show t.val * 256 + a.val = 16384 + ((t.val - 64) * 256 + a.val)
    omega
  · intro l
    have hn : ¬(tok t a).val < 16384 := by show ¬(t.val * 256 + a.val < 16384); omega
    refine (dif_neg hn).trans (congrArg _ ?_)
    refine eq_pair _ _ _ ?_ rfl
    show t.val * 256 + a.val - 16384 = (t.val - 64) * 256 + a.val
    omega

theorem cover8 (i : S8192x2048.Idx) : ∃ t : Fin cfg0.N, (cfg0.win 8).flush t = true ∧ i ∈ ((cfg0.win 8).blk t).view.set := by
  have hi0 : (i 0).val < 8192 := (i 0).isLt
  have hi1 : (i 1).val < 2048 := (i 1).isLt
  let n := 64 + (i 0).val / 256
  have hn : n < 96 := by show 64 + (i 0).val / 256 < 96; omega
  let t : Fin cfg0.N := ⟨n, lt_of_lt_of_eq hn N_0.symm⟩
  have ht : t.val - 64 = (i 0).val / 256 := by
    show 64 + (i 0).val / 256 - 64 = _; omega
  have h := idx8 t
  refine ⟨t, ?_, ?_⟩
  · rw [flush8]
    refine decide_eq_true ?_
    show 64 ≤ 64 + (i 0).val / 256; omega
  show i ∈ ((View.whole main_v14_1).slice (win0_8.rect t)).set
  rw [View.set_slice_whole, Rect.mem_set_unit]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 2048 ≤ (i 1).val ∧ (i 1).val < win0_8.index t (1 : Fin 2) * 2048 + 2048; omega

/-- The array the kernel leaves is the reference's. -/
theorem final8 (c : Dev nD) : (dats m 0 c).arrAt 8 cfg0.N = S m c :=
  (dats m 0 c).arrAt_eq_of_cover 8 _ (fun t ht => flushed8_eq m c t ht) cover8

end Cert.PleProof

end
-- ==== Proof.PleClaim.lean ====
/-
  The claims about the end of the layer: the kernel at both instances and the reference run and leave their arguments
  unchanged, and over the extended reals both leave the same two results.
-/
module

public import proofs.«01_k».proof.Proof.PleValue
public import proofs.«01_k».proof.Proof.PleBitsRun
public import proofs.«01_k».proof.Proof.Gen.PleRefIdeal.Run
public import Idealize.ShloMosaic.Lib.Quiescent
public import proofs.«01_k».proof.Defs

@[expose] public section

noncomputable section

namespace Cert.PleProof

open Idealize.ShloMosaic Idealize.ShloMosaic.TcCoe Idealize.SL.Sem

theorem frame_kernel : Cert.quiescent_Ple := fun m ρ _ => Cert.PleBits.frame m ρ

theorem frame_ideal : Cert.quiescent_PleIdeal := fun m ρ _ => Cert.PleProof.frame m ρ

theorem frame_ref : Cert.quiescent_PleRefIdeal := fun m ρ _ =>
  (θ_run Cert.PleRefIdeal.defs _ _).mono (fun r h => ⟨fun c => (h c).2.2, Idealize.ShloMosaic.sem_eq_zero_of_no_sems (by decide) r.2⟩)
    (Cert.PleRefIdeal.Value.run (F := Ideal) m ρ)

theorem algebraic : Cert.algebraic_PleIdeal_PleRefIdeal := by
  intro m ρ m' ρ' _ hagree
  refine ⟨fun c => F m c, fun c => S m c, ?_, ?_⟩
  · exact (θ_run Cert.PleIdeal.defs _ _).mono (fun r h c => ⟨(h c).1.trans (final7 m c), (h c).2.1.trans (final8 m c), (h c).2.2⟩)
      (run_results (F := Ideal) m ρ)
  · refine (θ_run Cert.PleRefIdeal.defs _ _).mono (fun r h c => ⟨(h c).1.trans ?_, (h c).2.1.trans ?_, (h c).2.2⟩)
      (Cert.PleRefIdeal.Value.run (F := Ideal) m' ρ')
    · obtain ⟨h0, h1, h2, h3, h4, h5, h6, h7⟩ := hagree c
      unfold Cert.PleRefIdeal.Value.res_main_v45
      rw [h0, h1, h3, h4, h5, h6, h7]
      rfl
    · obtain ⟨h0, h1, h2, h3, h4, h5, h6, h7⟩ := hagree c
      unfold Cert.PleRefIdeal.Value.res_main_v91
      rw [h0, h2, h3, h4, h5, h6, h7]
      rfl

end Cert.PleProof

end
-- ==== Proof.MixerBlock.lean ====
/-
  The end of the mixer, one entry at a time: the formula, and what the kernel's block of 256 tokens holds.
-/
module

public import proofs.«01_k».proof.Defs
public import proofs.«01_k».proof.Proof.RowMath
public import proofs.«01_k».proof.Proof.Gen.MixerIdeal.Skeleton

@[expose] public section

set_option maxRecDepth 16384

noncomputable section

namespace Cert.MixerProof

open Cert.MixerIdeal Cert.MixerIdeal.Gen Idealize.ShloMosaic Idealize.ShloMosaic.TcCoe Cert.RowMath

/-- Entry `j` of a token after the mixer: `y` the state space branch, `cb` the convolution branch, `ga` and `gb` the
    two gates, `x` the residual entry, `wo` column `j` of the output projection. -/
def mixed (y cb : Fin 1024 → EReal) (ga gb : Fin 2048 → EReal) (x : EReal) (wg : Fin 1024 → Fin 1024 → EReal)
    (bg : Fin 1024 → EReal) (wa wb : Fin 1024 → Fin 2048 → EReal) (wo : Fin 2048 → EReal) : EReal :=
  x + ∑ k, (ga k * (∑ j, gelu (y j) * sigmoid ((∑ l, gelu (y l) * wg l j) + bg j) * wa j k)
    + gb k * ∑ j, cb j * wb j k) * wo k

set_option maxHeartbeats 1000000 in
/-- The kernel's block. -/
theorem pay_eq (y : Vec Ideal S256x1024 .f32) (cb : Vec Ideal S256x1024 .bf16) (ga gb : Vec Ideal S256x2048 .bf16)
    (x : Vec Ideal S256x2048 .f32) (wg : Vec Ideal S1024x1024 .bf16) (bg : Vec Ideal S1x1024 .f32)
    (wa wb : Vec Ideal S1024x2048 .bf16) (wo : Vec Ideal S2048x2048 .bf16) (r : Fin 256) (j : Fin 2048) :
    k0_pay1 (k0_pay2 cb wb) (k0_pay3 y wg bg wa ga) gb x wo (ix2 r j)
      = mixed (fun k => y (ix2 r k)) (fun k => cb (ix2 r k)) (fun k => ga (ix2 r k)) (fun k => gb (ix2 r k))
          (x (ix2 r j)) (fun l k => wg (ix2 l k)) (fun k => bg (ix2 0 k)) (fun l k => wa (ix2 l k))
          (fun l k => wb (ix2 l k)) (fun k => wo (ix2 k j)) := by
  pointwise [k0_pay1, k0_pay2, k0_pay3, mixed, gelu, sigmoid]
  simp only [Ideal.erf_def, sub_eq_add_neg, zero_add]

end Cert.MixerProof

end
-- ==== Proof.MixerRef.lean ====
/-
  The end of the mixer as the reference writes it, one entry at a time.
-/
module

public import proofs.«01_k».proof.Proof.MixerBlock
public import proofs.«01_k».proof.Proof.Gen.MixerRefIdeal

@[expose] public section

set_option maxRecDepth 16384

noncomputable section

namespace Cert.MixerProof

open Cert.MixerRefIdeal Cert.MixerRefIdeal.Gen Idealize.ShloMosaic Idealize.ShloMosaic.TcCoe Cert.RowMath

/-- The reference's composed term. -/
def refTerm (y : FVec Ideal S24576x1024 .f32) (cb : FVec Ideal S24576x1024 .bf16) (sg : FVec Ideal S24576x4096 .bf16)
    (x : FVec Ideal S24576x2048 .f32) (wg : FVec Ideal S1x1024x1024 .f32) (bg : FVec Ideal S1x1024 .f32)
    (wa wb : FVec Ideal S1x1024x2048 .f32) (wo : FVec Ideal S1x2048x2048 .f32) : FVec Ideal S24576x2048 .f32 :=
  addf x (Host.dotGeneral dot_S24576x2048_S2048x2048_S24576x2048_1_0_0_1_n_n none (addf (mulf (extractStridedSlice S24576x2048 ![0, 0] (extf .f32 sg bitsLt_bf16_f32) slices_S24576x4096_S24576x2048_0_0) (Host.dotGeneral dot_S24576x1024_S1024x2048_S24576x2048_1_0_0_1_n_n none (mulf (mulf (mulf (broadcastInDim S24576x1024 ![] bcast_S_S24576x1024 (constant S_ .f32 0x3F000000#32)) y) (Host.erfc (mulf (Host.negf y) (broadcastInDim S24576x1024 ![] bcast_S_S24576x1024 (constant S_ .f32 0x3F3504F3#32))))) (Host.divf (broadcastInDim S24576x1024 ![] bcast_S_S24576x1024 (constant S_ .f32 0x3F800000#32)) (addf (broadcastInDim S24576x1024 ![] bcast_S_S24576x1024 (constant S_ .f32 0x3F800000#32)) (Host.exp (Host.negf (addf (Host.dotGeneral dot_S24576x1024_S1024x1024_S24576x1024_1_0_0_1_n_n none (mulf (mulf (broadcastInDim S24576x1024 ![] bcast_S_S24576x1024 (constant S_ .f32 0x3F000000#32)) y) (Host.erfc (mulf (Host.negf y) (broadcastInDim S24576x1024 ![] bcast_S_S24576x1024 (constant S_ .f32 0x3F3504F3#32))))) (shapeCast _ wg shapeCasts_S1x1024x1024_S1024x1024)) (broadcastInDim S24576x1024 ![0, 1] bcast_S1x1024_S24576x1024_0_1 (broadcastInDim S1x1024 ![1] bcast_S1024_S1x1024_1 (shapeCast _ bg shapeCasts_S1x1024_S1024))))))))) (shapeCast _ wa shapeCasts_S1x1024x2048_S1024x2048))) (mulf (extractStridedSlice S24576x2048 ![0, 2048] (extf .f32 sg bitsLt_bf16_f32) slices_S24576x4096_S24576x2048_0_2048) (Host.dotGeneral dot_S24576x1024_S1024x2048_S24576x2048_1_0_0_1_n_n none (extf .f32 cb bitsLt_bf16_f32) (shapeCast _ wb shapeCasts_S1x1024x2048_S1024x2048)))) (shapeCast _ wo shapeCasts_S1x2048x2048_S2048x2048))

set_option maxHeartbeats 1000000 in
/-- The reference's term, one entry at a time. -/
theorem ref_eq (y : FVec Ideal S24576x1024 .f32) (cb : FVec Ideal S24576x1024 .bf16) (sg : FVec Ideal S24576x4096 .bf16)
    (x : FVec Ideal S24576x2048 .f32) (wg : FVec Ideal S1x1024x1024 .f32) (bg : FVec Ideal S1x1024 .f32)
    (wa wb : FVec Ideal S1x1024x2048 .f32) (wo : FVec Ideal S1x2048x2048 .f32) (r : Fin 24576) (j : Fin 2048) :
    refTerm y cb sg x wg bg wa wb wo (ix2 r j)
      = mixed (fun k => y (ix2 r k)) (fun k => cb (ix2 r k)) (fun k => sg (ix2 r ⟨k.val, by omega⟩))
          (fun k => sg (ix2 r ⟨2048 + k.val, by omega⟩)) (x (ix2 r j)) (fun l k => wg (ix3 0 l k))
          (fun k => bg (ix2 0 k)) (fun l k => wa (ix3 0 l k)) (fun l k => wb (ix3 0 l k)) (fun k => wo (ix3 0 k j)) := by
  pointwise [refTerm, mixed, sigmoid, ← gelu_erfc]

end Cert.MixerProof

end
-- ==== Proof.MixerValue.lean ====
/-
  The end of the mixer: each grid point writes back 256 tokens of what the reference computes, so the array the kernel
  leaves is the reference's.
-/
module

public import proofs.«01_k».proof.Proof.MixerRef
public import proofs.«01_k».proof.Proof.Gen.MixerIdeal.Value
public import Idealize.ShloMosaic.Lib.ValueLayout

@[expose] public section

set_option maxRecDepth 16384

noncomputable section

namespace Cert.MixerProof

open Cert.MixerIdeal Cert.MixerIdeal.Gen Idealize.ShloMosaic Idealize.ShloMosaic.TcCoe Idealize.SL.Sem Cert.RowMath
open Idealize.ShloMosaic.Pipeline (Dat)

variable (m : (ℓ : Loc nD τ sig) → Buf (Elt Ideal) ℓ)

/-! ## What the region finds in the arrays the host prepared -/

theorem V_v1 (c : Dev nD) : V m c main_v1 = truncf (F := Ideal) .bf16 (shapeCast _ (m ((c : Thread nD τ).loc main_arg4)) shapeCasts_S1x1024x1024_S1024x1024) bitsLt_bf16_f32 := by
  show StableHlo.after hostOps0 (fun b => m (c, b)) main_v1 = _
  after_results <;> rfl
theorem V_v9 (c : Dev nD) : V m c main_v9 = shapeCast _ (shapeCast S1024 (m ((c : Thread nD τ).loc main_arg5)) shapeCasts_S1x1024_S1024) shapeCasts_S1024_S1x1024 := by
  show StableHlo.after hostOps0 (fun b => m (c, b)) main_v9 = _
  after_results <;> rfl
theorem V_v4 (c : Dev nD) : V m c main_v4 = truncf (F := Ideal) .bf16 (shapeCast _ (m ((c : Thread nD τ).loc main_arg6)) shapeCasts_S1x1024x2048_S1024x2048) bitsLt_bf16_f32 := by
  show StableHlo.after hostOps0 (fun b => m (c, b)) main_v4 = _
  after_results <;> rfl
theorem V_v6 (c : Dev nD) : V m c main_v6 = truncf (F := Ideal) .bf16 (shapeCast _ (m ((c : Thread nD τ).loc main_arg7)) shapeCasts_S1x1024x2048_S1024x2048) bitsLt_bf16_f32 := by
  show StableHlo.after hostOps0 (fun b => m (c, b)) main_v6 = _
  after_results <;> rfl
theorem V_v8 (c : Dev nD) : V m c main_v8 = truncf (F := Ideal) .bf16 (shapeCast _ (m ((c : Thread nD τ).loc main_arg8)) shapeCasts_S1x2048x2048_S2048x2048) bitsLt_bf16_f32 := by
  show StableHlo.after hostOps0 (fun b => m (c, b)) main_v8 = _
  after_results <;> rfl

/-! ## The blocks at point `t` -/

/-- Token `a` of the block of point `t`. -/
abbrev tok (t : Fin cfg0.N) (a : Fin 256) : Fin 24576 :=
  ⟨t.val * 256 + a.val, by have h := lt_of_lt_of_eq t.isLt N_0; omega⟩

/-- The token windows and the result's step together, 256 tokens a point; the weights stay. -/
theorem idx_tok : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 1
    ∧ win0_4.index t (0 : Fin 2) = t.val ∧ win0_4.index t (1 : Fin 2) = 0
    ∧ win0_10.index t (0 : Fin 2) = t.val ∧ win0_10.index t (1 : Fin 2) = 0 :=
  (by decide +kernel : ∀ t : Fin grid0.N, _)
theorem idx_weights : ∀ t : Fin cfg0.N, win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem block0 (c : Dev nD) (t : Fin cfg0.N) (a : Fin 256) (k : Fin 1024) :
    iblk m c 0 t (ix2 a k) = m ((c : Thread nD τ).loc main_arg0) (ix2 (tok t a) k) := by
  show V m c main_arg0 (((cfg0.win 0).blk t).view.emb (ix2 a k)) = _
  rw [V_main_arg0]
  have h := idx_tok t
  refine congrArg _ (eq_pair _ _ _ ?_ ?_)
  · show win0_0.index t (0 : Fin 2) * 256 + 1 * a.val = t.val * 256 + a.val
    omega
  · show win0_0.index t (1 : Fin 2) * 1024 + 1 * k.val = k.val
    omega
theorem block1 (c : Dev nD) (t : Fin cfg0.N) (a : Fin 256) (k : Fin 1024) :
    iblk m c 1 t (ix2 a k) = m ((c : Thread nD τ).loc main_arg1) (ix2 (tok t a) k) := by
  show V m c main_arg1 (((cfg0.win 1).blk t).view.emb (ix2 a k)) = _
  rw [V_main_arg1]
  have h := idx_tok t
  refine congrArg _ (eq_pair _ _ _ ?_ ?_)
  · show win0_1.index t (0 : Fin 2) * 256 + 1 * a.val = t.val * 256 + a.val
    omega
  · show win0_1.index t (1 : Fin 2) * 1024 + 1 * k.val = k.val
    omega
theorem block2 (c : Dev nD) (t : Fin cfg0.N) (a : Fin 256) (k : Fin 2048) :
    iblk m c 2 t (ix2 a k) = m ((c : Thread nD τ).loc main_arg2) (ix2 (tok t a) (⟨k.val, by omega⟩ : Fin 4096)) := by
  show V m c main_arg2 (((cfg0.win 2).blk t).view.emb (ix2 a k)) = _
  rw [V_main_arg2]
  have h := idx_tok t
  refine congrArg _ (eq_pair _ _ _ ?_ ?_)
  · show win0_2.index t (0 : Fin 2) * 256 + 1 * a.val = t.val * 256 + a.val
    omega
  · show win0_2.index t (1 : Fin 2) * 2048 + 1 * k.val = k.val
    omega
theorem block3 (c : Dev nD) (t : Fin cfg0.N) (a : Fin 256) (k : Fin 2048) :
    iblk m c 3 t (ix2 a k) = m ((c : Thread nD τ).loc main_arg2) (ix2 (tok t a) (⟨2048 + k.val, by omega⟩ : Fin 4096)) := by
  show V m c main_arg2 (((cfg0.win 3).blk t).view.emb (ix2 a k)) = _
  rw [V_main_arg2]
  have h := idx_tok t
  refine congrArg _ (eq_pair _ _ _ ?_ ?_)
  · show win0_3.index t (0 : Fin 2) * 256 + 1 * a.val = t.val * 256 + a.val
    omega
  · show win0_3.index t (1 : Fin 2) * 2048 + 1 * k.val = 2048 + k.val
    omega
theorem block4 (c : Dev nD) (t : Fin cfg0.N) (a : Fin 256) (k : Fin 2048) :
    iblk m c 4 t (ix2 a k) = m ((c : Thread nD τ).loc main_arg3) (ix2 (tok t a) k) := by
  show V m c main_arg3 (((cfg0.win 4).blk t).view.emb (ix2 a k)) = _
  rw [V_main_arg3]
  have h := idx_tok t
  refine congrArg _ (eq_pair _ _ _ ?_ ?_)
  · show win0_4.index t (0 : Fin 2) * 256 + 1 * a.val = t.val * 256 + a.val
    omega
  · show win0_4.index t (1 : Fin 2) * 2048 + 1 * k.val = k.val
    omega
theorem block5 (c : Dev nD) (t : Fin cfg0.N) (l : Fin 1024) (k : Fin 1024) :
    iblk m c 5 t (ix2 l k) = m ((c : Thread nD τ).loc main_arg4) (ix3 0 l k) := by
  show V m c main_v1 (((cfg0.win 5).blk t).view.emb (ix2 l k)) = _
  have h := idx_weights t
  have e : ((cfg0.win 5).blk t).view.emb (ix2 l k) = ix2 l k := by
    refine eq_pair _ _ _ ?_ ?_
    · show win0_5.index t (0 : Fin 2) * 1024 + 1 * l.val = l.val
      omega
    · show win0_5.index t (1 : Fin 2) * 1024 + 1 * k.val = k.val
      omega
  rw [e, V_v1]
  exact cast_drop _ _ _ l k
theorem block6 (c : Dev nD) (t : Fin cfg0.N) (l : Fin 1) (k : Fin 1024) :
    iblk m c 6 t (ix2 l k) = m ((c : Thread nD τ).loc main_arg5) (ix2 0 k) := by
  show V m c main_v9 (((cfg0.win 6).blk t).view.emb (ix2 l k)) = _
  have h := idx_weights t
  have e : ((cfg0.win 6).blk t).view.emb (ix2 l k) = ix2 l k := by
    refine eq_pair _ _ _ ?_ ?_
    · show win0_6.index t (0 : Fin 2) * 1 + 1 * l.val = l.val
      omega
    · show win0_6.index t (1 : Fin 2) * 1024 + 1 * k.val = k.val
      omega
  rw [e, V_v9]
  pointwise
theorem block7 (c : Dev nD) (t : Fin cfg0.N) (l : Fin 1024) (k : Fin 2048) :
    iblk m c 7 t (ix2 l k) = m ((c : Thread nD τ).loc main_arg6) (ix3 0 l k) := by
  show V m c main_v4 (((cfg0.win 7).blk t).view.emb (ix2 l k)) = _
  have h := idx_weights t
  have e : ((cfg0.win 7).blk t).view.emb (ix2 l k) = ix2 l k := by
    refine eq_pair _ _ _ ?_ ?_
    · show win0_7.index t (0 : Fin 2) * 1024 + 1 * l.val = l.val
      omega
    · show win0_7.index t (1 : Fin 2) * 2048 + 1 * k.val = k.val
      omega
  rw [e, V_v4]
  exact cast_drop _ _ _ l k
theorem block8 (c : Dev nD) (t : Fin cfg0.N) (l : Fin 1024) (k : Fin 2048) :
    iblk m c 8 t (ix2 l k) = m ((c : Thread nD τ).loc main_arg7) (ix3 0 l k) := by
  show V m c main_v6 (((cfg0.win 8).blk t).view.emb (ix2 l k)) = _
  have h := idx_weights t
  have e : ((cfg0.win 8).blk t).view.emb (ix2 l k) = ix2 l k := by
    refine eq_pair _ _ _ ?_ ?_
    · show win0_8.index t (0 : Fin 2) * 1024 + 1 * l.val = l.val
      omega
    · show win0_8.index t (1 : Fin 2) * 2048 + 1 * k.val = k.val
      omega
  rw [e, V_v6]
  exact cast_drop _ _ _ l k
theorem block9 (c : Dev nD) (t : Fin cfg0.N) (l : Fin 2048) (k : Fin 2048) :
    iblk m c 9 t (ix2 l k) = m ((c : Thread nD τ).loc main_arg8) (ix3 0 l k) := by
  show V m c main_v8 (((cfg0.win 9).blk t).view.emb (ix2 l k)) = _
  have h := idx_weights t
  have e : ((cfg0.win 9).blk t).view.emb (ix2 l k) = ix2 l k := by
    refine eq_pair _ _ _ ?_ ?_
    · show win0_9.index t (0 : Fin 2) * 2048 + 1 * l.val = l.val
      omega
    · show win0_9.index t (1 : Fin 2) * 2048 + 1 * k.val = k.val
      omega
  rw [e, V_v8]
  exact cast_drop _ _ _ l k

/-! ## What a point writes back -/

theorem zeros : (![0, 0] : Fin 2 → ℕ) = fun _ => 0 := by funext a; fin_cases a <;> rfl

/-- The block a point leaves is one payload of the whole blocks. -/
theorem out_eq (x0 : Vec Ideal S256x1024 .f32) (x1 : Vec Ideal S256x1024 .bf16) (x2 x3 : Vec Ideal S256x2048 .bf16)
    (x4 : Vec Ideal S256x2048 .f32) (x5 : Vec Ideal S1024x1024 .bf16) (x6 : Vec Ideal S1x1024 .f32)
    (x7 x8 : Vec Ideal S1024x2048 .bf16) (x9 : Vec Ideal S2048x2048 .bf16) :
    out0_10 x0 x1 x2 x3 x4 x5 x6 x7 x8 x9 = k0_pay1 (k0_pay2 x1 x8) (k0_pay3 x0 x5 x6 x7 x2) x3 x4 x9 := by
  dsimp only [out0_10]
  rw [View.canon_unit_zero zeros]
  rw [View.ld_unit_zero (S := S256x1024) zeros, View.ld_unit_zero (S := S256x1024) zeros,
    View.ld_unit_zero (S := S1024x2048) zeros, View.ld_unit_zero (S := S1024x2048) zeros,
    View.ld_unit_zero (S := S256x2048) zeros, View.ld_unit_zero (S := S256x2048) zeros, View.ld_unit_zero (S := S256x2048) zeros,
    View.ld_unit_zero (S := S1024x1024) zeros, View.ld_unit_zero (S := S1x1024) zeros, View.ld_unit_zero (S := S2048x2048) zeros]

/-- The reference's term of the launch contents. -/
abbrev G (c : Dev nD) : Vec Ideal S24576x2048 .f32 :=
  refTerm (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10]
  funext y
  show out0_10 (iblk m c 0 t) (iblk m c 1 t) (iblk m c 2 t) (iblk m c 3 t) (iblk m c 4 t) (iblk m c 5 t) (iblk m c 6 t)
    (iblk m c 7 t) (iblk m c 8 t) (iblk m c 9 t) y = G m c (((cfg0.win 10).blk t).view.emb y)
  obtain ⟨a, j, rfl⟩ : ∃ (a : Fin 256) (j : Fin 2048), y = ix2 a j := ⟨y 0, y 1, eq_ix2 y⟩
  have e : ((cfg0.win 10).blk t).view.emb (ix2 a j) = ix2 (tok t a) j := by
    have h := idx_tok t
    refine eq_pair _ _ _ ?_ ?_
    · show win0_10.index t (0 : Fin 2) * 256 + 1 * a.val = t.val * 256 + a.val
      omega
    · show win0_10.index t (1 : Fin 2) * 2048 + 1 * j.val = j.val
      omega
  rw [e, out_eq]
  refine (pay_eq _ _ _ _ _ _ _ _ _ _ a j).trans (Eq.trans ?_ (ref_eq _ _ _ _ _ _ _ _ _ (tok t a) j).symm)
  simp only [block0, block1, block2, block3, block4, block5, block6, block7, block8, block9]

/-- Every entry of the result is in the block of one point, and every point writes back. -/
theorem cover (i : S24576x2048.Idx) : ∃ t : Fin cfg0.N, (cfg0.win 10).flush t = true ∧ i ∈ ((cfg0.win 10).blk t).view.set := by
  have hi0 : (i 0).val < 24576 := (i 0).isLt
  have hi1 : (i 1).val < 2048 := (i 1).isLt
  let t : Fin cfg0.N := ⟨(i 0).val / 256, lt_of_lt_of_eq (by omega : (i 0).val / 256 < 96) N_0.symm⟩
  have hf : ∀ t : Fin cfg0.N, (cfg0.win 10).flush t = true := (by decide +kernel : ∀ t : Fin grid0.N, _)
  have h := idx_tok t
  refine ⟨t, hf t, ?_⟩
  show i ∈ ((View.whole main_v10).slice (win0_10.rect t)).set
  rw [View.set_slice_whole, Rect.mem_set_unit]
  intro a
  have ht : t.val = (i 0).val / 256 := rfl
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 2048 ≤ (i 1).val ∧ (i 1).val < win0_10.index t (1 : Fin 2) * 2048 + 2048; omega

/-- The array the kernel leaves is the reference's. -/
theorem final (c : Dev nD) : (dats m 0 c).arrAt 10 cfg0.N = G m c :=
  (dats m 0 c).arrAt_eq_of_cover 10 _ (fun t _ => flushed_eq m c t) cover

end Cert.MixerProof

end
-- ==== Proof.MixerClaim.lean ====
/-
  The claims about the end of the mixer: the kernel at both instances and the reference run and leave their arguments unchanged, and
  over the extended reals both leave the same array.
-/
module

public import proofs.«01_k».proof.Proof.MixerValue
public import proofs.«01_k».proof.Proof.Gen.Mixer.Frame
public import proofs.«01_k».proof.Proof.Gen.MixerRefIdeal.Run
public import Idealize.ShloMosaic.Lib.Quiescent

@[expose] public section

noncomputable section

namespace Cert.MixerProof

open Idealize.ShloMosaic Idealize.ShloMosaic.TcCoe Idealize.SL.Sem

theorem frame_kernel : Cert.quiescent_Mixer := fun m ρ _ => Cert.Mixer.Gen.frame m ρ

theorem frame_ideal : Cert.quiescent_MixerIdeal := fun m ρ _ => Cert.MixerIdeal.Gen.frame m ρ

theorem frame_ref : Cert.quiescent_MixerRefIdeal := fun m ρ _ =>
  (θ_run Cert.MixerRefIdeal.defs _ _).mono (fun r h => ⟨fun c => (h c).2, Idealize.ShloMosaic.sem_eq_zero_of_no_sems (by decide) r.2⟩)
    (Cert.MixerRefIdeal.Value.run (F := Ideal) m ρ)

theorem algebraic : Cert.algebraic_MixerIdeal_MixerRefIdeal := by
  intro m ρ m' ρ' _ hagree
  refine ⟨fun c => G m c, ?_, ?_⟩
  · exact (θ_run Cert.MixerIdeal.defs _ _).mono (fun r h c => ⟨(h c).1.trans (final m c), (h c).2⟩)
      (Cert.MixerIdeal.Value.run_blocks (F := Ideal) m ρ)
  · refine (θ_run Cert.MixerRefIdeal.defs _ _).mono (fun r h c => ⟨(h c).1.trans ?_, (h c).2⟩)
      (Cert.MixerRefIdeal.Value.run (F := Ideal) m' ρ')
    obtain ⟨h0, h1, h2, h3, h4, h5, h6, h7, h8⟩ := hagree c
    rw [h0, h1, h2, h3, h4, h5, h6, h7, h8]
    rfl

end Cert.MixerProof

end
-- ==== Proof.ProjectMath.lean ====
/-
  A normalised token against one column of a projection, on the extended reals.
-/
module

public import proofs.«01_k».proof.Proof.RowMath

@[expose] public section

noncomputable section

namespace Cert.RowMath

/-- The row `x` after rms normalisation with gains `g`, against the column `w`. -/
def project (x g w : Fin 2048 → EReal) : EReal := ∑ k, normed x g k * w k

end Cert.RowMath

end
-- ==== Proof.ProjBlock.lean ====
/-
  The two gates, one entry at a time: what the kernel's two payloads hold, the normalised rows
  and a block of 1024 columns of the product.
-/
module

public import proofs.«01_k».proof.Defs
public import proofs.«01_k».proof.Proof.ProjectMath
public import proofs.«01_k».proof.Proof.Gen.ProjIdeal.Skeleton

@[expose] public section

set_option maxRecDepth 16384

noncomputable section

namespace Cert.ProjProof

open Cert.ProjIdeal Cert.ProjIdeal.Gen Idealize.ShloMosaic Idealize.ShloMosaic.TcCoe Cert.RowMath

set_option maxHeartbeats 1000000 in
/-- The rows kept between points are the normalised rows of the block. -/
theorem rows_eq (x : Vec Ideal S512x2048 .f32) (g : Vec Ideal S1x2048 .f32) (r : Fin 512) (k : Fin 2048) :
    k0_pay1 x g (ix2 r k) = normed (fun k => x (ix2 r k)) (fun k => g (ix2 0 k)) k := by
  pointwise [k0_pay1, normed]

set_option maxHeartbeats 1000000 in
/-- The block of the product. -/
theorem product_eq (h : Vec Ideal S512x2048 .bf16) (w : Vec Ideal S2048x1024 .bf16) (b : Vec Ideal S1x1024 .f32)
    (r : Fin 512) (j : Fin 1024) :
    k0_pay2 h w b (ix2 r j) = sigmoid (∑ k, h (ix2 r k) * w (ix2 k j) + b (ix2 0 j)) := by
  pointwise [k0_pay2, sigmoid]
  simp only [sub_eq_add_neg, zero_add]

end Cert.ProjProof

end
-- ==== Proof.ProjRef.lean ====
/-
  The two gates as the reference writes it, one entry at a time.
-/
module

public import proofs.«01_k».proof.Proof.ProjectMath
public import proofs.«01_k».proof.Proof.Gen.ProjRefIdeal

@[expose] public section

set_option maxRecDepth 16384

noncomputable section

namespace Cert.ProjProof

open Cert.ProjRefIdeal Cert.ProjRefIdeal.Gen Idealize.ShloMosaic Idealize.ShloMosaic.TcCoe Cert.RowMath

/-- The reference's composed term. -/
def refTerm (x : FVec Ideal S24576x2048 .f32) (g : FVec Ideal S1x2048 .f32) (w : FVec Ideal S1x2048x4096 .f32) (b : FVec Ideal S1x4096 .f32) :
    FVec Ideal S24576x4096 .bf16 :=
  truncf .bf16 (Host.divf (broadcastInDim S24576x4096 ![] bcast_S_S24576x4096 (constant S_ .f32 0x3F800000#32)) (addf (broadcastInDim S24576x4096 ![] bcast_S_S24576x4096 (constant S_ .f32 0x3F800000#32)) (Host.exp (Host.negf (addf (Host.dotGeneral dot_S24576x2048_S2048x4096_S24576x4096_1_0_0_1_n_n none (mulf (mulf x (broadcastInDim S24576x2048 ![0, 1] bcast_S24576x1_S24576x2048_0_1 (Host.rsqrt (addf (Host.divf (broadcastInDim S24576x1 ![0] bcast_S24576_S24576x1_0 (Host.reduceAdd (mulf x x) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 (shapeCast _ g shapeCasts_S1x2048_S2048)))) (shapeCast _ w shapeCasts_S1x2048x4096_S2048x4096)) (broadcastInDim S24576x4096 ![0, 1] bcast_S1x4096_S24576x4096_0_1 (broadcastInDim S1x4096 ![1] bcast_S4096_S1x4096_1 (shapeCast _ b shapeCasts_S1x4096_S4096)))))))) bitsLt_bf16_f32

set_option maxHeartbeats 1000000 in
/-- The reference's term, one entry at a time. -/
theorem ref_eq (x : FVec Ideal S24576x2048 .f32) (g : FVec Ideal S1x2048 .f32) (w : FVec Ideal S1x2048x4096 .f32) (b : FVec Ideal S1x4096 .f32)
    (r : Fin 24576) (j : Fin 4096) :
    refTerm x g w b (ix2 r j)
      = sigmoid (project (fun k => x (ix2 r k)) (fun k => g (ix2 0 k)) (fun k => w (ix3 0 k ⟨j.val, by omega⟩)) + b (ix2 0 j)) := by
  pointwise [refTerm, project, normed, sigmoid]

end Cert.ProjProof

end
-- ==== Proof.ProjValue.lean ====
/-
  The two gates: each grid point writes back 1024 columns of 512 tokens of what the reference
  computes, so the array the kernel leaves is the reference's.
-/
module

public import proofs.«01_k».proof.Proof.ProjBlock
public import proofs.«01_k».proof.Proof.ProjRef
public import proofs.«01_k».proof.Proof.Gen.ProjIdeal.Value
public import Idealize.ShloMosaic.Lib.ValueLayout

@[expose] public section

set_option maxRecDepth 16384

noncomputable section

namespace Cert.ProjProof

open Cert.ProjIdeal Cert.ProjIdeal.Gen Idealize.ShloMosaic Idealize.ShloMosaic.TcCoe Idealize.SL.Sem Cert.RowMath
open Idealize.ShloMosaic.Pipeline (Dat)

variable (m : (ℓ : Loc nD τ sig) → Buf (Elt Ideal) ℓ)

/-! ## What the region finds in the arrays the host prepared -/

theorem V_w (c : Dev nD) : V m c main_v2 = truncf (F := Ideal) .bf16 (shapeCast _ (m ((c : Thread nD τ).loc main_arg2)) shapeCasts_S1x2048x4096_S2048x4096) bitsLt_bf16_f32 := by
  show StableHlo.after hostOps0 (fun b => m (c, b)) main_v2 = _
  after_results <;> rfl
theorem V_g (c : Dev nD) : V m c main_v4 = shapeCast _ (shapeCast S2048 (m ((c : Thread nD τ).loc main_arg1)) shapeCasts_S1x2048_S2048) shapeCasts_S2048_S1x2048 := by
  show StableHlo.after hostOps0 (fun b => m (c, b)) main_v4 = _
  after_results <;> rfl
theorem V_b (c : Dev nD) : V m c main_v5 = shapeCast _ (shapeCast S4096 (m ((c : Thread nD τ).loc main_arg3)) shapeCasts_S1x4096_S4096) shapeCasts_S4096_S1x4096 := by
  show StableHlo.after hostOps0 (fun b => m (c, b)) main_v5 = _
  after_results <;> rfl

/-! ## The blocks at point `t` -/

/-- Token `a` of the block of point `t`, and its column `j`. -/
abbrev tok (t : Fin cfg0.N) (a : Fin 512) : Fin 24576 :=
  ⟨t.val / 4 * 512 + a.val, by have h := lt_of_lt_of_eq t.isLt N_0; omega⟩
abbrev col (t : Fin cfg0.N) (j : Fin 1024) : Fin 4096 := ⟨t.val % 4 * 1024 + j.val, by omega⟩

theorem idx : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4
    ∧ win0_3.index t (0 : Fin 2) = 0 ∧ win0_3.index t (1 : Fin 2) = t.val % 4
    ∧ win0_4.index t (0 : Fin 2) = t.val / 4 ∧ win0_4.index t (1 : Fin 2) = t.val % 4 :=
  (by decide +kernel : ∀ t : Fin grid0.N, _)

theorem block0 (c : Dev nD) (t : Fin cfg0.N) (a : Fin 512) (k : Fin 2048) :
    iblk m c 0 t (ix2 a k) = m ((c : Thread nD τ).loc main_arg0) (ix2 (tok t a) k) := by
  show V m c main_arg0 (((cfg0.win 0).blk t).view.emb (ix2 a k)) = _
  rw [V_main_arg0]
  have h := idx t
  refine congrArg _ (eq_pair _ _ _ ?_ ?_)
  · show win0_0.index t (0 : Fin 2) * 512 + 1 * a.val = t.val / 4 * 512 + a.val
    omega
  · show win0_0.index t (1 : Fin 2) * 2048 + 1 * k.val = k.val
    omega
theorem block1 (c : Dev nD) (t : Fin cfg0.N) (l : Fin 1) (k : Fin 2048) :
    iblk m c 1 t (ix2 l k) = m ((c : Thread nD τ).loc main_arg1) (ix2 0 k) := by
  show V m c main_v4 (((cfg0.win 1).blk t).view.emb (ix2 l k)) = _
  have h := idx t
  have e : ((cfg0.win 1).blk t).view.emb (ix2 l k) = ix2 l k := by
    refine eq_pair _ _ _ ?_ ?_
    · show win0_1.index t (0 : Fin 2) * 1 + 1 * l.val = l.val
      omega
    · show win0_1.index t (1 : Fin 2) * 2048 + 1 * k.val = k.val
      omega
  rw [e, V_g]
  pointwise
theorem block2 (c : Dev nD) (t : Fin cfg0.N) (k : Fin 2048) (j : Fin 1024) :
    iblk m c 2 t (ix2 k j) = m ((c : Thread nD τ).loc main_arg2) (ix3 0 k (col t j)) := by
  show V m c main_v2 (((cfg0.win 2).blk t).view.emb (ix2 k j)) = _
  have h := idx t
  have e : ((cfg0.win 2).blk t).view.emb (ix2 k j) = ix2 k (col t j) := by
    refine eq_pair _ _ _ ?_ ?_
    · show win0_2.index t (0 : Fin 2) * 2048 + 1 * k.val = k.val
      omega
    · show win0_2.index t (1 : Fin 2) * 1024 + 1 * j.val = t.val % 4 * 1024 + j.val
      omega
  rw [e, V_w]
  exact cast_drop _ _ _ k (col t j)
theorem block3 (c : Dev nD) (t : Fin cfg0.N) (l : Fin 1) (j : Fin 1024) :
    iblk m c 3 t (ix2 l j) = m ((c : Thread nD τ).loc main_arg3) (ix2 0 (col t j)) := by
  show V m c main_v5 (((cfg0.win 3).blk t).view.emb (ix2 l j)) = _
  have h := idx t
  have e : ((cfg0.win 3).blk t).view.emb (ix2 l j) = ix2 l (col t j) := by
    refine eq_pair _ _ _ ?_ ?_
    · show win0_3.index t (0 : Fin 2) * 1 + 1 * l.val = l.val
      omega
    · show win0_3.index t (1 : Fin 2) * 1024 + 1 * j.val = t.val % 4 * 1024 + j.val
      omega
  rw [e, V_b]
  pointwise

/-! ## What a point leaves -/

theorem zeros : (![0, 0] : Fin 2 → ℕ) = fun _ => 0 := by funext a; fin_cases a <;> rfl

/-- At the first column block of a row the point stores the normalised rows, reads them back and multiplies. -/
theorem out_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1x1024 .f32) (h5 : a5.IsWhole) (a6 : Memref sig .tc .vmem S512x1024 .bf16) (h6 : a6.IsWhole)
    (a7 : Memref sig .tc .vmem S512x2048 .bf16) (h7 : a7.IsWhole) (hc : cond0_0 i)
    (x0 : Vec Ideal S512x2048 .f32) (x1 : Vec Ideal S1x2048 .f32) (x2 : Vec Ideal S2048x1024 .bf16) (x3 : Vec Ideal S1x1024 .f32) :
    out0_A_4 c i a2 h2 a3 h3 a4 h4 a5 h5 a6 h6 a7 h7 hc x0 x1 x2 x3 = k0_pay2 (k0_pay1 x0 x1) x2 x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero zeros]
  rw [View.readCov_unit_zero (S := S512x2048) _ zeros]
  simp only [View.readAt_eq_ld, h2.read_unread, h3.read_unread, h4.read_unread, h5.read_unread, h7.read_unread,
    View.ld_unit_zero (S := S512x2048) zeros, View.ld_unit_zero (S := S1x2048) zeros, View.ld_unit_zero (S := S2048x1024) zeros,
    View.ld_unit_zero (S := S1x1024) zeros]

/-- … and leaves the normalised rows in the scratch buffer. -/
theorem kept_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1x1024 .f32) (h5 : a5.IsWhole) (a6 : Memref sig .tc .vmem S512x1024 .bf16) (h6 : a6.IsWhole)
    (a7 : Memref sig .tc .vmem S512x2048 .bf16) (h7 : a7.IsWhole) (hc : cond0_0 i)
    (x0 : Vec Ideal S512x2048 .f32) (x1 : Vec Ideal S1x2048 .f32) (x2 : Vec Ideal S2048x1024 .bf16) (x3 : Vec Ideal S1x1024 .f32) :
    sout0_A_0 c i a2 h2 a3 h3 a4 h4 a5 h5 a6 h6 a7 h7 hc x0 x1 x2 x3 = k0_pay1 x0 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero zeros]
  simp only [View.readAt_eq_ld, h2.read_unread, h3.read_unread, h4.read_unread, h5.read_unread, h7.read_unread,
    View.ld_unit_zero (S := S512x2048) zeros, View.ld_unit_zero (S := S1x2048) zeros, View.ld_unit_zero (S := S2048x1024) zeros,
    View.ld_unit_zero (S := S1x1024) zeros]

/-- At a later column block it multiplies the rows it finds in the scratch buffer. -/
theorem out_later (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1x1024 .f32) (h5 : a5.IsWhole) (a6 : Memref sig .tc .vmem S512x1024 .bf16) (h6 : a6.IsWhole)
    (a7 : Memref sig .tc .vmem S512x2048 .bf16) (h7 : a7.IsWhole) (hc : ¬cond0_0 i)
    (x0 : Vec Ideal S512x2048 .f32) (x1 : Vec Ideal S1x2048 .f32) (x2 : Vec Ideal S2048x1024 .bf16) (x3 : Vec Ideal S1x1024 .f32) (xs0 : Vec Ideal S512x2048 .bf16) :
    out0_B_4 c i a2 h2 a3 h3 a4 h4 a5 h5 a6 h6 a7 h7 hc x0 x1 x2 x3 xs0 = k0_pay2 xs0 x2 x3 := by
  unfold out0_B_4
  rw [View.read_writes_eq_canon _ _ _ (cover0_B_4 c i a2 h2 a3 h3 a4 h4 a5 h5 a6 h6 a7 h7 hc x0 x1 x2 x3 xs0)]
  unfold kernelRun0_B
  dsimp only
  rw [View.canon_unit_zero zeros]
  simp only [View.readAt_eq_ld, h2.read_unread, h3.read_unread, h4.read_unread, h5.read_unread, h7.read_unread,
    View.ld_unit_zero (S := S512x2048) zeros, View.ld_unit_zero (S := S1x2048) zeros, View.ld_unit_zero (S := S2048x1024) zeros,
    View.ld_unit_zero (S := S1x1024) zeros]

/-- After every point the scratch buffer holds the normalised rows of the point's tokens. -/
theorem kept (c : Dev nD) : ∀ (n : ℕ) (h : n < cfg0.N) (a : Fin 512) (k : Fin 2048),
    (outsAt0 m c n h).2 (ix2 a k)
      = normed (fun k => m ((c : Thread nD τ).loc main_arg0) (ix2 (tok ⟨n, h⟩ a) k)) (fun k => m ((c : Thread nD τ).loc main_arg1) (ix2 0 k)) k := by
  intro n
  induction n with
  | zero =>
    intro h a k
    rw [outsAt0_A m c ⟨0, h⟩ rfl]
    dsimp only
    rw [kept_first, rows_eq]
    simp only [block0, block1]
  | succ n ih =>
    intro h a k
    by_cases h0 : (n + 1) % 4 = 0
    · rw [outsAt0_A m c ⟨n + 1, h⟩ h0]
      dsimp only
      rw [kept_first, rows_eq]
      simp only [block0, block1]
    · rw [outsAt0_B m c ⟨n + 1, h⟩ h0]
      dsimp only
      unfold sout0_B_0
      refine (ih (Nat.lt_of_succ_lt h) a k).trans ?_
      have e : tok ⟨n, Nat.lt_of_succ_lt h⟩ a = tok ⟨n + 1, h⟩ a := Fin.ext (by
        show n / 4 * 512 + a.val = (n + 1) / 4 * 512 + a.val
        omega)
      rw [e]

/-- The reference's term of the launch contents. -/
abbrev G (c : Dev nD) : Vec Ideal S24576x4096 .bf16 :=
  refTerm (m ((c : Thread nD τ).loc main_arg0)) (m ((c : Thread nD τ).loc main_arg1))
    (m ((c : Thread nD τ).loc main_arg2)) (m ((c : Thread nD τ).loc main_arg3))

/-- A point leaves its block of the reference's array. -/
theorem out_ref (c : Dev nD) (t : Fin cfg0.N) (a : Fin 512) (j : Fin 1024) :
    (outsAt0 m c t.val t.isLt).1 (ix2 a j) = G m c (ix2 (tok t a) (col t j)) := by
  refine Eq.trans ?_ (ref_eq _ _ _ _ (tok t a) (col t j)).symm
  by_cases h0 : t.val % 4 = 0
  · rw [outsAt0_A m c t h0]
    dsimp only
    rw [out_first, product_eq]
    simp only [rows_eq, block0, block1, block2, block3, project]
  · rw [outsAt0_B m c t h0]
    dsimp only
    rw [out_later, product_eq]
    have e : tok ⟨t.val - 1, Nat.lt_of_le_of_lt (Nat.sub_le _ _) t.isLt⟩ a = tok t a := Fin.ext (by
      show (t.val - 1) / 4 * 512 + a.val = t.val / 4 * 512 + a.val
      omega)
    simp only [kept, e, block2, block3, project]

theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  funext y
  show (outsAt0 m c t.val t.isLt).1 y = G m c (((cfg0.win 4).blk t).view.emb y)
  obtain ⟨a, j, rfl⟩ : ∃ (a : Fin 512) (j : Fin 1024), y = ix2 a j := ⟨y 0, y 1, eq_ix2 y⟩
  have e : ((cfg0.win 4).blk t).view.emb (ix2 a j) = ix2 (tok t a) (col t j) := by
    have h := idx t
    refine eq_pair _ _ _ ?_ ?_
    · show win0_4.index t (0 : Fin 2) * 512 + 1 * a.val = t.val / 4 * 512 + a.val
      omega
    · show win0_4.index t (1 : Fin 2) * 1024 + 1 * j.val = t.val % 4 * 1024 + j.val
      omega
  rw [e]
  exact out_ref m c t a j

/-- Every entry of the result is in the block of one point, and every point writes back. -/
theorem cover (i : S24576x4096.Idx) : ∃ t : Fin cfg0.N, (cfg0.win 4).flush t = true ∧ i ∈ ((cfg0.win 4).blk t).view.set := by
  have hi0 : (i 0).val < 24576 := (i 0).isLt
  have hi1 : (i 1).val < 4096 := (i 1).isLt
  let t : Fin cfg0.N := ⟨(i 0).val / 512 * 4 + (i 1).val / 1024, lt_of_lt_of_eq (by omega : (i 0).val / 512 * 4 + (i 1).val / 1024 < 192) N_0.symm⟩
  have hf : ∀ t : Fin cfg0.N, (cfg0.win 4).flush t = true := (by decide +kernel : ∀ t : Fin grid0.N, _)
  have h := idx t
  refine ⟨t, hf t, ?_⟩
  show i ∈ ((View.whole main_v6).slice (win0_4.rect t)).set
  rw [View.set_slice_whole, Rect.mem_set_unit]
  intro a
  have ht : t.val = (i 0).val / 512 * 4 + (i 1).val / 1024 := rfl
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The array the kernel leaves is the reference's. -/
theorem final (c : Dev nD) : (dats m 0 c).arrAt 4 cfg0.N = G m c :=
  (dats m 0 c).arrAt_eq_of_cover 4 _ (fun t _ => flushed_eq m c t) cover

end Cert.ProjProof

end
-- ==== Proof.ProjClaim.lean ====
/-
  The claims about the two gates: the kernel at both instances and the reference run and leave their arguments unchanged, and
  over the extended reals the kernel leaves the array the reference computes.
-/
module

public import proofs.«01_k».proof.Proof.ProjValue
public import proofs.«01_k».proof.Proof.Gen.Proj.Frame
public import proofs.«01_k».proof.Proof.Gen.ProjRefIdeal.Run
public import Idealize.ShloMosaic.Lib.Quiescent

@[expose] public section

noncomputable section

namespace Cert.ProjProof

open Idealize.ShloMosaic Idealize.ShloMosaic.TcCoe Idealize.SL.Sem

theorem frame_kernel : Cert.quiescent_Proj := fun m ρ _ => Cert.Proj.Gen.frame m ρ

theorem frame_ideal : Cert.quiescent_ProjIdeal := fun m ρ _ => Cert.ProjIdeal.Gen.frame m ρ

theorem frame_ref : Cert.quiescent_ProjRefIdeal := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)

theorem algebraic : Cert.algebraic_ProjIdeal_ProjRefIdeal := by
  intro m ρ m' ρ' _ hagree
  refine ⟨fun c => G m c, ?_, ?_⟩
  · exact (θ_run Cert.ProjIdeal.defs _ _).mono (fun r h c => ⟨(h c).1.trans (final m c), (h c).2⟩)
      (Cert.ProjIdeal.Value.run_blocks (F := Ideal) m ρ)
  · refine (θ_run Cert.ProjRefIdeal.defs _ _).mono (fun r h c => ⟨(h c).1.trans ?_, (h c).2⟩)
      (Cert.ProjRefIdeal.Value.run (F := Ideal) m' ρ')
    obtain ⟨h0, h1, h2, h3⟩ := hagree c
    rw [h0, h1, h2, h3]
    rfl

end Cert.ProjProof

end
-- ==== Proof.InS5Block.lean ====
/-
  The projection into the state space branch, one entry at a time: what the kernel's two payloads hold, the normalised rows
  and a block of 1024 columns of the product.
-/
module

public import proofs.«01_k».proof.Defs
public import proofs.«01_k».proof.Proof.ProjectMath
public import proofs.«01_k».proof.Proof.Gen.InS5Ideal.Skeleton

@[expose] public section

set_option maxRecDepth 16384

noncomputable section

namespace Cert.InS5Proof

open Cert.InS5Ideal Cert.InS5Ideal.Gen Idealize.ShloMosaic Idealize.ShloMosaic.TcCoe Cert.RowMath

set_option maxHeartbeats 1000000 in
/-- The rows kept between points are the normalised rows of the block. -/
theorem rows_eq (x : Vec Ideal S512x2048 .f32) (g : Vec Ideal S1x2048 .f32) (r : Fin 512) (k : Fin 2048) :
    k0_pay1 x g (ix2 r k) = normed (fun k => x (ix2 r k)) (fun k => g (ix2 0 k)) k := by
  pointwise [k0_pay1, normed]

set_option maxHeartbeats 1000000 in
/-- The block of the product. -/
theorem product_eq (h : Vec Ideal S512x2048 .bf16) (w : Vec Ideal S2048x1024 .bf16) (b : Vec Ideal S1x1024 .f32)
    (r : Fin 512) (j : Fin 1024) :
    k0_pay2 h w b (ix2 r j) = ∑ k, h (ix2 r k) * w (ix2 k j) + b (ix2 0 j) := by
  pointwise [k0_pay2]

end Cert.InS5Proof

end
-- ==== Proof.InS5Ref.lean ====
/-
  The projection into the state space branch as the reference writes it, one entry at a time.
-/
module

public import proofs.«01_k».proof.Proof.ProjectMath
public import proofs.«01_k».proof.Proof.Gen.InS5RefIdeal

@[expose] public section

set_option maxRecDepth 16384

noncomputable section

namespace Cert.InS5Proof

open Cert.InS5RefIdeal Cert.InS5RefIdeal.Gen Idealize.ShloMosaic Idealize.ShloMosaic.TcCoe Cert.RowMath

/-- The reference's composed term. -/
def refTerm (x : FVec Ideal S24576x2048 .f32) (g : FVec Ideal S1x2048 .f32) (w : FVec Ideal S1x2048x3072 .f32) :
    FVec Ideal S24576x1024 .f32 :=
  extractStridedSlice S24576x1024 ![0, 0] (Host.dotGeneral dot_S24576x2048_S2048x3072_S24576x3072_1_0_0_1_n_n none (mulf (mulf x (broadcastInDim S24576x2048 ![0, 1] bcast_S24576x1_S24576x2048_0_1 (Host.rsqrt (addf (Host.divf (broadcastInDim S24576x1 ![0] bcast_S24576_S24576x1_0 (Host.reduceAdd (mulf x x) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 (shapeCast _ g shapeCasts_S1x2048_S2048)))) (shapeCast _ w shapeCasts_S1x2048x3072_S2048x3072)) slices_S24576x3072_S24576x1024_0_0

set_option maxHeartbeats 1000000 in
/-- The reference's term, one entry at a time. -/
theorem ref_eq (x : FVec Ideal S24576x2048 .f32) (g : FVec Ideal S1x2048 .f32) (w : FVec Ideal S1x2048x3072 .f32)
    (r : Fin 24576) (j : Fin 1024) :
    refTerm x g w (ix2 r j)
      = project (fun k => x (ix2 r k)) (fun k => g (ix2 0 k)) (fun k => w (ix3 0 k ⟨j.val, by omega⟩)) := by
  pointwise [refTerm, project, normed, sigmoid]

end Cert.InS5Proof

end
-- ==== Proof.InS5Value.lean ====
/-
  The projection into the state space branch: each grid point writes back 1024 columns of 512 tokens of what the reference
  computes, so the array the kernel leaves is the reference's.
-/
module

public import proofs.«01_k».proof.Proof.InS5Block
public import proofs.«01_k».proof.Proof.InS5Ref
public import proofs.«01_k».proof.Proof.Gen.InS5Ideal.Value
public import Idealize.ShloMosaic.Lib.ValueLayout

@[expose] public section

set_option maxRecDepth 16384

noncomputable section

namespace Cert.InS5Proof

open Cert.InS5Ideal Cert.InS5Ideal.Gen Idealize.ShloMosaic Idealize.ShloMosaic.TcCoe Idealize.SL.Sem Cert.RowMath
open Idealize.ShloMosaic.Pipeline (Dat)

variable (m : (ℓ : Loc nD τ sig) → Buf (Elt Ideal) ℓ)

/-! ## What the region finds in the arrays the host prepared -/

theorem V_w (c : Dev nD) : V m c main_v3 = extractStridedSlice S2048x1024 ![0, 0] (truncf (F := Ideal) .bf16 (shapeCast _ (m ((c : Thread nD τ).loc main_arg2)) shapeCasts_S1x2048x3072_S2048x3072) bitsLt_bf16_f32) slices_S2048x3072_S2048x1024_0_0 := by
  show StableHlo.after hostOps0 (fun b => m (c, b)) main_v3 = _
  after_results <;> rfl
theorem V_g (c : Dev nD) : V m c main_v5 = shapeCast _ (shapeCast S2048 (m ((c : Thread nD τ).loc main_arg1)) shapeCasts_S1x2048_S2048) shapeCasts_S2048_S1x2048 := by
  show StableHlo.after hostOps0 (fun b => m (c, b)) main_v5 = _
  after_results <;> rfl
theorem V_b (c : Dev nD) : V m c main_v6 = shapeCast _ (broadcastInDim S1024 ![] bcast_S_S1024 (constant (F := Ideal) S_ .f32 0x00000000#32)) shapeCasts_S1024_S1x1024 := by
  show StableHlo.after hostOps0 (fun b => m (c, b)) main_v6 = _
  after_results <;> rfl

/-- An entry of the columns the host slices out of the rounded weights. -/
theorem slice_cast (v : FVec Ideal S1x2048x3072 .f32) (k : Fin 2048) (j : Fin 1024) :
    extractStridedSlice S2048x1024 ![0, 0] (truncf (F := Ideal) .bf16 (shapeCast _ v shapeCasts_S1x2048x3072_S2048x3072) bitsLt_bf16_f32) slices_S2048x3072_S2048x1024_0_0 (ix2 k j)
      = v (ix3 0 k (⟨j.val, by omega⟩ : Fin 3072)) := by
  pointwise

/-! ## The blocks at point `t` -/

/-- Token `a` of the block of point `t`, and its column `j`. -/
abbrev tok (t : Fin cfg0.N) (a : Fin 512) : Fin 24576 :=
  ⟨t.val * 512 + a.val, by have h := lt_of_lt_of_eq t.isLt N_0; omega⟩
abbrev col (t : Fin cfg0.N) (j : Fin 1024) : Fin 1024 := ⟨j.val, by omega⟩

theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem block0 (c : Dev nD) (t : Fin cfg0.N) (a : Fin 512) (k : Fin 2048) :
    iblk m c 0 t (ix2 a k) = m ((c : Thread nD τ).loc main_arg0) (ix2 (tok t a) k) := by
  show V m c main_arg0 (((cfg0.win 0).blk t).view.emb (ix2 a k)) = _
  rw [V_main_arg0]
  have h := idx t
  refine congrArg _ (eq_pair _ _ _ ?_ ?_)
  · show win0_0.index t (0 : Fin 2) * 512 + 1 * a.val = t.val * 512 + a.val
    omega
  · show win0_0.index t (1 : Fin 2) * 2048 + 1 * k.val = k.val
    omega
theorem block1 (c : Dev nD) (t : Fin cfg0.N) (l : Fin 1) (k : Fin 2048) :
    iblk m c 1 t (ix2 l k) = m ((c : Thread nD τ).loc main_arg1) (ix2 0 k) := by
  show V m c main_v5 (((cfg0.win 1).blk t).view.emb (ix2 l k)) = _
  have h := idx t
  have e : ((cfg0.win 1).blk t).view.emb (ix2 l k) = ix2 l k := by
    refine eq_pair _ _ _ ?_ ?_
    · show win0_1.index t (0 : Fin 2) * 1 + 1 * l.val = l.val
      omega
    · show win0_1.index t (1 : Fin 2) * 2048 + 1 * k.val = k.val
      omega
  rw [e, V_g]
  pointwise
theorem block2 (c : Dev nD) (t : Fin cfg0.N) (k : Fin 2048) (j : Fin 1024) :
    iblk m c 2 t (ix2 k j) = m ((c : Thread nD τ).loc main_arg2) (ix3 0 k (⟨(col t j).val, by omega⟩ : Fin 3072)) := by
  show V m c main_v3 (((cfg0.win 2).blk t).view.emb (ix2 k j)) = _
  have h := idx t
  have e : ((cfg0.win 2).blk t).view.emb (ix2 k j) = ix2 k (col t j) := by
    refine eq_pair _ _ _ ?_ ?_
    · show win0_2.index t (0 : Fin 2) * 2048 + 1 * k.val = k.val
      omega
    · show win0_2.index t (1 : Fin 2) * 1024 + 1 * j.val = j.val
      omega
  rw [e, V_w]
  exact slice_cast _ k (col t j)
theorem block3 (c : Dev nD) (t : Fin cfg0.N) (l : Fin 1) (j : Fin 1024) :
    iblk m c 3 t (ix2 l j) = (0 : EReal) := by
  show V m c main_v6 (((cfg0.win 3).blk t).view.emb (ix2 l j)) = _
  have h := idx t
  have e : ((cfg0.win 3).blk t).view.emb (ix2 l j) = ix2 l (col t j) := by
    refine eq_pair _ _ _ ?_ ?_
    · show win0_3.index t (0 : Fin 2) * 1 + 1 * l.val = l.val
      omega
    · show win0_3.index t (1 : Fin 2) * 1024 + 1 * j.val = j.val
      omega
  rw [e, V_b]
  pointwise

/-! ## What a point leaves -/

theorem zeros : (![0, 0] : Fin 2 → ℕ) = fun _ => 0 := by funext a; fin_cases a <;> rfl

/-- At the first column block of a row the point stores the normalised rows, reads them back and multiplies. -/
theorem out_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1x1024 .f32) (h5 : a5.IsWhole) (a6 : Memref sig .tc .vmem S512x1024 .f32) (h6 : a6.IsWhole)
    (a7 : Memref sig .tc .vmem S512x2048 .bf16) (h7 : a7.IsWhole) (hc : cond0_0 i)
    (x0 : Vec Ideal S512x2048 .f32) (x1 : Vec Ideal S1x2048 .f32) (x2 : Vec Ideal S2048x1024 .bf16) (x3 : Vec Ideal S1x1024 .f32) :
    out0_A_4 c i a2 h2 a3 h3 a4 h4 a5 h5 a6 h6 a7 h7 hc x0 x1 x2 x3 = k0_pay2 (k0_pay1 x0 x1) x2 x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero zeros]
  rw [View.readCov_unit_zero (S := S512x2048) _ zeros]
  simp only [View.readAt_eq_ld, h2.read_unread, h3.read_unread, h4.read_unread, h5.read_unread, h7.read_unread,
    View.ld_unit_zero (S := S512x2048) zeros, View.ld_unit_zero (S := S1x2048) zeros, View.ld_unit_zero (S := S2048x1024) zeros,
    View.ld_unit_zero (S := S1x1024) zeros]

/-- The reference's term of the launch contents. -/
abbrev G (c : Dev nD) : Vec Ideal S24576x1024 .f32 :=
  refTerm (m ((c : Thread nD τ).loc main_arg0)) (m ((c : Thread nD τ).loc main_arg1)) (m ((c : Thread nD τ).loc main_arg2))

/-- A point leaves its block of the reference's array. -/
theorem out_ref (c : Dev nD) (t : Fin cfg0.N) (a : Fin 512) (j : Fin 1024) :
    outsAt0 m c t (ix2 a j) = G m c (ix2 (tok t a) (col t j)) := by
  refine Eq.trans ?_ (ref_eq _ _ _ (tok t a) (col t j)).symm
  unfold outsAt0
  rw [out_first, product_eq]
  simp only [rows_eq, block0, block1, block2, block3, project, add_zero]

theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  funext y
  show (outsAt0 m c t) y = G m c (((cfg0.win 4).blk t).view.emb y)
  obtain ⟨a, j, rfl⟩ : ∃ (a : Fin 512) (j : Fin 1024), y = ix2 a j := ⟨y 0, y 1, eq_ix2 y⟩
  have e : ((cfg0.win 4).blk t).view.emb (ix2 a j) = ix2 (tok t a) (col t j) := by
    have h := idx t
    refine eq_pair _ _ _ ?_ ?_
    · show win0_4.index t (0 : Fin 2) * 512 + 1 * a.val = t.val * 512 + a.val
      omega
    · show win0_4.index t (1 : Fin 2) * 1024 + 1 * j.val = j.val
      omega
  rw [e]
  exact out_ref m c t a j

/-- Every entry of the result is in the block of one point, and every point writes back. -/
theorem cover (i : S24576x1024.Idx) : ∃ t : Fin cfg0.N, (cfg0.win 4).flush t = true ∧ i ∈ ((cfg0.win 4).blk t).view.set := by
  have hi0 : (i 0).val < 24576 := (i 0).isLt
  have hi1 : (i 1).val < 1024 := (i 1).isLt
  let t : Fin cfg0.N := ⟨(i 0).val / 512 * 1 + (i 1).val / 1024, lt_of_lt_of_eq (by omega : (i 0).val / 512 * 1 + (i 1).val / 1024 < 48) N_0.symm⟩
  have hf : ∀ t : Fin cfg0.N, (cfg0.win 4).flush t = true := (by decide +kernel : ∀ t : Fin grid0.N, _)
  have h := idx t
  refine ⟨t, hf t, ?_⟩
  show i ∈ ((View.whole main_v7).slice (win0_4.rect t)).set
  rw [View.set_slice_whole, Rect.mem_set_unit]
  intro a
  have ht : t.val = (i 0).val / 512 * 1 + (i 1).val / 1024 := rfl
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The array the kernel leaves is the reference's. -/
theorem final (c : Dev nD) : (dats m 0 c).arrAt 4 cfg0.N = G m c :=
  (dats m 0 c).arrAt_eq_of_cover 4 _ (fun t _ => flushed_eq m c t) cover

end Cert.InS5Proof

end
-- ==== Proof.InS5Claim.lean ====
/-
  The claims about the projection into the state space branch: the kernel at both instances and the reference run and leave their arguments unchanged, and
  over the extended reals the kernel leaves the array the reference computes.
-/
module

public import proofs.«01_k».proof.Proof.InS5Value
public import proofs.«01_k».proof.Proof.Gen.InS5.Frame
public import proofs.«01_k».proof.Proof.Gen.InS5RefIdeal.Run
public import Idealize.ShloMosaic.Lib.Quiescent

@[expose] public section

noncomputable section

namespace Cert.InS5Proof

open Idealize.ShloMosaic Idealize.ShloMosaic.TcCoe Idealize.SL.Sem

theorem frame_kernel : Cert.quiescent_InS5 := fun m ρ _ => Cert.InS5.Gen.frame m ρ

theorem frame_ideal : Cert.quiescent_InS5Ideal := fun m ρ _ => Cert.InS5Ideal.Gen.frame m ρ

theorem frame_ref : Cert.quiescent_InS5RefIdeal := fun m ρ _ =>
  (θ_run Cert.InS5RefIdeal.defs _ _).mono (fun r h => ⟨fun c => (h c).2, Idealize.ShloMosaic.sem_eq_zero_of_no_sems (by decide) r.2⟩)
    (Cert.InS5RefIdeal.Value.run (F := Ideal) m ρ)

theorem algebraic : Cert.algebraic_InS5Ideal_InS5RefIdeal := by
  intro m ρ m' ρ' _ hagree
  refine ⟨fun c => G m c, ?_, ?_⟩
  · exact (θ_run Cert.InS5Ideal.defs _ _).mono (fun r h c => ⟨(h c).1.trans (final m c), (h c).2⟩)
      (Cert.InS5Ideal.Value.run_blocks (F := Ideal) m ρ)
  · refine (θ_run Cert.InS5RefIdeal.defs _ _).mono (fun r h c => ⟨(h c).1.trans ?_, (h c).2⟩)
      (Cert.InS5RefIdeal.Value.run (F := Ideal) m' ρ')
    obtain ⟨h0, h1, h2⟩ := hagree c
    rw [h0, h1, h2]
    rfl

end Cert.InS5Proof

end
-- ==== Proof.InConvBlock.lean ====
/-
  The projection into the convolution branch, one entry at a time: what the kernel's two payloads hold, the normalised rows
  and a block of 1024 columns of the product.
-/
module

public import proofs.«01_k».proof.Defs
public import proofs.«01_k».proof.Proof.ProjectMath
public import proofs.«01_k».proof.Proof.Gen.InConvIdeal.Skeleton

@[expose] public section

set_option maxRecDepth 16384

noncomputable section

namespace Cert.InConvProof

open Cert.InConvIdeal Cert.InConvIdeal.Gen Idealize.ShloMosaic Idealize.ShloMosaic.TcCoe Cert.RowMath

set_option maxHeartbeats 1000000 in
/-- The rows kept between points are the normalised rows of the block. -/
theorem rows_eq (x : Vec Ideal S512x2048 .f32) (g : Vec Ideal S1x2048 .f32) (r : Fin 512) (k : Fin 2048) :
    k0_pay1 x g (ix2 r k) = normed (fun k => x (ix2 r k)) (fun k => g (ix2 0 k)) k := by
  pointwise [k0_pay1, normed]

set_option maxHeartbeats 1000000 in
/-- The block of the product. -/
theorem product_eq (h : Vec Ideal S512x2048 .bf16) (w : Vec Ideal S2048x1024 .bf16) (b : Vec Ideal S1x1024 .f32)
    (r : Fin 512) (j : Fin 1024) :
    k0_pay2 h w b (ix2 r j) = ∑ k, h (ix2 r k) * w (ix2 k j) + b (ix2 0 j) := by
  pointwise [k0_pay2]

end Cert.InConvProof

end
-- ==== Proof.InConvRef.lean ====
/-
  The projection into the convolution branch as the reference writes it, one entry at a time.
-/
module

public import proofs.«01_k».proof.Proof.ProjectMath
public import proofs.«01_k».proof.Proof.Gen.InConvRefIdeal

@[expose] public section

set_option maxRecDepth 16384

noncomputable section

namespace Cert.InConvProof

open Cert.InConvRefIdeal Cert.InConvRefIdeal.Gen Idealize.ShloMosaic Idealize.ShloMosaic.TcCoe Cert.RowMath

/-- The reference's composed term. -/
def refTerm (x : FVec Ideal S24576x2048 .f32) (g : FVec Ideal S1x2048 .f32) (w : FVec Ideal S1x2048x3072 .f32) :
    FVec Ideal S24576x2048 .bf16 :=
  truncf .bf16 (extractStridedSlice S24576x2048 ![0, 1024] (Host.dotGeneral dot_S24576x2048_S2048x3072_S24576x3072_1_0_0_1_n_n none (mulf (mulf x (broadcastInDim S24576x2048 ![0, 1] bcast_S24576x1_S24576x2048_0_1 (Host.rsqrt (addf (Host.divf (broadcastInDim S24576x1 ![0] bcast_S24576_S24576x1_0 (Host.reduceAdd (mulf x x) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 (shapeCast _ g shapeCasts_S1x2048_S2048)))) (shapeCast _ w shapeCasts_S1x2048x3072_S2048x3072)) slices_S24576x3072_S24576x2048_0_1024) bitsLt_bf16_f32

set_option maxHeartbeats 1000000 in
/-- The reference's term, one entry at a time. -/
theorem ref_eq (x : FVec Ideal S24576x2048 .f32) (g : FVec Ideal S1x2048 .f32) (w : FVec Ideal S1x2048x3072 .f32)
    (r : Fin 24576) (j : Fin 2048) :
    refTerm x g w (ix2 r j)
      = project (fun k => x (ix2 r k)) (fun k => g (ix2 0 k)) (fun k => w (ix3 0 k ⟨1024 + j.val, by omega⟩)) := by
  pointwise [refTerm, project, normed, sigmoid]

end Cert.InConvProof

end
-- ==== Proof.InConvValue.lean ====
/-
  The projection into the convolution branch: each grid point writes back 1024 columns of 512 tokens of what the reference
  computes, so the array the kernel leaves is the reference's.
-/
module

public import proofs.«01_k».proof.Proof.InConvBlock
public import proofs.«01_k».proof.Proof.InConvRef
public import proofs.«01_k».proof.Proof.Gen.InConvIdeal.Value
public import Idealize.ShloMosaic.Lib.ValueLayout

@[expose] public section

set_option maxRecDepth 16384

noncomputable section

namespace Cert.InConvProof

open Cert.InConvIdeal Cert.InConvIdeal.Gen Idealize.ShloMosaic Idealize.ShloMosaic.TcCoe Idealize.SL.Sem Cert.RowMath
open Idealize.ShloMosaic.Pipeline (Dat)

variable (m : (ℓ : Loc nD τ sig) → Buf (Elt Ideal) ℓ)

/-! ## What the region finds in the arrays the host prepared -/

theorem V_w (c : Dev nD) : V m c main_v3 = extractStridedSlice S2048x2048 ![0, 1024] (truncf (F := Ideal) .bf16 (shapeCast _ (m ((c : Thread nD τ).loc main_arg2)) shapeCasts_S1x2048x3072_S2048x3072) bitsLt_bf16_f32) slices_S2048x3072_S2048x2048_0_1024 := by
  show StableHlo.after hostOps0 (fun b => m (c, b)) main_v3 = _
  after_results <;> rfl
theorem V_g (c : Dev nD) : V m c main_v5 = shapeCast _ (shapeCast S2048 (m ((c : Thread nD τ).loc main_arg1)) shapeCasts_S1x2048_S2048) shapeCasts_S2048_S1x2048 := by
  show StableHlo.after hostOps0 (fun b => m (c, b)) main_v5 = _
  after_results <;> rfl
theorem V_b (c : Dev nD) : V m c main_v6 = shapeCast _ (broadcastInDim S2048 ![] bcast_S_S2048 (constant (F := Ideal) S_ .f32 0x00000000#32)) shapeCasts_S2048_S1x2048 := by
  show StableHlo.after hostOps0 (fun b => m (c, b)) main_v6 = _
  after_results <;> rfl

/-- An entry of the columns the host slices out of the rounded weights. -/
theorem slice_cast (v : FVec Ideal S1x2048x3072 .f32) (k : Fin 2048) (j : Fin 2048) :
    extractStridedSlice S2048x2048 ![0, 1024] (truncf (F := Ideal) .bf16 (shapeCast _ v shapeCasts_S1x2048x3072_S2048x3072) bitsLt_bf16_f32) slices_S2048x3072_S2048x2048_0_1024 (ix2 k j)
      = v (ix3 0 k (⟨1024 + j.val, by omega⟩ : Fin 3072)) := by
  pointwise

/-! ## The blocks at point `t` -/

/-- Token `a` of the block of point `t`, and its column `j`. -/
abbrev tok (t : Fin cfg0.N) (a : Fin 512) : Fin 24576 :=
  ⟨t.val / 2 * 512 + a.val, by have h := lt_of_lt_of_eq t.isLt N_0; omega⟩
abbrev col (t : Fin cfg0.N) (j : Fin 1024) : Fin 2048 := ⟨t.val % 2 * 1024 + j.val, by omega⟩

theorem idx : ∀ t : Fin cfg0.N, win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 2
    ∧ win0_3.index t (0 : Fin 2) = 0 ∧ win0_3.index t (1 : Fin 2) = t.val % 2
    ∧ win0_4.index t (0 : Fin 2) = t.val / 2 ∧ win0_4.index t (1 : Fin 2) = t.val % 2 :=
  (by decide +kernel : ∀ t : Fin grid0.N, _)

theorem block0 (c : Dev nD) (t : Fin cfg0.N) (a : Fin 512) (k : Fin 2048) :
    iblk m c 0 t (ix2 a k) = m ((c : Thread nD τ).loc main_arg0) (ix2 (tok t a) k) := by
  show V m c main_arg0 (((cfg0.win 0).blk t).view.emb (ix2 a k)) = _
  rw [V_main_arg0]
  have h := idx t
  refine congrArg _ (eq_pair _ _ _ ?_ ?_)
  · show win0_0.index t (0 : Fin 2) * 512 + 1 * a.val = t.val / 2 * 512 + a.val
    omega
  · show win0_0.index t (1 : Fin 2) * 2048 + 1 * k.val = k.val
    omega
theorem block1 (c : Dev nD) (t : Fin cfg0.N) (l : Fin 1) (k : Fin 2048) :
    iblk m c 1 t (ix2 l k) = m ((c : Thread nD τ).loc main_arg1) (ix2 0 k) := by
  show V m c main_v5 (((cfg0.win 1).blk t).view.emb (ix2 l k)) = _
  have h := idx t
  have e : ((cfg0.win 1).blk t).view.emb (ix2 l k) = ix2 l k := by
    refine eq_pair _ _ _ ?_ ?_
    · show win0_1.index t (0 : Fin 2) * 1 + 1 * l.val = l.val
      omega
    · show win0_1.index t (1 : Fin 2) * 2048 + 1 * k.val = k.val
      omega
  rw [e, V_g]
  pointwise
theorem block2 (c : Dev nD) (t : Fin cfg0.N) (k : Fin 2048) (j : Fin 1024) :
    iblk m c 2 t (ix2 k j) = m ((c : Thread nD τ).loc main_arg2) (ix3 0 k (⟨1024 + (col t j).val, by omega⟩ : Fin 3072)) := by
  show V m c main_v3 (((cfg0.win 2).blk t).view.emb (ix2 k j)) = _
  have h := idx t
  have e : ((cfg0.win 2).blk t).view.emb (ix2 k j) = ix2 k (col t j) := by
    refine eq_pair _ _ _ ?_ ?_
    · show win0_2.index t (0 : Fin 2) * 2048 + 1 * k.val = k.val
      omega
    · show win0_2.index t (1 : Fin 2) * 1024 + 1 * j.val = t.val % 2 * 1024 + j.val
      omega
  rw [e, V_w]
  exact slice_cast _ k (col t j)
theorem block3 (c : Dev nD) (t : Fin cfg0.N) (l : Fin 1) (j : Fin 1024) :
    iblk m c 3 t (ix2 l j) = (0 : EReal) := by
  show V m c main_v6 (((cfg0.win 3).blk t).view.emb (ix2 l j)) = _
  have h := idx t
  have e : ((cfg0.win 3).blk t).view.emb (ix2 l j) = ix2 l (col t j) := by
    refine eq_pair _ _ _ ?_ ?_
    · show win0_3.index t (0 : Fin 2) * 1 + 1 * l.val = l.val
      omega
    · show win0_3.index t (1 : Fin 2) * 1024 + 1 * j.val = t.val % 2 * 1024 + j.val
      omega
  rw [e, V_b]
  pointwise

/-! ## What a point leaves -/

theorem zeros : (![0, 0] : Fin 2 → ℕ) = fun _ => 0 := by funext a; fin_cases a <;> rfl

/-- At the first column block of a row the point stores the normalised rows, reads them back and multiplies. -/
theorem out_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1x1024 .f32) (h5 : a5.IsWhole) (a6 : Memref sig .tc .vmem S512x1024 .bf16) (h6 : a6.IsWhole)
    (a7 : Memref sig .tc .vmem S512x2048 .bf16) (h7 : a7.IsWhole) (hc : cond0_0 i)
    (x0 : Vec Ideal S512x2048 .f32) (x1 : Vec Ideal S1x2048 .f32) (x2 : Vec Ideal S2048x1024 .bf16) (x3 : Vec Ideal S1x1024 .f32) :
    out0_A_4 c i a2 h2 a3 h3 a4 h4 a5 h5 a6 h6 a7 h7 hc x0 x1 x2 x3 = k0_pay2 (k0_pay1 x0 x1) x2 x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero zeros]
  rw [View.readCov_unit_zero (S := S512x2048) _ zeros]
  simp only [View.readAt_eq_ld, h2.read_unread, h3.read_unread, h4.read_unread, h5.read_unread, h7.read_unread,
    View.ld_unit_zero (S := S512x2048) zeros, View.ld_unit_zero (S := S1x2048) zeros, View.ld_unit_zero (S := S2048x1024) zeros,
    View.ld_unit_zero (S := S1x1024) zeros]

/-- … and leaves the normalised rows in the scratch buffer. -/
theorem kept_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1x1024 .f32) (h5 : a5.IsWhole) (a6 : Memref sig .tc .vmem S512x1024 .bf16) (h6 : a6.IsWhole)
    (a7 : Memref sig .tc .vmem S512x2048 .bf16) (h7 : a7.IsWhole) (hc : cond0_0 i)
    (x0 : Vec Ideal S512x2048 .f32) (x1 : Vec Ideal S1x2048 .f32) (x2 : Vec Ideal S2048x1024 .bf16) (x3 : Vec Ideal S1x1024 .f32) :
    sout0_A_0 c i a2 h2 a3 h3 a4 h4 a5 h5 a6 h6 a7 h7 hc x0 x1 x2 x3 = k0_pay1 x0 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero zeros]
  simp only [View.readAt_eq_ld, h2.read_unread, h3.read_unread, h4.read_unread, h5.read_unread, h7.read_unread,
    View.ld_unit_zero (S := S512x2048) zeros, View.ld_unit_zero (S := S1x2048) zeros, View.ld_unit_zero (S := S2048x1024) zeros,
    View.ld_unit_zero (S := S1x1024) zeros]

/-- At a later column block it multiplies the rows it finds in the scratch buffer. -/
theorem out_later (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1x1024 .f32) (h5 : a5.IsWhole) (a6 : Memref sig .tc .vmem S512x1024 .bf16) (h6 : a6.IsWhole)
    (a7 : Memref sig .tc .vmem S512x2048 .bf16) (h7 : a7.IsWhole) (hc : ¬cond0_0 i)
    (x0 : Vec Ideal S512x2048 .f32) (x1 : Vec Ideal S1x2048 .f32) (x2 : Vec Ideal S2048x1024 .bf16) (x3 : Vec Ideal S1x1024 .f32) (xs0 : Vec Ideal S512x2048 .bf16) :
    out0_B_4 c i a2 h2 a3 h3 a4 h4 a5 h5 a6 h6 a7 h7 hc x0 x1 x2 x3 xs0 = k0_pay2 xs0 x2 x3 := by
  unfold out0_B_4
  rw [View.read_writes_eq_canon _ _ _ (cover0_B_4 c i a2 h2 a3 h3 a4 h4 a5 h5 a6 h6 a7 h7 hc x0 x1 x2 x3 xs0)]
  unfold kernelRun0_B
  dsimp only
  rw [View.canon_unit_zero zeros]
  simp only [View.readAt_eq_ld, h2.read_unread, h3.read_unread, h4.read_unread, h5.read_unread, h7.read_unread,
    View.ld_unit_zero (S := S512x2048) zeros, View.ld_unit_zero (S := S1x2048) zeros, View.ld_unit_zero (S := S2048x1024) zeros,
    View.ld_unit_zero (S := S1x1024) zeros]

/-- After every point the scratch buffer holds the normalised rows of the point's tokens. -/
theorem kept (c : Dev nD) : ∀ (n : ℕ) (h : n < cfg0.N) (a : Fin 512) (k : Fin 2048),
    (outsAt0 m c n h).2 (ix2 a k)
      = normed (fun k => m ((c : Thread nD τ).loc main_arg0) (ix2 (tok ⟨n, h⟩ a) k)) (fun k => m ((c : Thread nD τ).loc main_arg1) (ix2 0 k)) k := by
  intro n
  induction n with
  | zero =>
    intro h a k
    rw [outsAt0_A m c ⟨0, h⟩ rfl]
    dsimp only
    rw [kept_first, rows_eq]
    simp only [block0, block1]
  | succ n ih =>
    intro h a k
    by_cases h0 : (n + 1) % 2 = 0
    · rw [outsAt0_A m c ⟨n + 1, h⟩ h0]
      dsimp only
      rw [kept_first, rows_eq]
      simp only [block0, block1]
    · rw [outsAt0_B m c ⟨n + 1, h⟩ h0]
      dsimp only
      unfold sout0_B_0
      refine (ih (Nat.lt_of_succ_lt h) a k).trans ?_
      have e : tok ⟨n, Nat.lt_of_succ_lt h⟩ a = tok ⟨n + 1, h⟩ a := Fin.ext (by
        show n / 2 * 512 + a.val = (n + 1) / 2 * 512 + a.val
        omega)
      rw [e]

/-- The reference's term of the launch contents. -/
abbrev G (c : Dev nD) : Vec Ideal S24576x2048 .bf16 :=
  refTerm (m ((c : Thread nD τ).loc main_arg0)) (m ((c : Thread nD τ).loc main_arg1)) (m ((c : Thread nD τ).loc main_arg2))

/-- A point leaves its block of the reference's array. -/
theorem out_ref (c : Dev nD) (t : Fin cfg0.N) (a : Fin 512) (j : Fin 1024) :
    (outsAt0 m c t.val t.isLt).1 (ix2 a j) = G m c (ix2 (tok t a) (col t j)) := by
  refine Eq.trans ?_ (ref_eq _ _ _ (tok t a) (col t j)).symm
  by_cases h0 : t.val % 2 = 0
  · rw [outsAt0_A m c t h0]
    dsimp only
    rw [out_first, product_eq]
    simp only [rows_eq, block0, block1, block2, block3, project, add_zero]
  · rw [outsAt0_B m c t h0]
    dsimp only
    rw [out_later, product_eq]
    have e : tok ⟨t.val - 1, Nat.lt_of_le_of_lt (Nat.sub_le _ _) t.isLt⟩ a = tok t a := Fin.ext (by
      show (t.val - 1) / 2 * 512 + a.val = t.val / 2 * 512 + a.val
      omega)
    simp only [kept, e, block2, block3, project, add_zero]

theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  funext y
  show (outsAt0 m c t.val t.isLt).1 y = G m c (((cfg0.win 4).blk t).view.emb y)
  obtain ⟨a, j, rfl⟩ : ∃ (a : Fin 512) (j : Fin 1024), y = ix2 a j := ⟨y 0, y 1, eq_ix2 y⟩
  have e : ((cfg0.win 4).blk t).view.emb (ix2 a j) = ix2 (tok t a) (col t j) := by
    have h := idx t
    refine eq_pair _ _ _ ?_ ?_
    · show win0_4.index t (0 : Fin 2) * 512 + 1 * a.val = t.val / 2 * 512 + a.val
      omega
    · show win0_4.index t (1 : Fin 2) * 1024 + 1 * j.val = t.val % 2 * 1024 + j.val
      omega
  rw [e]
  exact out_ref m c t a j

/-- Every entry of the result is in the block of one point, and every point writes back. -/
theorem cover (i : S24576x2048.Idx) : ∃ t : Fin cfg0.N, (cfg0.win 4).flush t = true ∧ i ∈ ((cfg0.win 4).blk t).view.set := by
  have hi0 : (i 0).val < 24576 := (i 0).isLt
  have hi1 : (i 1).val < 2048 := (i 1).isLt
  let t : Fin cfg0.N := ⟨(i 0).val / 512 * 2 + (i 1).val / 1024, lt_of_lt_of_eq (by omega : (i 0).val / 512 * 2 + (i 1).val / 1024 < 96) N_0.symm⟩
  have hf : ∀ t : Fin cfg0.N, (cfg0.win 4).flush t = true := (by decide +kernel : ∀ t : Fin grid0.N, _)
  have h := idx t
  refine ⟨t, hf t, ?_⟩
  show i ∈ ((View.whole main_v7).slice (win0_4.rect t)).set
  rw [View.set_slice_whole, Rect.mem_set_unit]
  intro a
  have ht : t.val = (i 0).val / 512 * 2 + (i 1).val / 1024 := rfl
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The array the kernel leaves is the reference's. -/
theorem final (c : Dev nD) : (dats m 0 c).arrAt 4 cfg0.N = G m c :=
  (dats m 0 c).arrAt_eq_of_cover 4 _ (fun t _ => flushed_eq m c t) cover

end Cert.InConvProof

end
-- ==== Proof.InConvClaim.lean ====
/-
  The claims about the projection into the convolution branch: the kernel at both instances and the reference run and leave their arguments unchanged, and
  over the extended reals the kernel leaves the array the reference computes.
-/
module

public import proofs.«01_k».proof.Proof.InConvValue
public import proofs.«01_k».proof.Proof.Gen.InConv.Frame
public import proofs.«01_k».proof.Proof.Gen.InConvRefIdeal.Run
public import Idealize.ShloMosaic.Lib.Quiescent

@[expose] public section

noncomputable section

namespace Cert.InConvProof

open Idealize.ShloMosaic Idealize.ShloMosaic.TcCoe Idealize.SL.Sem

theorem frame_kernel : Cert.quiescent_InConv := fun m ρ _ => Cert.InConv.Gen.frame m ρ

theorem frame_ideal : Cert.quiescent_InConvIdeal := fun m ρ _ => Cert.InConvIdeal.Gen.frame m ρ

theorem frame_ref : Cert.quiescent_InConvRefIdeal := fun m ρ _ =>
  (θ_run Cert.InConvRefIdeal.defs _ _).mono (fun r h => ⟨fun c => (h c).2, Idealize.ShloMosaic.sem_eq_zero_of_no_sems (by decide) r.2⟩)
    (Cert.InConvRefIdeal.Value.run (F := Ideal) m ρ)

theorem algebraic : Cert.algebraic_InConvIdeal_InConvRefIdeal := by
  intro m ρ m' ρ' _ hagree
  refine ⟨fun c => G m c, ?_, ?_⟩
  · exact (θ_run Cert.InConvIdeal.defs _ _).mono (fun r h c => ⟨(h c).1.trans (final m c), (h c).2⟩)
      (Cert.InConvIdeal.Value.run_blocks (F := Ideal) m ρ)
  · refine (θ_run Cert.InConvRefIdeal.defs _ _).mono (fun r h c => ⟨(h c).1.trans ?_, (h c).2⟩)
      (Cert.InConvRefIdeal.Value.run (F := Ideal) m' ρ')
    obtain ⟨h0, h1, h2⟩ := hagree c
    rw [h0, h1, h2]
    rfl

end Cert.InConvProof

end
-- ==== Proof.ConvMath.lean ====
/-
  The depthwise convolution's formulas on the extended reals, one entry at a time, and arrays of two axes read at
  natural numbers.
-/
module

public import proofs.«01_k».proof.Proof.RowMath
public import Idealize.ShloMosaic.Lib.Memref

@[expose] public section

noncomputable section

namespace Cert.ConvProof

open Idealize.ShloMosaic Cert.RowMath

/-- An array of two axes read at two numbers, zero outside it. -/
def at2 {n0 n1 : ℕ} (v : (⟨2, ![n0, n1]⟩ : Shape).Idx → EReal) (a b : ℕ) : EReal :=
  if h : a < n0 ∧ b < n1 then v (ix2 ⟨a, h.1⟩ ⟨b, h.2⟩) else 0

theorem at2_eq {n0 n1 : ℕ} (v : (⟨2, ![n0, n1]⟩ : Shape).Idx → EReal) (a : Fin n0) (b : Fin n1) :
    at2 v a.val b.val = v (ix2 a b) := dif_pos ⟨a.isLt, b.isLt⟩

theorem at2_of_lt {n0 n1 : ℕ} (v : (⟨2, ![n0, n1]⟩ : Shape).Idx → EReal) (a b : ℕ) (ha : a < n0) (hb : b < n1) :
    at2 v a b = v (ix2 ⟨a, ha⟩ ⟨b, hb⟩) := dif_pos ⟨ha, hb⟩

/-- `b` and the first terms of `t`, added one after another. -/
def running (b : EReal) (t : ℕ → EReal) : ℕ → EReal
  | 0 => b
  | n + 1 => running b t n + t n

theorem running_start (b : EReal) (t : ℕ → EReal) : ∀ n, running b t n = running 0 t n + b
  | 0 => (zero_add b).symm
  | n + 1 => by
    show running b t n + t n = running 0 t n + t n + b
    rw [running_start b t n, add_right_comm]

theorem running_congr (b : EReal) (t t' : ℕ → EReal) : ∀ n, (∀ k < n, t k = t' k) → running b t n = running b t' n
  | 0, _ => rfl
  | n + 1, h => by
    show running b t n + t n = running b t' n + t' n
    rw [running_congr b t t' n (fun k hk => h k (by omega)), h n (by omega)]

/-- A value times the logistic function of its gate. -/
def gated (v g : EReal) : EReal := v * sigmoid g

/-- The f32 word of 1024. -/
abbrev lanes : EReal := Ideal.ofBits .f32 0x44800000#32

/-- A row of 1024 less its mean. -/
def centred (h : Fin 1024 → EReal) (j : Fin 1024) : EReal := h j - Ideal.div (∑ k, h k) lanes

/-- A row after layer normalisation with gains `g` and biases `b`. -/
def layered (h g b : Fin 1024 → EReal) (j : Fin 1024) : EReal :=
  centred h j * Ideal.rsqrt (Ideal.div (∑ k, centred h k * centred h k) lanes + eps) * g j + b j

/-- … then times its own logistic function. -/
def swished (h g b : Fin 1024 → EReal) (j : Fin 1024) : EReal := layered h g b j * sigmoid (layered h g b j)

end Cert.ConvProof

end
-- ==== Proof.ConvTrip.lean ====
/-
  One trip of the convolution's loop: the eight pieces it stores, each 64 tokens of 128 lanes, hold the bias and the 31
  taps of the tokens around.
-/
module

public import proofs.«01_k».proof.Proof.ConvMath
public import proofs.«01_k».proof.Proof.Gen.ConvIdeal.Frame.RunA

@[expose] public section

set_option maxRecDepth 16384

noncomputable section

namespace Cert.ConvProof

open Cert.ConvIdeal Cert.ConvIdeal.Gen Idealize.ShloMosaic Idealize.ShloMosaic.TcCoe Idealize.SL.Sem Cert.RowMath

/-- A load at a unit-stride rectangle, read at an entry. -/
theorem load_at {n0 n1 m0 m1 : ℕ} (v : View sig .tc .vmem ⟨2, ![n0, n1]⟩ .f32) (f : v.ty.Contents (Elt Ideal))
    (off : Fin 2 → ℕ) (inb : ∀ a : Fin 2, off a + (![m0, m1] : Fin 2 → ℕ) a ≤ (![n0, n1] : Fin 2 → ℕ) a) (a : Fin m0) (b : Fin m1) :
    v.readAt (Elt Ideal) (Rect.unit (s := ⟨2, ![n0, n1]⟩) off ![m0, m1] inb).toLoadRect f (ix2 a b)
      = at2 (v.read (Elt Ideal) f) (off 0 + a.val) (off 1 + b.val) := by
  have h0 := inb 0
  have h1 := inb 1
  rw [at2_of_lt _ _ _ (show off 0 + a.val < n0 by have : off 0 + m0 ≤ n0 := h0; omega) (show off 1 + b.val < n1 by have : off 1 + m1 ≤ n1 := h1; omega)]
  show v.read (Elt Ideal) f _ = _
  refine congrArg _ (eq_pair _ _ _ ?_ ?_)
  · show off 0 + 1 * a.val = off 0 + a.val
    omega
  · show off 1 + 1 * b.val = off 1 + b.val
    omega

/-- What the loop leaves at an entry of its accumulator: the bias, then the 31 taps. -/
def tapped (w : Vec Ideal S31x1024 .f32) (b : Vec Ideal S1x1024 .f32) (x : Vec Ideal S288x1024 .f32) (y : S256x1024.Idx) : EReal :=
  running (at2 b 0 (y 1).val) (fun k => at2 w k (y 1).val * at2 x ((y 0).val + (1 + k)) (y 1).val) 31

theorem tapped_at (w : Vec Ideal S31x1024 .f32) (b : Vec Ideal S1x1024 .f32) (x : Vec Ideal S288x1024 .f32) (y : S256x1024.Idx) (R C : ℕ)
    (h0 : (y 0).val = R) (h1 : (y 1).val = C) :
    tapped w b x y = running (at2 b 0 C) (fun k => at2 w k C * at2 x (R + (1 + k)) C) 31 := by
  subst h0 h1
  rfl

theorem emb_row (off cl : Fin 2 → ℕ) (h : off = cl) (inb : ∀ q : Fin 2, off q + (![64, 128] : Fin 2 → ℕ) q ≤ S256x1024.size q) (r : Fin 64) (j : Fin 128) :
    ((Rect.unit (s := S256x1024) off ![64, 128] inb).emb (ix2 r j) 0).val = cl 0 + r.val := by
  subst h
  show off 0 + 1 * r.val = off 0 + r.val
  omega

theorem emb_lane (off cl : Fin 2 → ℕ) (h : off = cl) (inb : ∀ q : Fin 2, off q + (![64, 128] : Fin 2 → ℕ) q ≤ S256x1024.size q) (r : Fin 64) (j : Fin 128) :
    ((Rect.unit (s := S256x1024) off ![64, 128] inb).emb (ix2 r j) 1).val = cl 1 + j.val := by
  subst h
  show off 1 + 1 * j.val = off 1 + j.val
  omega

theorem off_row (a b : ℕ) : (![a, b] : Fin 2 → ℕ) 0 = a := rfl
theorem off_lane (a b : ℕ) : (![a, b] : Fin 2 → ℕ) 1 = b := rfl

set_option maxHeartbeats 4000000 in
theorem trip_eq (𝒱 : Variants) (bd : Option 𝒱.V) (c : Dev nD) (i : grid0.Coords) (arg1 : Memref sig .tc .vmem S16x1024 .bf16) (harg1 : arg1.IsWhole) (arg2 : Memref sig .tc .vmem S16x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S288x1024 .f32) (harg12 : arg12.IsWhole) (arg13 : Memref sig .tc .vmem S256x1024 .f32) (harg13 : arg13.IsWhole) (v17 : Ideal .f32) (X_arg7 : BufTy.Contents (Elt Ideal) arg7.view.ty) (X_arg8 : BufTy.Contents (Elt Ideal) arg8.view.ty) (X_arg12 : BufTy.Contents (Elt Ideal) arg12.view.ty) (k : Fin k0_t1_loop.trips)
    (p : View.Piece (Elt Ideal) S256x1024 .f32)
    (hp : p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 k) (x : p.1.shape.Idx) :
    p.2 x = tapped (arg7.view.read (Elt Ideal) X_arg7) (arg8.view.read (Elt Ideal) X_arg8) (arg12.view.read (Elt Ideal) X_arg12) (p.1.emb x) := by
  unfold tripL_k0_t1 trip_k0_t1 at hp
  dsimp only at hp
  simp only [List.mem_cons, List.not_mem_nil, or_false] at hp
  rcases hp with rfl | rfl | rfl | rfl | rfl | rfl | rfl | rfl
  · obtain ⟨r, j, rfl⟩ : ∃ (r : Fin 64) (j : Fin 128), x = ix2 r j := ⟨x 0, x 1, eq_ix2 x⟩
    rw [tapped_at _ _ _ _ (64 * k.val + r.val) (896 + j.val) (emb_row _ _ (k0_off16_eq k) _ r j) (emb_lane _ _ (k0_off16_eq k) _ r j)]
    dsimp only
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay73, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70]
    simp only [load_at, k0_off15_eq, off_row, off_lane, running, Fin.val_zero, Nat.zero_add, Nat.add_zero, zero_add, Nat.reduceAdd, Nat.add_assoc, Nat.add_comm, Nat.add_left_comm]
  · obtain ⟨r, j, rfl⟩ : ∃ (r : Fin 64) (j : Fin 128), x = ix2 r j := ⟨x 0, x 1, eq_ix2 x⟩
    rw [tapped_at _ _ _ _ (64 * k.val + r.val) (768 + j.val) (emb_row _ _ (k0_off14_eq k) _ r j) (emb_lane _ _ (k0_off14_eq k) _ r j)]
    dsimp only
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay73, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70]
    simp only [load_at, k0_off13_eq, off_row, off_lane, running, Fin.val_zero, Nat.zero_add, Nat.add_zero, zero_add, Nat.reduceAdd, Nat.add_assoc, Nat.add_comm, Nat.add_left_comm]
  · obtain ⟨r, j, rfl⟩ : ∃ (r : Fin 64) (j : Fin 128), x = ix2 r j := ⟨x 0, x 1, eq_ix2 x⟩
    rw [tapped_at _ _ _ _ (64 * k.val + r.val) (640 + j.val) (emb_row _ _ (k0_off12_eq k) _ r j) (emb_lane _ _ (k0_off12_eq k) _ r j)]
    dsimp only
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay73, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70]
    simp only [load_at, k0_off11_eq, off_row, off_lane, running, Fin.val_zero, Nat.zero_add, Nat.add_zero, zero_add, Nat.reduceAdd, Nat.add_assoc, Nat.add_comm, Nat.add_left_comm]
  · obtain ⟨r, j, rfl⟩ : ∃ (r : Fin 64) (j : Fin 128), x = ix2 r j := ⟨x 0, x 1, eq_ix2 x⟩
    rw [tapped_at _ _ _ _ (64 * k.val + r.val) (512 + j.val) (emb_row _ _ (k0_off10_eq k) _ r j) (emb_lane _ _ (k0_off10_eq k) _ r j)]
    dsimp only
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay73, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70]
    simp only [load_at, k0_off9_eq, off_row, off_lane, running, Fin.val_zero, Nat.zero_add, Nat.add_zero, zero_add, Nat.reduceAdd, Nat.add_assoc, Nat.add_comm, Nat.add_left_comm]
  · obtain ⟨r, j, rfl⟩ : ∃ (r : Fin 64) (j : Fin 128), x = ix2 r j := ⟨x 0, x 1, eq_ix2 x⟩
    rw [tapped_at _ _ _ _ (64 * k.val + r.val) (384 + j.val) (emb_row _ _ (k0_off8_eq k) _ r j) (emb_lane _ _ (k0_off8_eq k) _ r j)]
    dsimp only
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay73, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70]
    simp only [load_at, k0_off7_eq, off_row, off_lane, running, Fin.val_zero, Nat.zero_add, Nat.add_zero, zero_add, Nat.reduceAdd, Nat.add_assoc, Nat.add_comm, Nat.add_left_comm]
  · obtain ⟨r, j, rfl⟩ : ∃ (r : Fin 64) (j : Fin 128), x = ix2 r j := ⟨x 0, x 1, eq_ix2 x⟩
    rw [tapped_at _ _ _ _ (64 * k.val + r.val) (256 + j.val) (emb_row _ _ (k0_off6_eq k) _ r j) (emb_lane _ _ (k0_off6_eq k) _ r j)]
    dsimp only
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay73, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70]
    simp only [load_at, k0_off5_eq, off_row, off_lane, running, Fin.val_zero, Nat.zero_add, Nat.add_zero, zero_add, Nat.reduceAdd, Nat.add_assoc, Nat.add_comm, Nat.add_left_comm]
  · obtain ⟨r, j, rfl⟩ : ∃ (r : Fin 64) (j : Fin 128), x = ix2 r j := ⟨x 0, x 1, eq_ix2 x⟩
    rw [tapped_at _ _ _ _ (64 * k.val + r.val) (128 + j.val) (emb_row _ _ (k0_off4_eq k) _ r j) (emb_lane _ _ (k0_off4_eq k) _ r j)]
    dsimp only
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay73, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70]
    simp only [load_at, k0_off3_eq, off_row, off_lane, running, Fin.val_zero, Nat.zero_add, Nat.add_zero, zero_add, Nat.reduceAdd, Nat.add_assoc, Nat.add_comm, Nat.add_left_comm]
  · obtain ⟨r, j, rfl⟩ : ∃ (r : Fin 64) (j : Fin 128), x = ix2 r j := ⟨x 0, x 1, eq_ix2 x⟩
    rw [tapped_at _ _ _ _ (64 * k.val + r.val) (0 + j.val) (emb_row _ _ (k0_off2_eq k) _ r j) (emb_lane _ _ (k0_off2_eq k) _ r j)]
    dsimp only
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay73, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70]
    simp only [load_at, k0_off1_eq, off_row, off_lane, running, Fin.val_zero, Nat.zero_add, Nat.add_zero, zero_add, Nat.reduceAdd, Nat.add_assoc, Nat.add_comm, Nat.add_left_comm]

end Cert.ConvProof

end
-- ==== Proof.ConvLoop.lean ====
/-
  The convolution's loop: after its four trips the accumulator holds the bias and the 31 taps at every token and lane.
-/
module

public import proofs.«01_k».proof.Proof.ConvTrip

@[expose] public section

set_option maxRecDepth 16384

noncomputable section

namespace Cert.ConvProof

open Cert.ConvIdeal Cert.ConvIdeal.Gen Idealize.ShloMosaic Idealize.ShloMosaic.TcCoe Idealize.SL.Sem Cert.RowMath

/-- Every piece stored before trip `n` holds the taps. -/
theorem pieces_eq (𝒱 : Variants) (bd : Option 𝒱.V) (c : Dev nD) (i : grid0.Coords) (arg1 : Memref sig .tc .vmem S16x1024 .bf16) (harg1 : arg1.IsWhole) (arg2 : Memref sig .tc .vmem S16x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S288x1024 .f32) (harg12 : arg12.IsWhole) (arg13 : Memref sig .tc .vmem S256x1024 .f32) (harg13 : arg13.IsWhole) (v17 : Ideal .f32) (X_arg7 : BufTy.Contents (Elt Ideal) arg7.view.ty) (X_arg8 : BufTy.Contents (Elt Ideal) arg8.view.ty) (X_arg12 : BufTy.Contents (Elt Ideal) arg12.view.ty) : ∀ n, n ≤ k0_t1_loop.trips →
    ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 n, ∀ x : p.1.shape.Idx,
      p.2 x = tapped (arg7.view.read (Elt Ideal) X_arg7) (arg8.view.read (Elt Ideal) X_arg8) (arg12.view.read (Elt Ideal) X_arg12) (p.1.emb x)
  | 0, _, p, hp, _ => by
    rw [pb_k0_t1.eq_1] at hp
    exact absurd hp List.not_mem_nil
  | n + 1, h, p, hp, x => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 ⟨n, h⟩
    dsimp only at e
    rw [e] at hp
    rcases List.mem_append.mp hp with hp | hp
    · exact trip_eq 𝒱 bd c i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 ⟨n, h⟩ p hp x
    · exact pieces_eq 𝒱 bd c i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 n (Nat.le_of_lt h) p hp x

/-- A tile of 64 tokens of 128 lanes has the entries in its rows and lanes. -/
theorem mem_tile (off cl : Fin 2 → ℕ) (h : off = cl) (inb : ∀ q : Fin 2, off q + (![64, 128] : Fin 2 → ℕ) q ≤ S256x1024.size q) (y : S256x1024.Idx)
    (h0 : (y 0).val / 64 * 64 = cl 0) (h1 : (y 1).val / 128 * 128 = cl 1) :
    y ∈ (Rect.unit (s := S256x1024) off ![64, 128] inb).set := by
  subst h
  rw [Rect.mem_set_unit]
  intro a
  match a with
  | ⟨0, _⟩ => show off 0 ≤ (y 0).val ∧ (y 0).val < off 0 + 64; omega
  | ⟨1, _⟩ => show off 1 ≤ (y 1).val ∧ (y 1).val < off 1 + 128; omega

/-- Trip `k` stores the tokens `64 k` on. -/
theorem trip_cover (𝒱 : Variants) (bd : Option 𝒱.V) (c : Dev nD) (i : grid0.Coords) (arg1 : Memref sig .tc .vmem S16x1024 .bf16) (harg1 : arg1.IsWhole) (arg2 : Memref sig .tc .vmem S16x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S288x1024 .f32) (harg12 : arg12.IsWhole) (arg13 : Memref sig .tc .vmem S256x1024 .f32) (harg13 : arg13.IsWhole) (v17 : Ideal .f32) (X_arg7 : BufTy.Contents (Elt Ideal) arg7.view.ty) (X_arg8 : BufTy.Contents (Elt Ideal) arg8.view.ty) (X_arg12 : BufTy.Contents (Elt Ideal) arg12.view.ty) (k : Fin k0_t1_loop.trips) (y : S256x1024.Idx) (hy : (y 0).val / 64 = k.val) :
    ∃ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 k, y ∈ p.1.set := by
  have h0 : (y 0).val / 64 * 64 = 64 * k.val := by rw [hy]; exact Nat.mul_comm _ _
  have h1 : (y 1).val < 1024 := (y 1).isLt
  have hc : (y 1).val / 128 * 128 = 0 ∨ (y 1).val / 128 * 128 = 128 ∨ (y 1).val / 128 * 128 = 256 ∨ (y 1).val / 128 * 128 = 384 ∨ (y 1).val / 128 * 128 = 512
      ∨ (y 1).val / 128 * 128 = 640 ∨ (y 1).val / 128 * 128 = 768 ∨ (y 1).val / 128 * 128 = 896 := by omega
  unfold tripL_k0_t1 trip_k0_t1
  dsimp only
  rcases hc with hc | hc | hc | hc | hc | hc | hc | hc
  · refine ⟨_, List.mem_cons_of_mem _ (List.mem_cons_of_mem _ (List.mem_cons_of_mem _ (List.mem_cons_of_mem _ (List.mem_cons_of_mem _ (List.mem_cons_of_mem _ (List.mem_cons_of_mem _ List.mem_cons_self)))))), ?_⟩
    dsimp only
    exact mem_tile _ _ (k0_off2_eq k) _ y h0 hc
  · refine ⟨_, List.mem_cons_of_mem _ (List.mem_cons_of_mem _ (List.mem_cons_of_mem _ (List.mem_cons_of_mem _ (List.mem_cons_of_mem _ (List.mem_cons_of_mem _ List.mem_cons_self))))), ?_⟩
    dsimp only
    exact mem_tile _ _ (k0_off4_eq k) _ y h0 hc
  · refine ⟨_, List.mem_cons_of_mem _ (List.mem_cons_of_mem _ (List.mem_cons_of_mem _ (List.mem_cons_of_mem _ (List.mem_cons_of_mem _ List.mem_cons_self)))), ?_⟩
    dsimp only
    exact mem_tile _ _ (k0_off6_eq k) _ y h0 hc
  · refine ⟨_, List.mem_cons_of_mem _ (List.mem_cons_of_mem _ (List.mem_cons_of_mem _ (List.mem_cons_of_mem _ List.mem_cons_self))), ?_⟩
    dsimp only
    exact mem_tile _ _ (k0_off8_eq k) _ y h0 hc
  · refine ⟨_, List.mem_cons_of_mem _ (List.mem_cons_of_mem _ (List.mem_cons_of_mem _ List.mem_cons_self)), ?_⟩
    dsimp only
    exact mem_tile _ _ (k0_off10_eq k) _ y h0 hc
  · refine ⟨_, List.mem_cons_of_mem _ (List.mem_cons_of_mem _ List.mem_cons_self), ?_⟩
    dsimp only
    exact mem_tile _ _ (k0_off12_eq k) _ y h0 hc
  · refine ⟨_, List.mem_cons_of_mem _ List.mem_cons_self, ?_⟩
    dsimp only
    exact mem_tile _ _ (k0_off14_eq k) _ y h0 hc
  · refine ⟨_, List.mem_cons_self, ?_⟩
    dsimp only
    exact mem_tile _ _ (k0_off16_eq k) _ y h0 hc

/-- A trip's pieces stay. -/
theorem trip_mem (𝒱 : Variants) (bd : Option 𝒱.V) (c : Dev nD) (i : grid0.Coords) (arg1 : Memref sig .tc .vmem S16x1024 .bf16) (harg1 : arg1.IsWhole) (arg2 : Memref sig .tc .vmem S16x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S288x1024 .f32) (harg12 : arg12.IsWhole) (arg13 : Memref sig .tc .vmem S256x1024 .f32) (harg13 : arg13.IsWhole) (v17 : Ideal .f32) (X_arg7 : BufTy.Contents (Elt Ideal) arg7.view.ty) (X_arg8 : BufTy.Contents (Elt Ideal) arg8.view.ty) (X_arg12 : BufTy.Contents (Elt Ideal) arg12.view.ty) : ∀ (n : ℕ) (_ : n ≤ k0_t1_loop.trips) (k : Fin k0_t1_loop.trips) (_ : k.val < n) (p : View.Piece (Elt Ideal) S256x1024 .f32)
    (_ : p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 k), p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 n
  | 0, _, k, hk, _, _ => absurd hk (Nat.not_lt_zero _)
  | n + 1, h, k, hk, p, hp => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 ⟨n, h⟩
    dsimp only at e
    rw [e]
    refine List.mem_append.mpr ?_
    rcases Nat.lt_or_eq_of_le (Nat.le_of_lt_succ hk) with hk' | hk'
    · exact Or.inr (trip_mem 𝒱 bd c i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 n (Nat.le_of_lt h) k hk' p hp)
    · have ek : k = ⟨n, h⟩ := Fin.ext hk'
      rw [← ek]
      exact Or.inl hp

theorem trips_eq : k0_t1_loop.trips = 4 := by decide +kernel

/-- The loop's accumulator, read back whole. -/
theorem loop_eq (𝒱 : Variants) (bd : Option 𝒱.V) (c : Dev nD) (i : grid0.Coords) (arg1 : Memref sig .tc .vmem S16x1024 .bf16) (harg1 : arg1.IsWhole) (arg2 : Memref sig .tc .vmem S16x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S288x1024 .f32) (harg12 : arg12.IsWhole) (arg13 : Memref sig .tc .vmem S256x1024 .f32) (harg13 : arg13.IsWhole) (v17 : Ideal .f32) (X_arg7 : BufTy.Contents (Elt Ideal) arg7.view.ty) (X_arg8 : BufTy.Contents (Elt Ideal) arg8.view.ty) (X_arg12 : BufTy.Contents (Elt Ideal) arg12.view.ty) (y : S256x1024.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 4) y = tapped (arg7.view.read (Elt Ideal) X_arg7) (arg8.view.read (Elt Ideal) X_arg8) (arg12.view.read (Elt Ideal) X_arg12) y := by
  refine View.canon_apply_of_pieces _ _ (fun p hp x => pieces_eq 𝒱 bd c i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 4 (le_of_eq trips_eq.symm) p hp x) y ?_
  have h0 : (y 0).val < 256 := (y 0).isLt
  have hk : (y 0).val / 64 < k0_t1_loop.trips := by rw [trips_eq]; omega
  obtain ⟨p, hp, hy⟩ := trip_cover 𝒱 bd c i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 ⟨(y 0).val / 64, hk⟩ y rfl
  exact ⟨p, trip_mem 𝒱 bd c i arg1 harg1 arg2 harg2 arg3 harg3 arg4 harg4 arg5 harg5 arg6 harg6 arg7 harg7 arg8 harg8 arg9 harg9 arg10 harg10 arg11 harg11 arg12 harg12 arg13 harg13 v17 X_arg7 X_arg8 X_arg12 4 (le_of_eq trips_eq.symm) ⟨(y 0).val / 64, hk⟩ (by show (y 0).val / 64 < 4; omega) p hp, hy⟩

end Cert.ConvProof

end
-- ==== Proof.ConvSlab.lean ====
/-
  The convolution's block: the gated tokens a point gathers around its own, and the layer norm and swish that end it.
-/
module

public import proofs.«01_k».proof.Proof.ConvMath
public import proofs.«01_k».proof.Proof.Gen.ConvIdeal.Frame.RunA
public import Idealize.ShloMosaic.Lib.WholeRead

@[expose] public section

set_option maxRecDepth 16384

noncomputable section

namespace Cert.ConvProof

open Cert.ConvIdeal Cert.ConvIdeal.Gen Idealize.ShloMosaic Idealize.ShloMosaic.TcCoe Idealize.SL.Sem Cert.RowMath

theorem zeros : (![0, 0] : Fin 2 → ℕ) = fun _ => 0 := by funext a; fin_cases a <;> rfl

/-- A whole load of a block held at `X` is `X`. -/
theorem load_whole {S : Shape} {e : EltTy} (m : Memref sig .tc .vmem S e) (h : m.IsWhole) (off : Fin S.rank → ℕ) (hz : off = fun _ => 0)
    (inb : ∀ a, off a + S.size a ≤ S.size a) (X : S.Idx → Elt Ideal e) :
    View.readAt (Elt Ideal) m.view (Rect.unit off S.size inb).toLoadRect (h.unread X) = X := by
  funext y
  rw [h.readAt_unread]
  exact congrFun (View.ld_unit_zero hz inb X) y

/-- Whether the 16 tokens before the point's are of its sequence, and whether the 16 after are: one or zero. -/
def leftBit (i : grid0.Coords) : BitVec 32 :=
  Scalar.extui (Scalar.cmpi .ne (Scalar.select (Scalar.cmpi .sge (Scalar.muli (BitVec.ofNat 32 (i 0).val) 256#32) 16384#32)
    (Scalar.remsi (Scalar.subi (Scalar.muli (BitVec.ofNat 32 (i 0).val) 256#32) 16384#32) 2048#32)
    (Scalar.select (Scalar.cmpi .sge (Scalar.muli (BitVec.ofNat 32 (i 0).val) 256#32) 0#32)
      (Scalar.remsi (Scalar.subi (Scalar.muli (BitVec.ofNat 32 (i 0).val) 256#32) 0#32) 4096#32)
      (Scalar.muli (BitVec.ofNat 32 (i 0).val) 256#32))) 0#32)

def rightBit (i : grid0.Coords) : BitVec 32 :=
  Scalar.extui (Scalar.cmpi .ne (Scalar.addi (Scalar.select (Scalar.cmpi .sge (Scalar.muli (BitVec.ofNat 32 (i 0).val) 256#32) 16384#32)
    (Scalar.remsi (Scalar.subi (Scalar.muli (BitVec.ofNat 32 (i 0).val) 256#32) 16384#32) 2048#32)
    (Scalar.select (Scalar.cmpi .sge (Scalar.muli (BitVec.ofNat 32 (i 0).val) 256#32) 0#32)
      (Scalar.remsi (Scalar.subi (Scalar.muli (BitVec.ofNat 32 (i 0).val) 256#32) 0#32) 4096#32)
      (Scalar.muli (BitVec.ofNat 32 (i 0).val) 256#32))) 256#32)
    (Scalar.select (Scalar.cmpi .sge (Scalar.muli (BitVec.ofNat 32 (i 0).val) 256#32) 16384#32) 2048#32
      (Scalar.select (Scalar.cmpi .sge (Scalar.muli (BitVec.ofNat 32 (i 0).val) 256#32) 0#32) 4096#32 4096#32)))

def leftOk (i : grid0.Coords) : EReal := Scalar.sitofp (F := Ideal) .f32 (leftBit i)

theorem right_eq (i : grid0.Coords) : k0_pay69 (F := Ideal) i = Scalar.sitofp (F := Ideal) .f32 (rightBit i) := rfl

/-- The gated tokens a point holds: 16 before its own, its 256, 16 after. -/
def slab (i : grid0.Coords) (x0 : Vec Ideal S16x1024 .bf16) (x1 : Vec Ideal S16x1024 .bf16) (x2 : Vec Ideal S256x1024 .bf16) (x3 : Vec Ideal S256x1024 .bf16) (x4 : Vec Ideal S16x1024 .bf16) (x5 : Vec Ideal S16x1024 .bf16) : Vec Ideal S288x1024 .f32 := fun y =>
  if h : (y 0).val < 16 then gated (x0 (ix2 ⟨(y 0).val, h⟩ (y 1))) (x1 (ix2 ⟨(y 0).val, h⟩ (y 1))) * leftOk i
  else if h' : (y 0).val < 272 then gated (x2 (ix2 ⟨(y 0).val - 16, by omega⟩ (y 1))) (x3 (ix2 ⟨(y 0).val - 16, by omega⟩ (y 1)))
  else gated (x4 (ix2 ⟨(y 0).val - 272, by have : (y 0).val < 288 := (y 0).isLt; omega⟩ (y 1))) (x5 (ix2 ⟨(y 0).val - 272, by have : (y 0).val < 288 := (y 0).isLt; omega⟩ (y 1))) * k0_pay69 (F := Ideal) i

theorem first_eq (i : grid0.Coords) (v g : Vec Ideal S16x1024 .bf16) (r : Fin 16) (j : Fin 1024) :
    k0_pay70 i v g (ix2 r j) = gated (v (ix2 r j)) (g (ix2 r j)) * leftOk i := by
  unfold k0_pay70
  pointwise [gated, sigmoid, leftOk, leftBit]
  simp only [sub_eq_add_neg, zero_add]

theorem middle_eq (v g : Vec Ideal S256x1024 .bf16) (r : Fin 256) (j : Fin 1024) :
    k0_pay71 v g (ix2 r j) = gated (v (ix2 r j)) (g (ix2 r j)) := by
  unfold k0_pay71
  pointwise [gated, sigmoid]
  simp only [sub_eq_add_neg, zero_add]

theorem last_eq (k : Ideal .f32) (v g : Vec Ideal S16x1024 .bf16) (r : Fin 16) (j : Fin 1024) :
    k0_pay72 k v g (ix2 r j) = gated (v (ix2 r j)) (g (ix2 r j)) * k := by
  unfold k0_pay72
  pointwise [gated, sigmoid]
  simp only [sub_eq_add_neg, zero_add]

theorem slab_first (i : grid0.Coords) (x0 : Vec Ideal S16x1024 .bf16) (x1 : Vec Ideal S16x1024 .bf16) (x2 : Vec Ideal S256x1024 .bf16) (x3 : Vec Ideal S256x1024 .bf16) (x4 : Vec Ideal S16x1024 .bf16) (x5 : Vec Ideal S16x1024 .bf16) (y : S288x1024.Idx) (r : Fin 16) (j : Fin 1024) (h0 : (y 0).val = r.val) (h1 : (y 1).val = j.val) :
    slab i x0 x1 x2 x3 x4 x5 y = gated (x0 (ix2 r j)) (x1 (ix2 r j)) * leftOk i := by
  obtain rfl : y = ix2 ⟨r.val, lt_of_lt_of_le r.isLt (by decide)⟩ j := eq_pair _ _ _ h0 h1
  have h : r.val < 16 := r.isLt
  exact dif_pos h

theorem slab_middle (i : grid0.Coords) (x0 : Vec Ideal S16x1024 .bf16) (x1 : Vec Ideal S16x1024 .bf16) (x2 : Vec Ideal S256x1024 .bf16) (x3 : Vec Ideal S256x1024 .bf16) (x4 : Vec Ideal S16x1024 .bf16) (x5 : Vec Ideal S16x1024 .bf16) (y : S288x1024.Idx) (r : Fin 256) (j : Fin 1024) (h0 : (y 0).val = 16 + r.val) (h1 : (y 1).val = j.val) :
    slab i x0 x1 x2 x3 x4 x5 y = gated (x2 (ix2 r j)) (x3 (ix2 r j)) := by
  obtain rfl : y = ix2 ⟨16 + r.val, lt_of_lt_of_le (Nat.add_lt_add_left r.isLt 16) (by decide)⟩ j := eq_pair _ _ _ h0 h1
  have hn : ¬(16 + r.val < 16) := by omega
  have hp : 16 + r.val < 272 := by omega
  refine (dif_neg hn).trans ((dif_pos hp).trans ?_)
  have e : (⟨16 + r.val - 16, by omega⟩ : Fin 256) = r := Fin.ext (by show 16 + r.val - 16 = r.val; omega)
  show gated (x2 (ix2 (⟨16 + r.val - 16, _⟩ : Fin 256) j)) (x3 (ix2 (⟨16 + r.val - 16, _⟩ : Fin 256) j)) = _
  rw [e]

theorem slab_last (i : grid0.Coords) (x0 : Vec Ideal S16x1024 .bf16) (x1 : Vec Ideal S16x1024 .bf16) (x2 : Vec Ideal S256x1024 .bf16) (x3 : Vec Ideal S256x1024 .bf16) (x4 : Vec Ideal S16x1024 .bf16) (x5 : Vec Ideal S16x1024 .bf16) (y : S288x1024.Idx) (r : Fin 16) (j : Fin 1024) (h0 : (y 0).val = 272 + r.val) (h1 : (y 1).val = j.val) :
    slab i x0 x1 x2 x3 x4 x5 y = gated (x4 (ix2 r j)) (x5 (ix2 r j)) * k0_pay69 (F := Ideal) i := by
  obtain rfl : y = ix2 ⟨272 + r.val, lt_of_lt_of_le (Nat.add_lt_add_left r.isLt 272) (by decide)⟩ j := eq_pair _ _ _ h0 h1
  have hn : ¬(272 + r.val < 16) := by omega
  have hp : ¬(272 + r.val < 272) := by omega
  refine (dif_neg hn).trans ((dif_neg hp).trans ?_)
  have e : (⟨272 + r.val - 272, by omega⟩ : Fin 16) = r := Fin.ext (by show 272 + r.val - 272 = r.val; omega)
  show gated (x4 (ix2 (⟨272 + r.val - 272, _⟩ : Fin 16) j)) (x5 (ix2 (⟨272 + r.val - 272, _⟩ : Fin 16) j)) * _ = _
  rw [e]

/-- What the point stores before its loop. -/
theorem stored_eq (c : Dev nD) (i : grid0.Coords) (arg1 : Memref sig .tc .vmem S16x1024 .bf16) (harg1 : arg1.IsWhole) (arg2 : Memref sig .tc .vmem S16x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S16x1024 .bf16) (harg6 : arg6.IsWhole) (x0 : Vec Ideal S16x1024 .bf16) (x1 : Vec Ideal S16x1024 .bf16) (x2 : Vec Ideal S256x1024 .bf16) (x3 : Vec Ideal S256x1024 .bf16) (x4 : Vec Ideal S16x1024 .bf16) (x5 : Vec Ideal S16x1024 .bf16) (y : S288x1024.Idx) :
    View.canon (kernelRun0_A.sl.HS0_3 (F := Ideal) c i arg1 harg1 arg2 harg2 arg3 harg3 arg4 harg4 arg5 harg5 arg6 harg6 x0 x1 x2 x3 x4 x5) y = slab i x0 x1 x2 x3 x4 x5 y := by
  refine View.canon_apply_of_pieces _ _ ?_ y ?_
  · intro p hp x
    unfold kernelRun0_A.sl.HS0_3 at hp
    simp only [List.mem_cons, List.not_mem_nil, or_false] at hp
    rcases hp with rfl | rfl | rfl
    · obtain ⟨r, j, rfl⟩ : ∃ (r : Fin 16) (j : Fin 1024), x = ix2 r j := ⟨x 0, x 1, eq_ix2 x⟩
      refine (last_eq _ _ _ r j).trans ?_
      rw [load_whole arg5 harg5 _ zeros, load_whole arg6 harg6 _ zeros]
      refine (slab_last _ _ _ _ _ _ _ _ r j ?_ ?_).symm
      · show 272 + 1 * r.val = 272 + r.val
        omega
      · show 0 + 1 * j.val = j.val
        omega
    · obtain ⟨r, j, rfl⟩ : ∃ (r : Fin 256) (j : Fin 1024), x = ix2 r j := ⟨x 0, x 1, eq_ix2 x⟩
      refine (middle_eq _ _ r j).trans ?_
      rw [load_whole arg3 harg3 _ zeros, load_whole arg4 harg4 _ zeros]
      refine (slab_middle _ _ _ _ _ _ _ _ r j ?_ ?_).symm
      · show 16 + 1 * r.val = 16 + r.val
        omega
      · show 0 + 1 * j.val = j.val
        omega
    · obtain ⟨r, j, rfl⟩ : ∃ (r : Fin 16) (j : Fin 1024), x = ix2 r j := ⟨x 0, x 1, eq_ix2 x⟩
      refine (first_eq _ _ _ r j).trans ?_
      rw [load_whole arg1 harg1 _ zeros, load_whole arg2 harg2 _ zeros]
      refine (slab_first _ _ _ _ _ _ _ _ r j ?_ ?_).symm
      · show 0 + 1 * r.val = r.val
        omega
      · show 0 + 1 * j.val = j.val
        omega
  · unfold kernelRun0_A.sl.HS0_3
    have h0 : (y 0).val < 288 := (y 0).isLt
    have h1 : (y 1).val < 1024 := (y 1).isLt
    rcases (by omega : 272 ≤ (y 0).val ∨ (16 ≤ (y 0).val ∧ (y 0).val < 272) ∨ (y 0).val < 16) with h | h | h
    · refine ⟨_, List.mem_cons_self, ?_⟩
      rw [Rect.mem_set_unit]
      intro a
      match a with
      | ⟨0, _⟩ => show 272 ≤ (y 0).val ∧ (y 0).val < 272 + 16; omega
      | ⟨1, _⟩ => show 0 ≤ (y 1).val ∧ (y 1).val < 0 + 1024; omega
    · refine ⟨_, List.mem_cons_of_mem _ List.mem_cons_self, ?_⟩
      rw [Rect.mem_set_unit]
      intro a
      match a with
      | ⟨0, _⟩ => show 16 ≤ (y 0).val ∧ (y 0).val < 16 + 256; omega
      | ⟨1, _⟩ => show 0 ≤ (y 1).val ∧ (y 1).val < 0 + 1024; omega
    · refine ⟨_, List.mem_cons_of_mem _ (List.mem_cons_of_mem _ List.mem_cons_self), ?_⟩
      rw [Rect.mem_set_unit]
      intro a
      match a with
      | ⟨0, _⟩ => show 0 ≤ (y 0).val ∧ (y 0).val < 0 + 16; omega
      | ⟨1, _⟩ => show 0 ≤ (y 1).val ∧ (y 1).val < 0 + 1024; omega

set_option maxHeartbeats 1000000 in
/-- The end of the block: layer norm, then swish. -/
theorem end_eq (h : Vec Ideal S256x1024 .f32) (g b : Vec Ideal S1x1024 .f32) (r : Fin 256) (j : Fin 1024) :
    k0_pay1 h g b (ix2 r j) = swished (fun k => h (ix2 r k)) (fun k => g (ix2 0 k)) (fun k => b (ix2 0 k)) j := by
  unfold k0_pay1
  pointwise [swished, layered, centred, sigmoid]
  simp only [sub_eq_add_neg, zero_add]

end Cert.ConvProof

end
-- ==== Proof.ConvBlock.lean ====
/-
  The convolution's block as a whole: what a point writes back, from its ten blocks.
-/
module

public import proofs.«01_k».proof.Proof.ConvLoop
public import proofs.«01_k».proof.Proof.ConvSlab
public import proofs.«01_k».proof.Proof.Gen.ConvIdeal.Frame

@[expose] public section

set_option maxRecDepth 16384

noncomputable section

namespace Cert.ConvProof

open Cert.ConvIdeal Cert.ConvIdeal.Gen Idealize.ShloMosaic Idealize.ShloMosaic.TcCoe Idealize.SL.Sem Cert.RowMath

/-- The loop runs four trips. -/
theorem count_eq : Scf.trips (0#32) (Scalar.addi 0#32 4#32) 1#32 = 4 := by decide +kernel

set_option maxHeartbeats 1000000 in
theorem block_eq (c : Dev nD) (i : grid0.Coords) (arg1 : Memref sig .tc .vmem S16x1024 .bf16) (harg1 : arg1.IsWhole) (arg2 : Memref sig .tc .vmem S16x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S288x1024 .f32) (harg12 : arg12.IsWhole) (arg13 : Memref sig .tc .vmem S256x1024 .f32) (harg13 : arg13.IsWhole) (x0 : Vec Ideal S16x1024 .bf16) (x1 : Vec Ideal S16x1024 .bf16) (x2 : Vec Ideal S256x1024 .bf16) (x3 : Vec Ideal S256x1024 .bf16) (x4 : Vec Ideal S16x1024 .bf16) (x5 : Vec Ideal S16x1024 .bf16) (x6 : Vec Ideal S31x1024 .f32) (x7 : Vec Ideal S1x1024 .f32) (x8 : Vec Ideal S1x1024 .f32) (x9 : Vec Ideal S1x1024 .f32) (r : Fin 256) (j : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 r j)
      = swished (fun l => tapped x6 x7 (slab i x0 x1 x2 x3 x4 x5) (ix2 r l)) (fun l => x8 (ix2 0 l)) (fun l => x9 (ix2 0 l)) j := by
  unfold out0_A_10
  rw [View.read_writes_junk_eq_canon]
  unfold kernelRun0_A kernelRun0_A.sl.r
  dsimp only
  rw [View.canon_unit_zero zeros]
  refine (end_eq _ _ _ r j).trans ?_
  rw [load_whole arg9 harg9 _ zeros, load_whole arg10 harg10 _ zeros, View.readCov_eq_canon', count_eq]
  refine congrArg (fun f => swished f _ _ j) ?_
  funext l
  refine (loop_eq Variants.none none c i arg1 harg1 arg2 harg2 arg3 harg3 arg4 harg4 arg5 harg5 arg6 harg6 arg7 harg7 arg8 harg8 arg9 harg9 arg10 harg10 arg11 harg11 arg12 harg12 arg13 harg13 _ _ _ _ _).trans ?_
  rw [harg7.read_unread, harg8.read_unread, View.read_writes_junk_eq_canon,
    funext (fun y => stored_eq c i arg1 harg1 arg2 harg2 arg3 harg3 arg4 harg4 arg5 harg5 arg6 harg6 x0 x1 x2 x3 x4 x5 y)]
  have e : (Rect.unit (s := S256x1024) ![0, 0] S256x1024.size inb_S256x1024_S256x1024_0_0).toLoadRect.idx (ix2 r l) = ix2 r l := by
    refine eq_pair _ _ _ ?_ ?_
    · show 0 + 1 * r.val = r.val
      omega
    · show 0 + 1 * l.val = l.val
      omega
  exact congrArg _ e

end Cert.ConvProof

end
-- ==== Proof.ConvSeq.lean ====
/-
  The depthwise convolution of a token: the gated tokens of its own sequence around it, zero past the sequence's ends.
-/
module

public import proofs.«01_k».proof.Proof.ConvMath

@[expose] public section

noncomputable section

namespace Cert.ConvProof

open Idealize.ShloMosaic Cert.RowMath

/-- Lane `l` of token `n` after its gate: the first 1024 columns hold the values, the last 1024 the gates. -/
def gateAt {n0 n1 : ℕ} (z : (⟨2, ![n0, n1]⟩ : Shape).Idx → EReal) (n l : ℕ) : EReal := gated (at2 z n l) (at2 z n (1024 + l))

/-- The gated token `m - 15` where it is one of the sequence `s ≤ · < e`, else zero. -/
def tapRow {n0 n1 : ℕ} (z : (⟨2, ![n0, n1]⟩ : Shape).Idx → EReal) (s e m l : ℕ) : EReal :=
  if s + 15 ≤ m ∧ m < e + 15 then gateAt z (m - 15) l else 0

/-- Weight `k` of lane `l`. -/
def weightAt (w : (⟨3, ![1, 31, 1024]⟩ : Shape).Idx → EReal) (k : ℕ) (l : Fin 1024) : EReal :=
  if h : k < 31 then w (ix3 0 ⟨k, h⟩ l) else 0

theorem weightAt_eq (w : (⟨3, ![1, 31, 1024]⟩ : Shape).Idx → EReal) (k : Fin 31) (l : Fin 1024) : w (ix3 0 k l) = weightAt w k.val l := by
  unfold weightAt
  rw [dif_pos k.isLt]

/-- Lane `l` of token `n` after the convolution of its sequence `s ≤ · < e`. -/
def convolved {n0 n1 : ℕ} (z : (⟨2, ![n0, n1]⟩ : Shape).Idx → EReal) (w : (⟨3, ![1, 31, 1024]⟩ : Shape).Idx → EReal)
    (b : Fin 1024 → EReal) (s e n : ℕ) (l : Fin 1024) : EReal :=
  running 0 (fun k => weightAt w k l * tapRow z s e (n + k) l.val) 31 + b l

/-- … then layer norm and swish. -/
def branch {n0 n1 : ℕ} (z : (⟨2, ![n0, n1]⟩ : Shape).Idx → EReal) (w : (⟨3, ![1, 31, 1024]⟩ : Shape).Idx → EReal)
    (b g h : Fin 1024 → EReal) (s e n : ℕ) (j : Fin 1024) : EReal :=
  swished (convolved z w b s e n) g h j

end Cert.ConvProof

end
-- ==== Proof.ConvRef.lean ====
/-
  The convolution as the reference composes it, one entry at a time.
-/
module

public import proofs.«01_k».proof.Proof.ConvSeq
public import proofs.«01_k».proof.Proof.Gen.ConvRefIdeal.Run
public import Idealize.ShloMosaic.Lib.KernelVsHost
public import Idealize.ShloMosaic.Lib.ValueLayout

@[expose] public section

set_option maxRecDepth 16384

noncomputable section

namespace Cert.ConvProof

open Cert.ConvRefIdeal Cert.ConvRefIdeal.Gen Cert.ConvRefIdeal.Value Idealize.ShloMosaic Idealize.ShloMosaic.TcCoe Idealize.SL.Sem Cert.RowMath

/-- The reference's arguments. -/
abbrev Vals := Valuation τ sig (Elt Ideal)
abbrev tokens (V : Vals) : S24576x2048.Idx → EReal := V (Proc.devRef .tc main_arg0)
abbrev weights (V : Vals) : S1x31x1024.Idx → EReal := V (Proc.devRef .tc main_arg1)
abbrev biases (V : Vals) : S1x1024.Idx → EReal := V (Proc.devRef .tc main_arg2)
abbrev gains (V : Vals) : S1x1024.Idx → EReal := V (Proc.devRef .tc main_arg3)
abbrev shifts (V : Vals) : S1x1024.Idx → EReal := V (Proc.devRef .tc main_arg4)

/-! ## The prompts: four sequences of 4096 tokens -/

/-- Its arrays, in order. -/
abbrev firstInput (V : Vals) : S4x4096x2048.Idx → EReal := res_main_v2 V
abbrev firstPadded (V : Vals) : S4x4126x1024.Idx → EReal := res_main_v12 V
abbrev firstTen (V : Vals) : S4x4096x1024.Idx → EReal := res_main_v83 V
abbrev firstTwenty (V : Vals) : S4x4096x1024.Idx → EReal := res_main_v153 V
abbrev firstThirty (V : Vals) : S4x4096x1024.Idx → EReal := res_main_v223 V
abbrev firstConv (V : Vals) : S4x4096x1024.Idx → EReal := res_main_v234 V
abbrev firstNorm (V : Vals) : S4x4096x1024.Idx → EReal := res_main_v260 V

/-- Where sequence `q` begins, and its token `p`. -/
abbrev firstStart (q : Fin 4) : ℕ := 0 + q.val * 4096
abbrev firstToken (q : Fin 4) (p : Fin 4096) : ℕ := firstStart q + p.val

/-- Tap `k` of a token. -/
def firstTap (V : Vals) (q : Fin 4) (p : Fin 4096) (l : Fin 1024) (k : ℕ) : EReal :=
  weightAt (weights V) k l * tapRow (tokens V) (firstStart q) (firstStart q + 4096) (firstToken q p + k) l.val

theorem first_rows (V : Vals) (q : Fin 4) (p : Fin 4096) (c : Fin 2048) :
    firstInput V (ix3 q p c) = at2 (tokens V) (firstToken q p) c.val := by
  have h : firstToken q p < 24576 := by
    have hq := q.isLt
    have hp := p.isLt
    show 0 + q.val * 4096 + p.val < 24576
    omega
  unfold firstInput res_main_v2 res_main_v0
  rw [at2_of_lt _ _ _ h c.isLt]
  refine (shapeCast_apply _ _ _ (ix2 (⟨q.val * 4096 + p.val, by have hq := q.isLt; have hp := p.isLt; omega⟩ : Fin 16384) c) ?_).trans ?_
  · show (S16384x2048.rowMajor _).val = (S4x4096x2048.rowMajor (ix3 q p c)).val
    rw [Shape.rowMajor_val_two, Shape.rowMajor_val_three]
    rfl
  · pointwise [tokens]
    refine congrArg _ (eq_pair _ _ _ ?_ rfl)
    show _ = 0 + q.val * 4096 + p.val
    first | rfl | (simp only [ix2]; omega)

theorem first_padded (V : Vals) (q : Fin 4) (a : Fin 4126) (l : Fin 1024) :
    firstPadded V (ix3 q a l) = tapRow (tokens V) (firstStart q) (firstStart q + 4096) (firstStart q + a.val) l.val := by
  unfold firstPadded res_main_v12
  by_cases h : 15 ≤ a.val ∧ a.val < 4096 + 15
  · have hin : firstStart q + 15 ≤ firstStart q + a.val ∧ firstStart q + a.val < firstStart q + 4096 + 15 := by omega
    refine (pad_apply_of_inside _ _ _ _ _ _ _ _ (ix3 q (⟨a.val - 15, by omega⟩ : Fin 4096) l) ?_).trans ?_
    · intro d
      match d with
      | ⟨0, _⟩ => show q.val = 0 + q.val * (0 + 1); omega
      | ⟨1, _⟩ => show a.val = 15 + (a.val - 15) * (0 + 1); omega
      | ⟨2, _⟩ => show l.val = 0 + l.val * (0 + 1); omega
    · unfold tapRow gateAt
      rw [if_pos hin]
      have e : firstStart q + a.val - 15 = firstToken q (⟨a.val - 15, by omega⟩ : Fin 4096) := by
        show 0 + q.val * 4096 + a.val - 15 = 0 + q.val * 4096 + (a.val - 15)
        omega
      rw [e]
      have hl : l.val < 2048 := by omega
      have hg : 1024 + l.val < 2048 := by omega
      have r0 := first_rows V q (⟨a.val - 15, by omega⟩ : Fin 4096) ⟨l.val, hl⟩
      have r1 := first_rows V q (⟨a.val - 15, by omega⟩ : Fin 4096) ⟨1024 + l.val, hg⟩
      dsimp only at r0 r1
      rw [← r0, ← r1]
      pointwise [gated, sigmoid]
  · have hout : ¬(firstStart q + 15 ≤ firstStart q + a.val ∧ firstStart q + a.val < firstStart q + 4096 + 15) := by omega
    refine (pad_apply_of_not_inside _ _ _ _ _ _ _ _ (1 : Fin 3) ?_).trans ?_
    · show ¬(15 ≤ a.val ∧ (a.val - 15) % (0 + 1) = 0 ∧ (a.val - 15) / (0 + 1) < 4096)
      omega
    · unfold tapRow
      rw [if_neg hout]
      show (((0#32 : BitVec 32).toInt : ℝ) : EReal) = 0
      simp

theorem first_term (V : Vals) (q : Fin 4) (p : Fin 4096) (l : Fin 1024) (k : Fin 31) (h : k.val + p.val < 4126) :
    firstPadded V (ix3 q ⟨k.val + p.val, h⟩ l) * weights V (ix3 0 k l) = firstTap V q p l k.val := by
  rw [first_padded, weightAt_eq (weights V) k l, mul_comm]
  unfold firstTap
  rw [show firstStart q + (k.val + p.val) = firstToken q p + k.val by show _ = firstStart q + p.val + k.val; omega]

theorem first_term0 (V : Vals) (q : Fin 4) (p : Fin 4096) (l : Fin 1024) (h : p.val < 4126) :
    firstPadded V (ix3 q ⟨p.val, h⟩ l) * weights V (ix3 0 0 l) = firstTap V q p l 0 := by
  rw [first_padded]
  refine (mul_comm _ _).trans ?_
  exact congrArg (· * _) (weightAt_eq (weights V) 0 l)

set_option maxHeartbeats 2000000 in
theorem first_ten (V : Vals) (q : Fin 4) (p : Fin 4096) (l : Fin 1024) :
    firstTen V (ix3 q p l) = running 0 (firstTap V q p l) 10 := by
  have hp := p.isLt
  have e : running 0 (firstTap V q p l) 10 = 0 + firstTap V q p l 0 + firstTap V q p l 1 + firstTap V q p l 2 + firstTap V q p l 3 + firstTap V q p l 4 + firstTap V q p l 5 + firstTap V q p l 6 + firstTap V q p l 7 + firstTap V q p l 8 + firstTap V q p l 9 := rfl
  rw [e, zero_add]
  pointwise [firstTen, res_main_v83]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (first_term0 V q p l (by omega)) (first_term V q p l 1 (by omega))) (first_term V q p l 2 (by omega))) (first_term V q p l 3 (by omega))) (first_term V q p l 4 (by omega))) (first_term V q p l 5 (by omega))) (first_term V q p l 6 (by omega))) (first_term V q p l 7 (by omega))) (first_term V q p l 8 (by omega))) (first_term V q p l 9 (by omega))

set_option maxHeartbeats 2000000 in
theorem first_twenty (V : Vals) (q : Fin 4) (p : Fin 4096) (l : Fin 1024) :
    firstTwenty V (ix3 q p l) = running 0 (firstTap V q p l) 20 := by
  have hp := p.isLt
  have e : running 0 (firstTap V q p l) 20 = running 0 (firstTap V q p l) 10 + firstTap V q p l 10 + firstTap V q p l 11 + firstTap V q p l 12 + firstTap V q p l 13 + firstTap V q p l 14 + firstTap V q p l 15 + firstTap V q p l 16 + firstTap V q p l 17 + firstTap V q p l 18 + firstTap V q p l 19 := rfl
  rw [e]
  pointwise [firstTwenty, res_main_v153]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (first_ten V q p l) (first_term V q p l 10 (by omega))) (first_term V q p l 11 (by omega))) (first_term V q p l 12 (by omega))) (first_term V q p l 13 (by omega))) (first_term V q p l 14 (by omega))) (first_term V q p l 15 (by omega))) (first_term V q p l 16 (by omega))) (first_term V q p l 17 (by omega))) (first_term V q p l 18 (by omega))) (first_term V q p l 19 (by omega))

set_option maxHeartbeats 2000000 in
theorem first_thirty (V : Vals) (q : Fin 4) (p : Fin 4096) (l : Fin 1024) :
    firstThirty V (ix3 q p l) = running 0 (firstTap V q p l) 30 := by
  have hp := p.isLt
  have e : running 0 (firstTap V q p l) 30 = running 0 (firstTap V q p l) 20 + firstTap V q p l 20 + firstTap V q p l 21 + firstTap V q p l 22 + firstTap V q p l 23 + firstTap V q p l 24 + firstTap V q p l 25 + firstTap V q p l 26 + firstTap V q p l 27 + firstTap V q p l 28 + firstTap V q p l 29 := rfl
  rw [e]
  pointwise [firstThirty, res_main_v223]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (first_twenty V q p l) (first_term V q p l 20 (by omega))) (first_term V q p l 21 (by omega))) (first_term V q p l 22 (by omega))) (first_term V q p l 23 (by omega))) (first_term V q p l 24 (by omega))) (first_term V q p l 25 (by omega))) (first_term V q p l 26 (by omega))) (first_term V q p l 27 (by omega))) (first_term V q p l 28 (by omega))) (first_term V q p l 29 (by omega))

/-- The convolution of a token. -/
theorem first_conv (V : Vals) (q : Fin 4) (p : Fin 4096) (l : Fin 1024) :
    firstConv V (ix3 q p l)
      = convolved (tokens V) (weights V) (fun l => biases V (ix2 0 l)) (firstStart q) (firstStart q + 4096) (firstToken q p) l := by
  have hp := p.isLt
  unfold convolved
  have e : running 0 (firstTap V q p l) 31 = running 0 (firstTap V q p l) 30 + firstTap V q p l 30 := rfl
  refine Eq.trans ?_ (congrArg (· + biases V (ix2 0 l)) e.symm)
  pointwise [firstConv, res_main_v234]
  exact congrArg (· + biases V (ix2 0 l)) (congrArg₂ (· + ·) (first_thirty V q p l) (first_term V q p l 30 (by omega)))

set_option maxHeartbeats 2000000 in
/-- … its layer norm. -/
theorem first_norm (V : Vals) (q : Fin 4) (p : Fin 4096) (j : Fin 1024) :
    firstNorm V (ix3 q p j)
      = layered (fun l => firstConv V (ix3 q p l)) (fun l => gains V (ix2 0 l)) (fun l => shifts V (ix2 0 l)) j := by
  pointwise [firstNorm, firstConv, res_main_v260, res_main_v240, res_main_v238, layered, centred, gains, shifts]

/-- The group's result, a row a token. -/
abbrev firstRows (V : Vals) : FVec Ideal S16384x1024 .f32 :=
  shapeCast _ (mulf (res_main_v260 V) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (res_main_v260 V)))))) shapeCasts_S4x4096x1024_S16384x1024

set_option maxHeartbeats 1000000 in
theorem first_row (V : Vals) (r : Fin 16384) (j : Fin 1024) :
    firstRows V (ix2 r j)
      = branch (tokens V) (weights V) (fun l => biases V (ix2 0 l)) (fun l => gains V (ix2 0 l)) (fun l => shifts V (ix2 0 l))
          (0 + r.val / 4096 * 4096) (0 + r.val / 4096 * 4096 + 4096) (0 + r.val) j := by
  have hr := r.isLt
  let q : Fin 4 := ⟨r.val / 4096, by omega⟩
  let p : Fin 4096 := ⟨r.val % 4096, by omega⟩
  refine (shapeCast_apply _ _ _ (ix3 q p j) ?_).trans ?_
  · rw [Shape.rowMajor_val_two, Shape.rowMajor_val_three]
    show (r.val / 4096 * 4096 + r.val % 4096) * 1024 + j.val = r.val * 1024 + j.val
    omega
  · have e : 0 + r.val = firstToken q p := by
      show 0 + r.val = 0 + r.val / 4096 * 4096 + r.val % 4096
      omega
    rw [e]
    unfold branch swished
    rw [← funext (fun l => first_conv V q p l), ← first_norm V q p j]
    pointwise [sigmoid]

/-! ## The samples: four sequences of 2048 tokens -/

/-- Its arrays, in order. -/
abbrev secondInput (V : Vals) : S4x2048x2048.Idx → EReal := res_main_v264 V
abbrev secondPadded (V : Vals) : S4x2078x1024.Idx → EReal := res_main_v274 V
abbrev secondTen (V : Vals) : S4x2048x1024.Idx → EReal := res_main_v345 V
abbrev secondTwenty (V : Vals) : S4x2048x1024.Idx → EReal := res_main_v415 V
abbrev secondThirty (V : Vals) : S4x2048x1024.Idx → EReal := res_main_v485 V
abbrev secondConv (V : Vals) : S4x2048x1024.Idx → EReal := res_main_v496 V
abbrev secondNorm (V : Vals) : S4x2048x1024.Idx → EReal := res_main_v522 V

/-- Where sequence `q` begins, and its token `p`. -/
abbrev secondStart (q : Fin 4) : ℕ := 16384 + q.val * 2048
abbrev secondToken (q : Fin 4) (p : Fin 2048) : ℕ := secondStart q + p.val

/-- Tap `k` of a token. -/
def secondTap (V : Vals) (q : Fin 4) (p : Fin 2048) (l : Fin 1024) (k : ℕ) : EReal :=
  weightAt (weights V) k l * tapRow (tokens V) (secondStart q) (secondStart q + 2048) (secondToken q p + k) l.val

theorem second_rows (V : Vals) (q : Fin 4) (p : Fin 2048) (c : Fin 2048) :
    secondInput V (ix3 q p c) = at2 (tokens V) (secondToken q p) c.val := by
  have h : secondToken q p < 24576 := by
    have hq := q.isLt
    have hp := p.isLt
    show 16384 + q.val * 2048 + p.val < 24576
    omega
  unfold secondInput res_main_v264 res_main_v0
  rw [at2_of_lt _ _ _ h c.isLt]
  refine (shapeCast_apply _ _ _ (ix2 (⟨q.val * 2048 + p.val, by have hq := q.isLt; have hp := p.isLt; omega⟩ : Fin 8192) c) ?_).trans ?_
  · show (S8192x2048.rowMajor _).val = (S4x2048x2048.rowMajor (ix3 q p c)).val
    rw [Shape.rowMajor_val_two, Shape.rowMajor_val_three]
    rfl
  · pointwise [tokens]
    refine congrArg _ (eq_pair _ _ _ ?_ rfl)
    show _ = 16384 + q.val * 2048 + p.val
    first | rfl | (simp only [ix2]; omega)

theorem second_padded (V : Vals) (q : Fin 4) (a : Fin 2078) (l : Fin 1024) :
    secondPadded V (ix3 q a l) = tapRow (tokens V) (secondStart q) (secondStart q + 2048) (secondStart q + a.val) l.val := by
  unfold secondPadded res_main_v274
  by_cases h : 15 ≤ a.val ∧ a.val < 2048 + 15
  · have hin : secondStart q + 15 ≤ secondStart q + a.val ∧ secondStart q + a.val < secondStart q + 2048 + 15 := by omega
    refine (pad_apply_of_inside _ _ _ _ _ _ _ _ (ix3 q (⟨a.val - 15, by omega⟩ : Fin 2048) l) ?_).trans ?_
    · intro d
      match d with
      | ⟨0, _⟩ => show q.val = 0 + q.val * (0 + 1); omega
      | ⟨1, _⟩ => show a.val = 15 + (a.val - 15) * (0 + 1); omega
      | ⟨2, _⟩ => show l.val = 0 + l.val * (0 + 1); omega
    · unfold tapRow gateAt
      rw [if_pos hin]
      have e : secondStart q + a.val - 15 = secondToken q (⟨a.val - 15, by omega⟩ : Fin 2048) := by
        show 16384 + q.val * 2048 + a.val - 15 = 16384 + q.val * 2048 + (a.val - 15)
        omega
      rw [e]
      have hl : l.val < 2048 := by omega
      have hg : 1024 + l.val < 2048 := by omega
      have r0 := second_rows V q (⟨a.val - 15, by omega⟩ : Fin 2048) ⟨l.val, hl⟩
      have r1 := second_rows V q (⟨a.val - 15, by omega⟩ : Fin 2048) ⟨1024 + l.val, hg⟩
      dsimp only at r0 r1
      rw [← r0, ← r1]
      pointwise [gated, sigmoid]
  · have hout : ¬(secondStart q + 15 ≤ secondStart q + a.val ∧ secondStart q + a.val < secondStart q + 2048 + 15) := by omega
    refine (pad_apply_of_not_inside _ _ _ _ _ _ _ _ (1 : Fin 3) ?_).trans ?_
    · show ¬(15 ≤ a.val ∧ (a.val - 15) % (0 + 1) = 0 ∧ (a.val - 15) / (0 + 1) < 2048)
      omega
    · unfold tapRow
      rw [if_neg hout]
      show (((0#32 : BitVec 32).toInt : ℝ) : EReal) = 0
      simp

theorem second_term (V : Vals) (q : Fin 4) (p : Fin 2048) (l : Fin 1024) (k : Fin 31) (h : k.val + p.val < 2078) :
    secondPadded V (ix3 q ⟨k.val + p.val, h⟩ l) * weights V (ix3 0 k l) = secondTap V q p l k.val := by
  rw [second_padded, weightAt_eq (weights V) k l, mul_comm]
  unfold secondTap
  rw [show secondStart q + (k.val + p.val) = secondToken q p + k.val by show _ = secondStart q + p.val + k.val; omega]

theorem second_term0 (V : Vals) (q : Fin 4) (p : Fin 2048) (l : Fin 1024) (h : p.val < 2078) :
    secondPadded V (ix3 q ⟨p.val, h⟩ l) * weights V (ix3 0 0 l) = secondTap V q p l 0 := by
  rw [second_padded]
  refine (mul_comm _ _).trans ?_
  exact congrArg (· * _) (weightAt_eq (weights V) 0 l)

set_option maxHeartbeats 2000000 in
theorem second_ten (V : Vals) (q : Fin 4) (p : Fin 2048) (l : Fin 1024) :
    secondTen V (ix3 q p l) = running 0 (secondTap V q p l) 10 := by
  have hp := p.isLt
  have e : running 0 (secondTap V q p l) 10 = 0 + secondTap V q p l 0 + secondTap V q p l 1 + secondTap V q p l 2 + secondTap V q p l 3 + secondTap V q p l 4 + secondTap V q p l 5 + secondTap V q p l 6 + secondTap V q p l 7 + secondTap V q p l 8 + secondTap V q p l 9 := rfl
  rw [e, zero_add]
  pointwise [secondTen, res_main_v345]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (second_term0 V q p l (by omega)) (second_term V q p l 1 (by omega))) (second_term V q p l 2 (by omega))) (second_term V q p l 3 (by omega))) (second_term V q p l 4 (by omega))) (second_term V q p l 5 (by omega))) (second_term V q p l 6 (by omega))) (second_term V q p l 7 (by omega))) (second_term V q p l 8 (by omega))) (second_term V q p l 9 (by omega))

set_option maxHeartbeats 2000000 in
theorem second_twenty (V : Vals) (q : Fin 4) (p : Fin 2048) (l : Fin 1024) :
    secondTwenty V (ix3 q p l) = running 0 (secondTap V q p l) 20 := by
  have hp := p.isLt
  have e : running 0 (secondTap V q p l) 20 = running 0 (secondTap V q p l) 10 + secondTap V q p l 10 + secondTap V q p l 11 + secondTap V q p l 12 + secondTap V q p l 13 + secondTap V q p l 14 + secondTap V q p l 15 + secondTap V q p l 16 + secondTap V q p l 17 + secondTap V q p l 18 + secondTap V q p l 19 := rfl
  rw [e]
  pointwise [secondTwenty, res_main_v415]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (second_ten V q p l) (second_term V q p l 10 (by omega))) (second_term V q p l 11 (by omega))) (second_term V q p l 12 (by omega))) (second_term V q p l 13 (by omega))) (second_term V q p l 14 (by omega))) (second_term V q p l 15 (by omega))) (second_term V q p l 16 (by omega))) (second_term V q p l 17 (by omega))) (second_term V q p l 18 (by omega))) (second_term V q p l 19 (by omega))

set_option maxHeartbeats 2000000 in
theorem second_thirty (V : Vals) (q : Fin 4) (p : Fin 2048) (l : Fin 1024) :
    secondThirty V (ix3 q p l) = running 0 (secondTap V q p l) 30 := by
  have hp := p.isLt
  have e : running 0 (secondTap V q p l) 30 = running 0 (secondTap V q p l) 20 + secondTap V q p l 20 + secondTap V q p l 21 + secondTap V q p l 22 + secondTap V q p l 23 + secondTap V q p l 24 + secondTap V q p l 25 + secondTap V q p l 26 + secondTap V q p l 27 + secondTap V q p l 28 + secondTap V q p l 29 := rfl
  rw [e]
  pointwise [secondThirty, res_main_v485]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (second_twenty V q p l) (second_term V q p l 20 (by omega))) (second_term V q p l 21 (by omega))) (second_term V q p l 22 (by omega))) (second_term V q p l 23 (by omega))) (second_term V q p l 24 (by omega))) (second_term V q p l 25 (by omega))) (second_term V q p l 26 (by omega))) (second_term V q p l 27 (by omega))) (second_term V q p l 28 (by omega))) (second_term V q p l 29 (by omega))

/-- The convolution of a token. -/
theorem second_conv (V : Vals) (q : Fin 4) (p : Fin 2048) (l : Fin 1024) :
    secondConv V (ix3 q p l)
      = convolved (tokens V) (weights V) (fun l => biases V (ix2 0 l)) (secondStart q) (secondStart q + 2048) (secondToken q p) l := by
  have hp := p.isLt
  unfold convolved
  have e : running 0 (secondTap V q p l) 31 = running 0 (secondTap V q p l) 30 + secondTap V q p l 30 := rfl
  refine Eq.trans ?_ (congrArg (· + biases V (ix2 0 l)) e.symm)
  pointwise [secondConv, res_main_v496]
  exact congrArg (· + biases V (ix2 0 l)) (congrArg₂ (· + ·) (second_thirty V q p l) (second_term V q p l 30 (by omega)))

set_option maxHeartbeats 2000000 in
/-- … its layer norm. -/
theorem second_norm (V : Vals) (q : Fin 4) (p : Fin 2048) (j : Fin 1024) :
    secondNorm V (ix3 q p j)
      = layered (fun l => secondConv V (ix3 q p l)) (fun l => gains V (ix2 0 l)) (fun l => shifts V (ix2 0 l)) j := by
  pointwise [secondNorm, secondConv, res_main_v522, res_main_v502, res_main_v500, layered, centred, gains, shifts]

/-- The group's result, a row a token. -/
abbrev secondRows (V : Vals) : FVec Ideal S8192x1024 .f32 :=
  shapeCast _ (mulf (res_main_v522 V) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (res_main_v522 V)))))) shapeCasts_S4x2048x1024_S8192x1024

set_option maxHeartbeats 1000000 in
theorem second_row (V : Vals) (r : Fin 8192) (j : Fin 1024) :
    secondRows V (ix2 r j)
      = branch (tokens V) (weights V) (fun l => biases V (ix2 0 l)) (fun l => gains V (ix2 0 l)) (fun l => shifts V (ix2 0 l))
          (16384 + r.val / 2048 * 2048) (16384 + r.val / 2048 * 2048 + 2048) (16384 + r.val) j := by
  have hr := r.isLt
  let q : Fin 4 := ⟨r.val / 2048, by omega⟩
  let p : Fin 2048 := ⟨r.val % 2048, by omega⟩
  refine (shapeCast_apply _ _ _ (ix3 q p j) ?_).trans ?_
  · rw [Shape.rowMajor_val_two, Shape.rowMajor_val_three]
    show (r.val / 2048 * 2048 + r.val % 2048) * 1024 + j.val = r.val * 1024 + j.val
    omega
  · have e : 16384 + r.val = secondToken q p := by
      show 16384 + r.val = 16384 + r.val / 2048 * 2048 + r.val % 2048
      omega
    rw [e]
    unfold branch swished
    rw [← funext (fun l => second_conv V q p l), ← second_norm V q p j]
    pointwise [sigmoid]

end Cert.ConvProof

end
-- ==== Proof.ConvValue.lean ====
/-
  The convolution: each point writes back 256 tokens of what the reference computes, and the blocks cover the result.
-/
module

public import proofs.«01_k».proof.Proof.ConvBlock
public import proofs.«01_k».proof.Proof.ConvRef
public import proofs.«01_k».proof.Proof.Gen.ConvIdeal.Value
public import Idealize.ShloMosaic.Lib.ValueLayout

@[expose] public section

set_option maxRecDepth 16384

noncomputable section

namespace Cert.ConvProof

open Cert.ConvIdeal Cert.ConvIdeal.Gen Idealize.ShloMosaic Idealize.ShloMosaic.TcCoe Idealize.SL.Sem Cert.RowMath
open Idealize.ShloMosaic.Pipeline (Dat)

variable (m : (ℓ : Loc nD τ sig) → Buf (Elt Ideal) ℓ)

/-! ## The launch contents and what the host prepares of them -/

abbrev zIn (c : Dev nD) : S24576x2048.Idx → EReal := m ((c : Thread nD τ).loc main_arg0)
abbrev wIn (c : Dev nD) : S1x31x1024.Idx → EReal := m ((c : Thread nD τ).loc main_arg1)
abbrev bIn (c : Dev nD) : S1x1024.Idx → EReal := m ((c : Thread nD τ).loc main_arg2)
abbrev gIn (c : Dev nD) : S1x1024.Idx → EReal := m ((c : Thread nD τ).loc main_arg3)
abbrev hIn (c : Dev nD) : S1x1024.Idx → EReal := m ((c : Thread nD τ).loc main_arg4)

theorem V_v0 (c : Dev nD) : V m c main_v0 = shapeCast _ (m ((c : Thread nD τ).loc main_arg1)) shapeCasts_S1x31x1024_S31x1024 := by
  show StableHlo.after hostOps0 (fun b => m (c, b)) main_v0 = _
  after_results <;> rfl
theorem V_v4 (c : Dev nD) : V m c main_v4 = shapeCast _ (shapeCast S1024 (m ((c : Thread nD τ).loc main_arg2)) shapeCasts_S1x1024_S1024) shapeCasts_S1024_S1x1024 := by
  show StableHlo.after hostOps0 (fun b => m (c, b)) main_v4 = _
  after_results <;> rfl
theorem V_v5 (c : Dev nD) : V m c main_v5 = shapeCast _ (shapeCast S1024 (m ((c : Thread nD τ).loc main_arg3)) shapeCasts_S1x1024_S1024) shapeCasts_S1024_S1x1024 := by
  show StableHlo.after hostOps0 (fun b => m (c, b)) main_v5 = _
  after_results <;> rfl
theorem V_v6 (c : Dev nD) : V m c main_v6 = shapeCast _ (shapeCast S1024 (m ((c : Thread nD τ).loc main_arg4)) shapeCasts_S1x1024_S1024) shapeCasts_S1024_S1x1024 := by
  show StableHlo.after hostOps0 (fun b => m (c, b)) main_v6 = _
  after_results <;> rfl

/-! ## The blocks at point `t` -/

theorem idx_in : ∀ t : Fin cfg0.N, win0_0.index t (0 : Fin 2) = 16 * t.val - 1 ∧ win0_0.index t (1 : Fin 2) = 0 ∧ win0_1.index t (0 : Fin 2) = 16 * t.val - 1 ∧ win0_1.index t (1 : Fin 2) = 1
    ∧ win0_2.index t (0 : Fin 2) = t.val ∧ win0_2.index t (1 : Fin 2) = 0 ∧ win0_3.index t (0 : Fin 2) = t.val ∧ win0_3.index t (1 : Fin 2) = 1
    ∧ win0_4.index t (0 : Fin 2) = min (16 * (t.val + 1)) 1535 ∧ win0_4.index t (1 : Fin 2) = 0 ∧ win0_5.index t (0 : Fin 2) = min (16 * (t.val + 1)) 1535 ∧ win0_5.index t (1 : Fin 2) = 1 :=
  (by decide +kernel : ∀ t : Fin grid0.N, _)

theorem idx_rest : ∀ t : Fin cfg0.N, win0_6.index t (0 : Fin 2) = 0 ∧ win0_6.index t (1 : Fin 2) = 0 ∧ win0_7.index t (0 : Fin 2) = 0 ∧ win0_7.index t (1 : Fin 2) = 0
    ∧ win0_8.index t (0 : Fin 2) = 0 ∧ win0_8.index t (1 : Fin 2) = 0 ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

theorem block0 (c : Dev nD) (t : Fin cfg0.N) (a : Fin 16) (k : Fin 1024) :
    iblk m c 0 t (ix2 a k) = at2 (zIn m c) ((16 * t.val - 1) * 16 + a.val) k.val := by
  have hN := lt_of_lt_of_eq t.isLt N_0
  have h := idx_in t
  rw [at2_of_lt (zIn m c) _ _ (show (16 * t.val - 1) * 16 + a.val < 24576 by omega) (show k.val < 2048 by omega)]
  show V m c main_arg0 (((cfg0.win 0).blk t).view.emb (ix2 a k)) = _
  rw [V_main_arg0]
  refine congrArg (zIn m c) (eq_pair _ _ _ ?_ ?_)
  · show win0_0.index t (0 : Fin 2) * 16 + 1 * a.val = (16 * t.val - 1) * 16 + a.val
    omega
  · show win0_0.index t (1 : Fin 2) * 1024 + 1 * k.val = k.val
    omega
theorem block1 (c : Dev nD) (t : Fin cfg0.N) (a : Fin 16) (k : Fin 1024) :
    iblk m c 1 t (ix2 a k) = at2 (zIn m c) ((16 * t.val - 1) * 16 + a.val) (1024 + k.val) := by
  have hN := lt_of_lt_of_eq t.isLt N_0
  have h := idx_in t
  rw [at2_of_lt (zIn m c) _ _ (show (16 * t.val - 1) * 16 + a.val < 24576 by omega) (show (1024 + k.val) < 2048 by omega)]
  show V m c main_arg0 (((cfg0.win 1).blk t).view.emb (ix2 a k)) = _
  rw [V_main_arg0]
  refine congrArg (zIn m c) (eq_pair _ _ _ ?_ ?_)
  · show win0_1.index t (0 : Fin 2) * 16 + 1 * a.val = (16 * t.val - 1) * 16 + a.val
    omega
  · show win0_1.index t (1 : Fin 2) * 1024 + 1 * k.val = (1024 + k.val)
    omega
theorem block2 (c : Dev nD) (t : Fin cfg0.N) (a : Fin 256) (k : Fin 1024) :
    iblk m c 2 t (ix2 a k) = at2 (zIn m c) (t.val * 256 + a.val) k.val := by
  have hN := lt_of_lt_of_eq t.isLt N_0
  have h := idx_in t
  rw [at2_of_lt (zIn m c) _ _ (show t.val * 256 + a.val < 24576 by omega) (show k.val < 2048 by omega)]
  show V m c main_arg0 (((cfg0.win 2).blk t).view.emb (ix2 a k)) = _
  rw [V_main_arg0]
  refine congrArg (zIn m c) (eq_pair _ _ _ ?_ ?_)
  · show win0_2.index t (0 : Fin 2) * 256 + 1 * a.val = t.val * 256 + a.val
    omega
  · show win0_2.index t (1 : Fin 2) * 1024 + 1 * k.val = k.val
    omega
theorem block3 (c : Dev nD) (t : Fin cfg0.N) (a : Fin 256) (k : Fin 1024) :
    iblk m c 3 t (ix2 a k) = at2 (zIn m c) (t.val * 256 + a.val) (1024 + k.val) := by
  have hN := lt_of_lt_of_eq t.isLt N_0
  have h := idx_in t
  rw [at2_of_lt (zIn m c) _ _ (show t.val * 256 + a.val < 24576 by omega) (show (1024 + k.val) < 2048 by omega)]
  show V m c main_arg0 (((cfg0.win 3).blk t).view.emb (ix2 a k)) = _
  rw [V_main_arg0]
  refine congrArg (zIn m c) (eq_pair _ _ _ ?_ ?_)
  · show win0_3.index t (0 : Fin 2) * 256 + 1 * a.val = t.val * 256 + a.val
    omega
  · show win0_3.index t (1 : Fin 2) * 1024 + 1 * k.val = (1024 + k.val)
    omega
theorem block4 (c : Dev nD) (t : Fin cfg0.N) (a : Fin 16) (k : Fin 1024) :
    iblk m c 4 t (ix2 a k) = at2 (zIn m c) (min (16 * (t.val + 1)) 1535 * 16 + a.val) k.val := by
  have hN := lt_of_lt_of_eq t.isLt N_0
  have h := idx_in t
  rw [at2_of_lt (zIn m c) _ _ (show min (16 * (t.val + 1)) 1535 * 16 + a.val < 24576 by omega) (show k.val < 2048 by omega)]
  show V m c main_arg0 (((cfg0.win 4).blk t).view.emb (ix2 a k)) = _
  rw [V_main_arg0]
  refine congrArg (zIn m c) (eq_pair _ _ _ ?_ ?_)
  · show win0_4.index t (0 : Fin 2) * 16 + 1 * a.val = min (16 * (t.val + 1)) 1535 * 16 + a.val
    omega
  · show win0_4.index t (1 : Fin 2) * 1024 + 1 * k.val = k.val
    omega
theorem block5 (c : Dev nD) (t : Fin cfg0.N) (a : Fin 16) (k : Fin 1024) :
    iblk m c 5 t (ix2 a k) = at2 (zIn m c) (min (16 * (t.val + 1)) 1535 * 16 + a.val) (1024 + k.val) := by
  have hN := lt_of_lt_of_eq t.isLt N_0
  have h := idx_in t
  rw [at2_of_lt (zIn m c) _ _ (show min (16 * (t.val + 1)) 1535 * 16 + a.val < 24576 by omega) (show (1024 + k.val) < 2048 by omega)]
  show V m c main_arg0 (((cfg0.win 5).blk t).view.emb (ix2 a k)) = _
  rw [V_main_arg0]
  refine congrArg (zIn m c) (eq_pair _ _ _ ?_ ?_)
  · show win0_5.index t (0 : Fin 2) * 16 + 1 * a.val = min (16 * (t.val + 1)) 1535 * 16 + a.val
    omega
  · show win0_5.index t (1 : Fin 2) * 1024 + 1 * k.val = (1024 + k.val)
    omega
theorem block6 (c : Dev nD) (t : Fin cfg0.N) (a : Fin 31) (k : Fin 1024) : iblk m c 6 t (ix2 a k) = wIn m c (ix3 0 a k) := by
  show V m c main_v0 (((cfg0.win 6).blk t).view.emb (ix2 a k)) = _
  have h := idx_rest t
  have e : ((cfg0.win 6).blk t).view.emb (ix2 a k) = ix2 a k := by
    refine eq_pair _ _ _ ?_ ?_
    · show win0_6.index t (0 : Fin 2) * 31 + 1 * a.val = a.val
      omega
    · show win0_6.index t (1 : Fin 2) * 1024 + 1 * k.val = k.val
      omega
  rw [e, V_v0]
  refine shapeCast_apply _ _ _ (ix3 0 a k) ?_
  rw [Shape.rowMajor_val_two, Shape.rowMajor_val_three]
  show ((0 : ℕ) * 31 + a.val) * 1024 + k.val = a.val * 1024 + k.val
  omega
theorem block7 (c : Dev nD) (t : Fin cfg0.N) (a : Fin 1) (k : Fin 1024) : iblk m c 7 t (ix2 a k) = bIn m c (ix2 0 k) := by
  show V m c main_v4 (((cfg0.win 7).blk t).view.emb (ix2 a k)) = _
  have h := idx_rest t
  have e : ((cfg0.win 7).blk t).view.emb (ix2 a k) = ix2 a k := by
    refine eq_pair _ _ _ ?_ ?_
    · show win0_7.index t (0 : Fin 2) * 1 + 1 * a.val = a.val
      omega
    · show win0_7.index t (1 : Fin 2) * 1024 + 1 * k.val = k.val
      omega
  rw [e, V_v4]
  pointwise
theorem block8 (c : Dev nD) (t : Fin cfg0.N) (a : Fin 1) (k : Fin 1024) : iblk m c 8 t (ix2 a k) = gIn m c (ix2 0 k) := by
  show V m c main_v5 (((cfg0.win 8).blk t).view.emb (ix2 a k)) = _
  have h := idx_rest t
  have e : ((cfg0.win 8).blk t).view.emb (ix2 a k) = ix2 a k := by
    refine eq_pair _ _ _ ?_ ?_
    · show win0_8.index t (0 : Fin 2) * 1 + 1 * a.val = a.val
      omega
    · show win0_8.index t (1 : Fin 2) * 1024 + 1 * k.val = k.val
      omega
  rw [e, V_v5]
  pointwise
theorem block9 (c : Dev nD) (t : Fin cfg0.N) (a : Fin 1) (k : Fin 1024) : iblk m c 9 t (ix2 a k) = hIn m c (ix2 0 k) := by
  show V m c main_v6 (((cfg0.win 9).blk t).view.emb (ix2 a k)) = _
  have h := idx_rest t
  have e : ((cfg0.win 9).blk t).view.emb (ix2 a k) = ix2 a k := by
    refine eq_pair _ _ _ ?_ ?_
    · show win0_9.index t (0 : Fin 2) * 1 + 1 * a.val = a.val
      omega
    · show win0_9.index t (1 : Fin 2) * 1024 + 1 * k.val = k.val
      omega
  rw [e, V_v6]
  pointwise

/-! ## The sequence of a point -/

/-- Where the sequence of point `t` begins and ends, in blocks of 256 tokens. -/
def opens (t : ℕ) : ℕ := if t < 64 then t / 16 * 16 else 64 + (t - 64) / 8 * 8
def closes (t : ℕ) : ℕ := if t < 64 then t / 16 * 16 + 16 else 64 + (t - 64) / 8 * 8 + 8

theorem opens_le (t : ℕ) : opens t ≤ t := by unfold opens; split <;> omega
theorem lt_closes (t : ℕ) : t < closes t := by unfold closes; split <;> omega

theorem left_bits : ∀ t : Fin cfg0.N, leftBit (grid0.coords t) = if t.val = opens t.val then 0#32 else 1#32 :=
  (by decide +kernel : ∀ t : Fin grid0.N, _)
theorem right_bits : ∀ t : Fin cfg0.N, rightBit (grid0.coords t) = if t.val + 1 = closes t.val then 0#32 else 1#32 :=
  (by decide +kernel : ∀ t : Fin grid0.N, _)

theorem zero_word : Scalar.sitofp (F := Ideal) .f32 (0#32 : BitVec 32) = 0 := by
  show (((0#32 : BitVec 32).toInt : ℝ) : EReal) = 0
  simp
theorem one_word : Scalar.sitofp (F := Ideal) .f32 (1#32 : BitVec 32) = 1 := by
  show (((1#32 : BitVec 32).toInt : ℝ) : EReal) = 1
  simp

abbrev slabAt (c : Dev nD) (t : Fin cfg0.N) : Vec Ideal S288x1024 .f32 :=
  slab (grid0.coords t) (iblk m c 0 t) (iblk m c 1 t) (iblk m c 2 t) (iblk m c 3 t) (iblk m c 4 t) (iblk m c 5 t)

/-- Row `1 + a` of what the point gathers is the gated token `a - 15` after its first, inside its sequence. -/
theorem slab_row (c : Dev nD) (t : Fin cfg0.N) (a : ℕ) (ha : a < 287) (l : Fin 1024) :
    at2 (slabAt m c t) (1 + a) l.val = tapRow (zIn m c) (opens t.val * 256) (closes t.val * 256) (t.val * 256 + a) l.val := by
  have hN := lt_of_lt_of_eq t.isLt N_0
  have ho := opens_le t.val
  have hc := lt_closes t.val
  rw [at2_of_lt (slabAt m c t) _ _ (show 1 + a < 288 by omega) l.isLt]
  unfold tapRow gateAt
  rcases (by omega : a < 15 ∨ (15 ≤ a ∧ a < 271) ∨ 271 ≤ a) with h | h | h
  · refine (slab_first _ _ _ _ _ _ _ _ (⟨1 + a, by omega⟩ : Fin 16) l rfl rfl).trans ?_
    rw [block0, block1]
    unfold leftOk
    rw [left_bits t]
    by_cases he : t.val = opens t.val
    · rw [if_pos he, zero_word, mul_zero, if_neg (by omega)]
    · rw [if_neg he, one_word, mul_one, if_pos (by omega)]
      dsimp only
      rw [show (16 * t.val - 1) * 16 + (1 + a) = t.val * 256 + a - 15 by omega]
  · refine (slab_middle _ _ _ _ _ _ _ _ (⟨a - 15, by omega⟩ : Fin 256) l (by show 1 + a = 16 + (a - 15); omega) rfl).trans ?_
    rw [block2, block3, if_pos (by omega)]
    dsimp only
    rw [show t.val * 256 + (a - 15) = t.val * 256 + a - 15 by omega]
  · refine (slab_last _ _ _ _ _ _ _ _ (⟨a - 271, by omega⟩ : Fin 16) l (by show 1 + a = 272 + (a - 271); omega) rfl).trans ?_
    rw [block4, block5, right_eq, right_bits t]
    have hx : closes t.val ≤ 96 := by unfold closes; split <;> omega
    by_cases he : t.val + 1 = closes t.val
    · rw [if_pos he, zero_word, mul_zero, if_neg (by omega)]
    · rw [if_neg he, one_word, mul_one, if_pos (by omega)]
      dsimp only
      rw [show min (16 * (t.val + 1)) 1535 * 16 + (a - 271) = t.val * 256 + a - 15 by omega]

/-- The point's accumulator. -/
theorem tapped_eq (c : Dev nD) (t : Fin cfg0.N) (r : Fin 256) (l : Fin 1024) :
    tapped (iblk m c 6 t) (iblk m c 7 t) (slabAt m c t) (ix2 r l)
      = convolved (zIn m c) (wIn m c) (fun l => bIn m c (ix2 0 l)) (opens t.val * 256) (closes t.val * 256) (t.val * 256 + r.val) l := by
  refine (tapped_at _ _ _ _ r.val l.val rfl rfl).trans ?_
  have e7 : at2 (iblk m c 7 t : S1x1024.Idx → EReal) 0 l.val = bIn m c (ix2 0 l) := (at2_eq _ 0 l).trans (block7 m c t 0 l)
  rw [e7, running_start]
  unfold convolved
  refine congrArg (· + _) (running_congr _ _ _ 31 fun k hk => ?_)
  have e6 : at2 (iblk m c 6 t : S31x1024.Idx → EReal) k l.val = weightAt (wIn m c) k l :=
    (at2_eq _ ⟨k, hk⟩ l).trans ((block6 m c t ⟨k, hk⟩ l).trans (weightAt_eq _ ⟨k, hk⟩ l))
  have hr := r.isLt
  rw [e6, show r.val + (1 + k) = 1 + (r.val + k) by omega, slab_row m c t (r.val + k) (by omega) l, Nat.add_assoc]

/-! ## What a point writes back -/

/-- Where the sequence of token `n` begins and ends. -/
def begins (n : ℕ) : ℕ := if n < 16384 then n / 4096 * 4096 else 16384 + (n - 16384) / 2048 * 2048
def ends (n : ℕ) : ℕ := if n < 16384 then n / 4096 * 4096 + 4096 else 16384 + (n - 16384) / 2048 * 2048 + 2048

/-- The result: every token's branch inside its sequence. -/
def G (c : Dev nD) : Vec Ideal S24576x1024 .bf16 := fun y =>
  branch (zIn m c) (wIn m c) (fun l => bIn m c (ix2 0 l)) (fun l => gIn m c (ix2 0 l)) (fun l => hIn m c (ix2 0 l))
    (begins (y 0).val) (ends (y 0).val) (y 0).val (y 1)

theorem G_at (c : Dev nD) (n : Fin 24576) (j : Fin 1024) (s e k : ℕ) (hs : begins n.val = s) (he : ends n.val = e) (hk : n.val = k) :
    G m c (ix2 n j) = branch (zIn m c) (wIn m c) (fun l => bIn m c (ix2 0 l)) (fun l => gIn m c (ix2 0 l)) (fun l => hIn m c (ix2 0 l)) s e k j := by
  subst hs he hk
  rfl

theorem flushed_eq (c : Dev nD) (t : Fin cfg0.N) :
    (dats m 0 c).flushed 10 t = ((cfg0.win 10).blk t).view.read (Elt Ideal) (G m c) := by
  have hN := lt_of_lt_of_eq t.isLt N_0
  rw [Cert.ConvIdeal.Value.flushed10_A]
  funext y
  show out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) y
    = G m c (((cfg0.win 10).blk t).view.emb y)
  obtain ⟨r, j, rfl⟩ : ∃ (r : Fin 256) (j : Fin 1024), y = ix2 r j := ⟨y 0, y 1, eq_ix2 y⟩
  have hr := r.isLt
  have h := idx_rest t
  have e : ((cfg0.win 10).blk t).view.emb (ix2 r j) = ix2 (⟨t.val * 256 + r.val, by omega⟩ : Fin 24576) j := by
    refine eq_pair _ _ _ ?_ ?_
    · show win0_10.index t (0 : Fin 2) * 256 + 1 * r.val = t.val * 256 + r.val
      omega
    · show win0_10.index t (1 : Fin 2) * 1024 + 1 * j.val = j.val
      omega
  rw [e, block_eq]
  refine Eq.trans ?_ (G_at m c _ j (opens t.val * 256) (closes t.val * 256) (t.val * 256 + r.val) ?_ ?_ rfl).symm
  · rw [funext (fun l => tapped_eq m c t r l), funext (fun l => block8 m c t 0 l), funext (fun l => block9 m c t 0 l)]
    rfl
  · show begins (t.val * 256 + r.val) = _
    unfold begins opens
    split <;> split <;> omega
  · show ends (t.val * 256 + r.val) = _
    unfold ends closes
    split <;> split <;> omega

/-- Every entry of the result is in the block of one point, and every point writes back. -/
theorem cover (i : S24576x1024.Idx) : ∃ t : Fin cfg0.N, (cfg0.win 10).flush t = true ∧ i ∈ ((cfg0.win 10).blk t).view.set := by
  have hi0 : (i 0).val < 24576 := (i 0).isLt
  have hi1 : (i 1).val < 1024 := (i 1).isLt
  let t : Fin cfg0.N := ⟨(i 0).val / 256, lt_of_lt_of_eq (by omega : (i 0).val / 256 < 96) N_0.symm⟩
  have hf : ∀ t : Fin cfg0.N, (cfg0.win 10).flush t = true := (by decide +kernel : ∀ t : Fin grid0.N, _)
  have h := idx_rest t
  refine ⟨t, hf t, ?_⟩
  show i ∈ ((View.whole main_v7).slice (win0_10.rect t)).set
  rw [View.set_slice_whole, Rect.mem_set_unit]
  intro a
  have ht : t.val = (i 0).val / 256 := rfl
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 1024 ≤ (i 1).val ∧ (i 1).val < win0_10.index t (1 : Fin 2) * 1024 + 1024; omega

/-- The array the kernel leaves. -/
theorem final (c : Dev nD) : (dats m 0 c).arrAt 10 cfg0.N = G m c :=
  (dats m 0 c).arrAt_eq_of_cover 10 _ (fun t _ => flushed_eq m c t) cover

/-! ## The reference's result -/

theorem joined (a : FVec Ideal Cert.ConvRefIdeal.S16384x1024 .f32) (b : FVec Ideal Cert.ConvRefIdeal.S8192x1024 .f32)
    (h : Shape.Concatenates [Cert.ConvRefIdeal.S16384x1024, Cert.ConvRefIdeal.S8192x1024] S24576x1024 0) (n : Fin 24576) (j : Fin 1024) :
    concatenate (α := EReal) S24576x1024 0 [⟨Cert.ConvRefIdeal.S16384x1024, a⟩, ⟨Cert.ConvRefIdeal.S8192x1024, b⟩] h (ix2 n j)
      = if h : n.val < 16384 then a (ix2 ⟨n.val, h⟩ j) else b (ix2 ⟨n.val - 16384, by omega⟩ j) := by
  pointwise

/-- The array the reference leaves of equal arguments. -/
theorem ref_final (c : Dev nD) (V : Vals) (h0 : tokens V = zIn m c) (h1 : weights V = wIn m c) (h2 : biases V = bIn m c)
    (h3 : gains V = gIn m c) (h4 : shifts V = hIn m c) (h : Shape.Concatenates [Cert.ConvRefIdeal.S16384x1024, Cert.ConvRefIdeal.S8192x1024] S24576x1024 0) (hb : FTy.bits .bf16 < FTy.bits .f32) :
    truncf (F := Ideal) .bf16 (concatenate (α := EReal) S24576x1024 0 [⟨Cert.ConvRefIdeal.S16384x1024, firstRows V⟩, ⟨Cert.ConvRefIdeal.S8192x1024, secondRows V⟩] h) hb = G m c := by
  funext y
  obtain ⟨n, j, rfl⟩ : ∃ (n : Fin 24576) (j : Fin 1024), y = ix2 n j := ⟨y 0, y 1, eq_ix2 y⟩
  refine (joined _ _ h n j).trans ?_
  have hn := n.isLt
  by_cases hl : n.val < 16384
  · rw [dif_pos hl]
    refine (first_row V ⟨n.val, hl⟩ j).trans ?_
    rw [h0, h1, h2, h3, h4]
    refine (G_at m c n j _ _ _ ?_ ?_ ?_).symm
    · show begins n.val = 0 + n.val / 4096 * 4096
      unfold begins
      rw [if_pos hl]; omega
    · show ends n.val = 0 + n.val / 4096 * 4096 + 4096
      unfold ends
      rw [if_pos hl]; omega
    · show n.val = 0 + n.val
      omega
  · rw [dif_neg hl]
    refine (second_row V ⟨n.val - 16384, by omega⟩ j).trans ?_
    rw [h0, h1, h2, h3, h4]
    refine (G_at m c n j _ _ _ ?_ ?_ ?_).symm
    · show begins n.val = 16384 + (n.val - 16384) / 2048 * 2048
      unfold begins
      rw [if_neg hl]
    · show ends n.val = 16384 + (n.val - 16384) / 2048 * 2048 + 2048
      unfold ends
      rw [if_neg hl]
    · show n.val = 16384 + (n.val - 16384)
      omega

end Cert.ConvProof

end
-- ==== Proof.ConvClaim.lean ====
/-
  The claims about the convolution: the kernel at both instances and the reference run and leave their arguments unchanged, and
  over the extended reals both leave the same array.
-/
module

public import proofs.«01_k».proof.Defs
public import proofs.«01_k».proof.Proof.ConvValue
public import proofs.«01_k».proof.Proof.Gen.Conv.Frame
public import proofs.«01_k».proof.Proof.Gen.ConvRefIdeal.Run
public import Idealize.ShloMosaic.Lib.Quiescent

@[expose] public section

noncomputable section

namespace Cert.ConvProof

open Idealize.ShloMosaic Idealize.ShloMosaic.TcCoe Idealize.SL.Sem

theorem frame_kernel : Cert.quiescent_Conv := fun m ρ _ => Cert.Conv.Gen.frame m ρ

theorem frame_ideal : Cert.quiescent_ConvIdeal := fun m ρ _ => Cert.ConvIdeal.Gen.frame m ρ

theorem frame_ref : Cert.quiescent_ConvRefIdeal := fun m ρ _ =>
  (θ_run Cert.ConvRefIdeal.defs _ _).mono (fun r h => ⟨fun c => (h c).2, Idealize.ShloMosaic.sem_eq_zero_of_no_sems (by decide) r.2⟩)
    (Cert.ConvRefIdeal.Value.run (F := Ideal) m ρ)

theorem algebraic : Cert.algebraic_ConvIdeal_ConvRefIdeal := by
  intro m ρ m' ρ' _ hagree
  refine ⟨fun c => G m c, ?_, ?_⟩
  · exact (θ_run Cert.ConvIdeal.defs _ _).mono (fun r h c => ⟨(h c).1.trans (final m c), (h c).2⟩)
      (Cert.ConvIdeal.Value.run_blocks (F := Ideal) m ρ)
  · refine (θ_run Cert.ConvRefIdeal.defs _ _).mono (fun r h c => ⟨(h c).1.trans ?_, (h c).2⟩)
      (Cert.ConvRefIdeal.Value.run (F := Ideal) m' ρ')
    obtain ⟨h0, h1, h2, h3, h4⟩ := hagree c
    exact ref_final m c (StableHlo.launchContents m' c) h0 h1 h2 h3 h4 _ _

end Cert.ConvProof

end
-- ==== Proof.TopRounds.lean ====
/-
  A top-k by repeated maximum on the extended reals, one column at a time: each round takes the greatest entry, the first
  of equals, and puts −∞ in its place. The rounds pick what a stable descending sort puts first.
-/
module

public import Idealize.ShloMosaic.Lib.SortPrefix
public import Mathlib.Data.EReal.Operations

@[expose] public section

noncomputable section

namespace Cert.RouteMath

open Idealize.ShloMosaic

variable {n : ℕ}

/-- The greatest entry of a column. -/
def top (s : Fin n → EReal) : EReal := Finset.univ.sup s

/-- The number of the first row that holds the greatest entry, `z` standing in the other rows. -/
def arg (z : EReal) (s : Fin n → EReal) : EReal :=
  Finset.univ.inf fun i => if s i = top s then ((i.val : ℝ) : EReal) else z

/-- The column after a round: −∞ in the row picked. -/
def next (z : EReal) (s : Fin n → EReal) (i : Fin n) : EReal :=
  if ((i.val : ℝ) : EReal) = arg z s then ⊥ else s i

/-- The column at the start of round `k`. -/
def rounds (z : EReal) (s : Fin n → EReal) (k : ℕ) : Fin n → EReal :=
  Nat.rec s (fun _ t => next z t) k

/-- `a` comes before `b` in the descending order, equals in the order of their rows. -/
def Before (s : Fin n → EReal) (a b : Fin n) : Prop := s b < s a ∨ (s a = s b ∧ a < b)

theorem Before.trans {s : Fin n → EReal} {a b c : Fin n} (h : Before s a b) (h' : Before s b c) : Before s a c := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

theorem Before.asymm {s : Fin n → EReal} {a b : Fin n} (h : Before s a b) (h' : Before s b a) : False := by
  rcases h.trans h' with h | ⟨_, l⟩
  · exact lt_irrefl _ h
  · exact lt_irrefl _ l

theorem before_total (s : Fin n → EReal) {a b : Fin n} (h : a ≠ b) : Before s a b ∨ Before s b a := by
  rcases lt_trichotomy (s a) (s b) with l | e | l
  · exact Or.inr (Or.inl l)
  · rcases lt_or_gt_of_ne h with l | l
    · exact Or.inl (Or.inr ⟨e, l⟩)
    · exact Or.inr (Or.inr ⟨e.symm, l⟩)
  · exact Or.inl (Or.inl l)

/-- A column that is not empty has a first row among its greatest. -/
theorem exists_first (hn : 0 < n) (s : Fin n → EReal) : ∃ p : Fin n, (∀ i, s i ≤ s p) ∧ ∀ i, i < p → s i < s p := by
  classical
  obtain ⟨q, -, hq⟩ := Finset.exists_max_image Finset.univ s ⟨⟨0, hn⟩, Finset.mem_univ _⟩
  obtain ⟨p, hp, hm⟩ := Finset.exists_min_image (Finset.univ.filter fun i => s i = s q) (fun i => i)
    ⟨q, by simp⟩
  have e : s p = s q := (Finset.mem_filter.mp hp).2
  refine ⟨p, fun i => e ▸ hq i (Finset.mem_univ _), fun i hi => ?_⟩
  refine lt_of_le_of_ne (e ▸ hq i (Finset.mem_univ _)) fun h => ?_
  exact absurd (hm i (by simp [h, e])) (not_le.mpr hi)

/-- The first row among the greatest. -/
def first (hn : 0 < n) (s : Fin n → EReal) : Fin n := Classical.choose (exists_first hn s)

theorem le_first (hn : 0 < n) (s : Fin n → EReal) (i : Fin n) : s i ≤ s (first hn s) :=
  (Classical.choose_spec (exists_first hn s)).1 i

theorem lt_first (hn : 0 < n) (s : Fin n → EReal) (i : Fin n) (h : i < first hn s) : s i < s (first hn s) :=
  (Classical.choose_spec (exists_first hn s)).2 i h

theorem top_eq (hn : 0 < n) (s : Fin n → EReal) : top s = s (first hn s) :=
  le_antisymm (Finset.sup_le fun i _ => le_first hn s i) (Finset.le_sup (f := s) (Finset.mem_univ _))

theorem arg_eq (hn : 0 < n) {z : EReal} (hz : ∀ i : Fin n, ((i.val : ℝ) : EReal) ≤ z) (s : Fin n → EReal) :
    arg z s = (((first hn s).val : ℝ) : EReal) := by
  refine le_antisymm ((Finset.inf_le (Finset.mem_univ (first hn s))).trans ?_) (Finset.le_inf fun i _ => ?_)
  · rw [if_pos (top_eq hn s).symm]
  · split
    · rename_i h
      rw [top_eq hn s] at h
      have : ¬ i < first hn s := fun l => absurd h (lt_first hn s i l).ne
      have l : (first hn s).val ≤ i.val := not_lt.mp this
      exact_mod_cast l
    · exact hz _

theorem next_eq (hn : 0 < n) {z : EReal} (hz : ∀ i : Fin n, ((i.val : ℝ) : EReal) ≤ z) (s : Fin n → EReal) (i : Fin n) :
    next z s i = if i = first hn s then ⊥ else s i := by
  unfold next
  rw [arg_eq hn hz]
  refine if_congr ⟨fun h => ?_, fun h => by rw [h]⟩ rfl rfl
  have h' : (i.val : ℝ) = ((first hn s).val : ℝ) := by exact_mod_cast h
  exact Fin.ext (by exact_mod_cast h')

/-- What `K` rounds pick, when `K` rows of the column are not −∞: `K` different rows, each before every later one and
    before every row left out. -/
theorem picks {K : ℕ} {z : EReal} (hz : ∀ i : Fin n, ((i.val : ℝ) : EReal) ≤ z) (s : Fin n → EReal)
    (e : Fin K → Fin n) (he : Function.Injective e) (hs : ∀ k, s (e k) ≠ ⊥) :
    ∃ σ : Fin K → Fin n, Function.Injective σ ∧ (∀ k : Fin K, top (rounds z s k.val) = s (σ k))
      ∧ (∀ k : Fin K, arg z (rounds z s k.val) = (((σ k).val : ℝ) : EReal)) ∧ (∀ k, s (σ k) ≠ ⊥)
      ∧ (∀ i j, i < j → Before s (σ i) (σ j)) ∧ (∀ i p, (∀ j, σ j ≠ p) → Before s (σ i) p) := by
  classical
  rcases Nat.eq_zero_or_pos K with h0 | hK
  · subst h0
    exact ⟨fun k => k.elim0, fun k => k.elim0, fun k => k.elim0, fun k => k.elim0, fun k => k.elim0, fun k => k.elim0,
      fun k => k.elim0⟩
  have hn : 0 < n := Fin.pos (e ⟨0, hK⟩)
  let τ : ℕ → Fin n := fun k => first hn (rounds z s k)
  have hr : ∀ k i, rounds z s k i = if ∃ j, j < k ∧ τ j = i then ⊥ else s i := by
    intro k
    induction k with
    | zero => intro i; rw [if_neg (by rintro ⟨j, hj, -⟩; omega)]; rfl
    | succ k ih =>
      intro i
      show next z (rounds z s k) i = _
      rw [next_eq hn hz]
      by_cases h : i = τ k
      · rw [if_pos h, if_pos ⟨k, Nat.lt_succ_self k, h.symm⟩]
      · rw [if_neg h, ih i]
        refine if_congr ⟨fun ⟨j, hj, e⟩ => ⟨j, by omega, e⟩, fun ⟨j, hj, e⟩ => ⟨j, ?_, e⟩⟩ rfl rfl
        rcases Nat.lt_succ_iff_lt_or_eq.mp hj with l | l
        · exact l
        · subst l; exact absurd e.symm h
  have hne : ∀ k, k < K → rounds z s k (τ k) ≠ ⊥ := by
    intro k hk
    have : ∃ m : Fin K, ∀ j, j < k → τ j ≠ e m := by
      by_contra hcon
      push Not at hcon
      have hsub : (Finset.univ.image e) ⊆ (Finset.range k).image τ := by
        intro x hx
        obtain ⟨m, -, rfl⟩ := Finset.mem_image.mp hx
        obtain ⟨j, hj, h⟩ := hcon m
        exact Finset.mem_image.mpr ⟨j, Finset.mem_range.mpr hj, h⟩
      have h1 := Finset.card_le_card hsub
      rw [Finset.card_image_of_injective _ he, Finset.card_univ, Fintype.card_fin] at h1
      have h2 := h1.trans Finset.card_image_le
      rw [Finset.card_range] at h2
      omega
    obtain ⟨m, hm⟩ := this
    have h := le_first hn (rounds z s k) (e m)
    rw [hr k (e m), if_neg (by rintro ⟨j, hj, e'⟩; exact hm j hj e')] at h
    intro hb
    have hb' : rounds z s k (first hn (rounds z s k)) = ⊥ := hb
    rw [hb'] at h
    exact hs m (le_bot_iff.mp h)
  have hun : ∀ k, k < K → ∀ j, j < k → τ j ≠ τ k := by
    intro k hk j hj h
    exact hne k hk (by rw [hr, if_pos ⟨j, hj, h⟩])
  have hval : ∀ k, k < K → rounds z s k (τ k) = s (τ k) := by
    intro k hk
    rw [hr, if_neg (by rintro ⟨j, hj, h⟩; exact hun k hk j hj h)]
  have hbef : ∀ k, k < K → ∀ p, (∀ j, j ≤ k → τ j ≠ p) → Before s (τ k) p := by
    intro k hk p hp
    have e1 : rounds z s k p = s p := by rw [hr, if_neg (by rintro ⟨j, hj, h⟩; exact hp j hj.le h)]
    have hle := le_first hn (rounds z s k) p
    have hlt := lt_first hn (rounds z s k) p
    have e2 : rounds z s k (first hn (rounds z s k)) = s (τ k) := hval k hk
    rw [e1, e2] at hle
    rw [e1, e2] at hlt
    rcases hle.lt_or_eq with l | q
    · exact Or.inl l
    · refine Or.inr ⟨q.symm, ?_⟩
      rcases lt_trichotomy (τ k) p with l | l | l
      · exact l
      · exact absurd l (hp k le_rfl)
      · exact absurd (hlt l) (by rw [q]; exact lt_irrefl _)
  refine ⟨fun k => τ k.val, fun i j h => ?_, fun k => ?_, fun k => ?_, fun k => ?_, fun i j h => ?_, fun i p h => ?_⟩
  · rcases lt_trichotomy i.val j.val with l | l | l
    · exact absurd h (hun j.val j.isLt i.val l)
    · exact Fin.ext l
    · exact absurd h.symm (hun i.val i.isLt j.val l)
  · rw [top_eq hn]; exact hval k.val k.isLt
  · rw [arg_eq hn hz]
  · show s (τ k.val) ≠ ⊥
    rw [← hval k.val k.isLt]; exact hne k.val k.isLt
  · refine hbef i.val i.isLt _ fun a ha => hun j.val j.isLt a (lt_of_le_of_lt ha h)
  · refine hbef i.val i.isLt _ fun a ha => h ⟨a, lt_of_le_of_lt ha i.isLt⟩

/-! ## The stable descending sort -/

/-- A stable sort asks its comparator only about a later element against an earlier one. -/
theorem mem_insertBefore {ι : Type} (R : ι → ι → Bool) (a b : ι) (l : List ι) (h : b ∈ insertBefore R a l) : b = a ∨ b ∈ l := by
  have := (perm_insertBefore R a l).mem_iff.mp h
  simpa using this

theorem insertBefore_congr {ι : Type} {R R' : ι → ι → Bool} (a : ι) (l : List ι) (h : ∀ b ∈ l, R b a = R' b a) :
    insertBefore R a l = insertBefore R' a l := by
  induction l with
  | nil => rfl
  | cons b l ih =>
    unfold insertBefore
    rw [h b (by simp), ih fun c hc => h c (by simp [hc])]

theorem stableSort_congr_later {R R' : Fin n → Fin n → Bool} (h : ∀ a b, a < b → R b a = R' b a) :
    ∀ l : List (Fin n), l.Pairwise (· < ·) → stableSort R l = stableSort R' l := by
  intro l
  induction l with
  | nil => intro _; rfl
  | cons a l ih =>
    intro hl
    rw [List.pairwise_cons] at hl
    show insertBefore R a (stableSort R l) = insertBefore R' a (stableSort R' l)
    rw [ih hl.2]
    refine insertBefore_congr a _ fun b hb => h a b (hl.1 b ?_)
    exact (perm_stableSort R' l).mem_iff.mp hb

/-- The stable sort by descending value puts first what a selection picks that is ordered and leaves nothing before it out. -/
theorem sorted_prefix {K : ℕ} (hK : K ≤ n) (x : Fin n → EReal) (R : Fin n → Fin n → Bool)
    (hR : ∀ a b, R a b = decide (x b < x a)) (σ : Fin K → Fin n) (hi : Function.Injective σ)
    (ho : ∀ i j, i < j → Before x (σ i) (σ j)) (hd : ∀ i p, (∀ j, σ j ≠ p) → Before x (σ i) p) (k : Fin K) :
    sortedFrom R (k.castLE hK) = σ k := by
  have hB := StrictTotalBefore.of_key_then_position (n := n) (fun a b : EReal => decide (b < a)) x (fun a => by simp)
    (fun a b c h h' => by simp only [decide_eq_true_eq] at h h' ⊢; exact h'.trans h)
    (fun a b => by
      simp only [decide_eq_true_eq]
      rcases lt_trichotomy a b with l | l | l
      · exact Or.inr (Or.inr l)
      · exact Or.inr (Or.inl l)
      · exact Or.inl l)
  have hf : ∀ a b, Before x a b → (decide (x a < x b) || (decide (x b = x a) && decide (b < a))) = false := by
    intro a b h
    by_contra hc
    rw [Bool.not_eq_false] at hc
    simp only [Bool.or_eq_true, Bool.and_eq_true, decide_eq_true_eq] at hc
    exact h.asymm hc
  have hs : sortPositions n R = sortPositions n fun a b => decide (x b < x a) || (decide (x a = x b) && decide (a < b)) := by
    refine stableSort_congr_later (fun a b hab => ?_) _ ?_
    · rw [hR]
      have : decide (b < a) = false := by simpa using hab.le
      simp [this]
    · exact List.pairwise_lt_finRange n
  have hmain := hB.sortedFrom_eq_of_prefix hK σ hi (fun i j h => hf _ _ (ho i j h)) (fun i p h => hf _ _ (hd i p h)) k
  rw [← hmain]
  refine Eq.trans (List.get_of_eq hs _) ?_
  rfl

end Cert.RouteMath

end
-- ==== Proof.TopPairs.lean ====
/-
  The best sums of two descending lists of sixteen: of the 256 pairs, only the fifty pairs `(i, j)` with
  `(i + 1)(j + 1) ≤ 16` can be among the sixteen best, and ranking these fifty ranks them as among all.
-/
module

public import proofs.«01_k».proof.Proof.TopRounds

@[expose] public section

noncomputable section

namespace Cert.RouteMath

open Idealize.ShloMosaic

/-- The fifty pairs in the order of the table, six more rows standing for none. -/
def pairAt (r : Fin 56) : ℕ × ℕ :=
  (((List.range 16).flatMap fun i => (List.range (16 / (i + 1))).map fun j => (i, j))).getD r.val (0, 0)

theorem pairAt_lt : ∀ r : Fin 56, (pairAt r).1 < 16 ∧ (pairAt r).2 < 16 := by decide +kernel

/-- The two ranks of a row of the table, and the row's position among all 256 pairs. -/
def rankI (r : Fin 56) : Fin 16 := ⟨(pairAt r).1, (pairAt_lt r).1⟩
def rankJ (r : Fin 56) : Fin 16 := ⟨(pairAt r).2, (pairAt_lt r).2⟩
def pos (r : Fin 56) : Fin 256 := ⟨16 * (pairAt r).1 + (pairAt r).2, by have := pairAt_lt r; omega⟩

theorem pos_lt : ∀ a b : Fin 56, a.val < 50 → b.val < 50 → (pos a < pos b ↔ a < b) := by decide +kernel
theorem pos_div : ∀ a : Fin 56, (pos a).val / 16 = (rankI a).val ∧ (pos a).val % 16 = (rankJ a).val := by decide +kernel

/-- The rows of the table whose two ranks are no worse than a pair's. -/
def better (p : Fin 256) : Finset (Fin 56) :=
  Finset.univ.filter fun r => r.val < 50 ∧ (rankI r).val ≤ p.val / 16 ∧ (rankJ r).val ≤ p.val % 16

theorem many_better : ∀ p : Fin 256, (∃ r : Fin 56, r.val < 50 ∧ pos r = p) ∨ 16 ≤ (better p).card := by decide +kernel

/-- The sum of a pair of ranks. -/
def pairSum (u v : Fin 16 → EReal) (p : Fin 256) : EReal := u ⟨p.val / 16, by omega⟩ + v ⟨p.val % 16, by omega⟩

/-- The table of candidates. -/
def cand (u v : Fin 16 → EReal) (r : Fin 56) : EReal := if r.val < 50 then u (rankI r) + v (rankJ r) else ⊥

theorem cand_eq (u v : Fin 16 → EReal) (r : Fin 56) (h : r.val < 50) : cand u v r = pairSum u v (pos r) := by
  unfold cand pairSum
  rw [if_pos h]
  have := pos_div r
  congr 2
  · exact Fin.ext this.1.symm
  · exact Fin.ext this.2.symm

theorem before_pos (u v : Fin 16 → EReal) (a b : Fin 56) (ha : a.val < 50) (hb : b.val < 50) :
    Before (pairSum u v) (pos a) (pos b) ↔ Before (cand u v) a b := by
  unfold Before
  rw [cand_eq u v a ha, cand_eq u v b hb, pos_lt a b ha hb]

/-- The sixteen best rows of the table are the sixteen best pairs, in the same order. -/
theorem sorted_pairs (u v : Fin 16 → EReal) (hu : ∀ a b, a ≤ b → u b ≤ u a) (hv : ∀ a b, a ≤ b → v b ≤ v a)
    (R : Fin 256 → Fin 256 → Bool) (hR : ∀ a b, R a b = decide (pairSum u v b < pairSum u v a))
    (σ : Fin 16 → Fin 56) (hi : Function.Injective σ) (hne : ∀ k, cand u v (σ k) ≠ ⊥)
    (ho : ∀ i j, i < j → Before (cand u v) (σ i) (σ j)) (hd : ∀ i p, (∀ j, σ j ≠ p) → Before (cand u v) (σ i) p)
    (k : Fin 16) : sortedFrom R (k.castLE (by decide)) = pos (σ k) := by
  have hl : ∀ k, (σ k).val < 50 := by
    intro k
    by_contra h
    exact hne k (if_neg h)
  have hpi : ∀ a b : Fin 56, a.val < 50 → b.val < 50 → pos a = pos b → a = b := by
    intro a b ha hb h
    rcases lt_trichotomy a b with l | l | l
    · exact absurd ((pos_lt a b ha hb).mpr l) (by rw [h]; exact lt_irrefl _)
    · exact l
    · exact absurd ((pos_lt b a hb ha).mpr l) (by rw [h]; exact lt_irrefl _)
  refine sorted_prefix (by decide) (pairSum u v) R hR (fun k => pos (σ k)) (fun a b h => hi (hpi _ _ (hl a) (hl b) h))
    (fun i j h => (before_pos u v _ _ (hl i) (hl j)).mpr (ho i j h)) (fun i p hp => ?_) k
  by_cases hin : ∃ r : Fin 56, r.val < 50 ∧ pos r = p
  · obtain ⟨r, hr, rfl⟩ := hin
    exact (before_pos u v _ _ (hl i) hr).mpr (hd i r fun j e => hp j (by rw [e]))
  · rcases before_total (pairSum u v) (hp i) with h | h
    · exact h
    · exfalso
      have hb : ∀ r ∈ better p, Before (cand u v) r (σ i) := by
        intro r hr
        obtain ⟨-, h50, h1, h2⟩ := Finset.mem_filter.mp hr
        refine (before_pos u v r (σ i) h50 (hl i)).mp (Before.trans ?_ h)
        have hle : pairSum u v p ≤ pairSum u v (pos r) := by
          have := pos_div r
          unfold pairSum
          refine add_le_add (hu _ _ ?_) (hv _ _ ?_)
          · show (pos r).val / 16 ≤ p.val / 16; omega
          · show (pos r).val % 16 ≤ p.val % 16; omega
        rcases hle.lt_or_eq with l | e
        · exact Or.inl l
        · refine Or.inr ⟨e.symm, ?_⟩
          have hneq : pos r ≠ p := fun e => hin ⟨r, h50, e⟩
          have := pos_div r
          refine lt_of_le_of_ne ?_ hneq
          show (pos r).val ≤ p.val
          omega
      have hsub : better p ⊆ (Finset.univ.filter fun j => j < i).image σ := by
        intro r hr
        by_cases hj : ∃ j, σ j = r
        · obtain ⟨j, rfl⟩ := hj
          refine Finset.mem_image.mpr ⟨j, Finset.mem_filter.mpr ⟨Finset.mem_univ _, ?_⟩, rfl⟩
          rcases lt_trichotomy j i with l | l | l
          · exact l
          · subst l; exact ((hb _ hr).asymm (hb _ hr)).elim
          · exact ((hb _ hr).asymm (ho i j l)).elim
        · exact ((hb r hr).asymm (hd i r fun j e => hj ⟨j, e⟩)).elim
      have hc := (Finset.card_le_card hsub).trans Finset.card_image_le
      have hlt : (Finset.univ.filter fun j : Fin 16 => j < i).card < 16 := by
        have : (Finset.univ.filter fun j : Fin 16 => j < i) ⊂ Finset.univ :=
          Finset.filter_ssubset.mpr ⟨i, Finset.mem_univ _, lt_irrefl i⟩
        simpa using Finset.card_lt_card this
      rcases many_better p with h | h
      · exact hin h
      · omega

end Cert.RouteMath

end
-- ==== Proof.RouteSteps.lean ====
/-
  The steps of the routing kernel as functions of whole rows and blocks: the best score of each column, its index,
  the block without it, the candidates of a head and their gates; and the stores of one row each.
-/
module

public import proofs.«01_k».proof.Defs
public import proofs.«01_k».proof.Proof.TopPairs
public import proofs.«01_k».proof.Proof.Gen.RouteIdeal.Frame.RunA

@[expose] public section

set_option maxRecDepth 16384

noncomputable section

namespace Cert.RouteProof

open Cert.RouteIdeal Cert.RouteIdeal.Gen Idealize.ShloMosaic Idealize.ShloMosaic.TcCoe Idealize.SL.Sem Cert.RouteMath

abbrev Keys := FVec Ideal S128x256 .f32
abbrev Cands := FVec Ideal S56x256 .f32
abbrev Row := FVec Ideal S1x256 .f32

/-! ## The scores of one half of one head -/

def keysTop (s : Keys) : Row :=
  shapeCast S1x256 (multiReduction .maximumf [0] S256 s 0xFF800000#32 reduces_S128x256_S256 (.inl rfl) rfl) shapeCasts_S256_S1x256

def keysArg (s : Keys) : Row :=
  shapeCast S1x256 (multiReduction .minimumf [0] S256
    (select (cmpf .oeq s (broadcastTo S128x256 (keysTop s) broadcasts_S1x256_S128x256)) (k0_pay7 (F := Ideal))
      (broadcast S128x256 (Scalar.ofBits (F := Ideal) .f32 0x43000000#32)))
    0x7F800000#32 reduces_S128x256_S256 (.inl rfl) rfl) shapeCasts_S256_S1x256

def keysNext (s : Keys) : Keys :=
  select (cmpf .oeq (k0_pay7 (F := Ideal)) (broadcastTo S128x256 (keysArg s) broadcasts_S1x256_S128x256))
    (broadcast S128x256 (Scalar.ofBits (F := Ideal) .f32 0xFF800000#32)) s

def keysAt (s : Keys) (k : ℕ) : Keys := Nat.rec s (fun _ t => keysNext t) k

/-! ## The candidates of one head -/

def candTop (s : Cands) : Row :=
  shapeCast S1x256 (multiReduction .maximumf [0] S256 s 0xFF800000#32 reduces_S56x256_S256 (.inl rfl) rfl) shapeCasts_S256_S1x256

def candArg (s : Cands) : Row :=
  shapeCast S1x256 (multiReduction .minimumf [0] S256
    (select (cmpf .oeq s (broadcastTo S56x256 (candTop s) broadcasts_S1x256_S56x256)) (k0_pay8 (F := Ideal))
      (broadcast S56x256 (Scalar.ofBits (F := Ideal) .f32 0x42600000#32)))
    0x7F800000#32 reduces_S56x256_S256 (.inl rfl) rfl) shapeCasts_S256_S1x256

def candHit (s : Cands) : IVec S56x256 1 :=
  cmpf .oeq (k0_pay8 (F := Ideal)) (broadcastTo S56x256 (candArg s) broadcasts_S1x256_S56x256)

def candNext (s : Cands) : Cands :=
  select (candHit s) (broadcast S56x256 (Scalar.ofBits (F := Ideal) .f32 0xFF800000#32)) s

def candAt (s : Cands) (k : ℕ) : Cands := Nat.rec s (fun _ t => candNext t) k

/-- The entry of a second table in the row of the best candidate. -/
def picked (s e : Cands) : Row :=
  shapeCast S1x256 (shapeCast S1x256 (multiReduction .maximumf [0] S256
    (select (candHit s) e (broadcast S56x256 (Scalar.ofBits (F := Ideal) .f32 0xBF800000#32)))
    0xFF800000#32 reduces_S56x256_S256 (.inl rfl) rfl) shapeCasts_S256_S1x256) shapeCasts_S1x256_S1x256

/-- One score of the two halves, and the expert's number. -/
def sumRow (s t : Keys) (i j : ℕ) : Row :=
  shapeCast S1x256 (addf (keysTop (keysAt s i)) (keysTop (keysAt t j))) shapeCasts_S1x256_S1x256

def numberRow (s t : Keys) (i j : ℕ) : Row :=
  shapeCast S1x256 (addf (mulf (keysArg (keysAt s i)) (broadcast S1x256 (Scalar.ofBits (F := Ideal) .f32 0x43000000#32)))
    (keysArg (keysAt t j))) shapeCasts_S1x256_S1x256

/-! ## The gates of one head -/

def weight (s : Cands) (k : ℕ) : Row := exp (subf (candTop (candAt s k)) (candTop s))

def weights (s : Cands) (k : ℕ) : Row := Nat.rec (weight s 0) (fun n t => addf t (weight s (n + 1))) k

def gate (s : Cands) (k : ℕ) : Row :=
  shapeCast S1x256 (mulf (weight s k) (divf (broadcast S1x256 (Scalar.ofBits (F := Ideal) .f32 0x3F800000#32)) (weights s 15)))
    shapeCasts_S1x256_S1x256

/-! ## One row stored after another -/

theorem row_in (n k : ℕ) (h : k < n) : ∀ a, (![k, 0] : Fin 2 → ℕ) a + (![1, 256] : Fin 2 → ℕ) a ≤ (![n, 256] : Fin 2 → ℕ) a := by
  intro a; fin_cases a
  · show k + 1 ≤ n; omega
  · show 0 + 256 ≤ 256; omega

abbrev Tall (n : ℕ) : Shape := ⟨2, ![n, 256]⟩

/-- The stores of the first `k` rows, the last store first, after those of `L`. -/
def stack (n : ℕ) (v : ℕ → Row) (L : List (View.Piece (Elt Ideal) (Tall n) .f32)) :
    (k : ℕ) → k ≤ n → List (View.Piece (Elt Ideal) (Tall n) .f32)
  | 0, _ => L
  | k + 1, h => ⟨Rect.unit (s := Tall n) ![k, 0] ![1, 256] (row_in n k h), v k⟩ :: stack n v L k (Nat.le_of_succ_le h)

end Cert.RouteProof

end
-- ==== Proof.RouteRunA.lean ====
/-
  The kernel's run at one grid point: the rows it stores in its scratch buffers are the steps of the routing, head by
  head, applied to the scores.
-/
module

public import proofs.«01_k».proof.Proof.RouteSteps

@[expose] public section

set_option maxRecDepth 100000

noncomputable section

namespace Cert.RouteProof

open Cert.RouteIdeal Cert.RouteIdeal.Gen Idealize.ShloMosaic Idealize.ShloMosaic.TcCoe Idealize.SL.Sem Cert.RouteMath

/-- What a point works on: its buffers and the contents of its four inputs. -/
structure Blocks where
  c : Dev nD
  arg1 : Memref sig .tc .vmem S256x2048 .f32
  harg1 : arg1.IsWhole
  arg2 : Memref sig .tc .vmem S1x2048 .f32
  harg2 : arg2.IsWhole
  arg3 : Memref sig .tc .vmem S2048x2048 .bf16
  harg3 : arg3.IsWhole
  arg4 : Memref sig .tc .vmem S8x2x128x128 .bf16
  harg4 : arg4.IsWhole
  arg8 : Memref sig .tc .vmem S128x256 .f32
  arg9 : Memref sig .tc .vmem S128x256 .f32
  arg10 : Memref sig .tc .vmem S56x256 .f32
  arg11 : Memref sig .tc .vmem S56x256 .f32
  x0 : Vec Ideal S256x2048 .f32
  x1 : Vec Ideal S1x2048 .f32
  x2 : Vec Ideal S2048x2048 .bf16
  x3 : Vec Ideal S8x2x128x128 .bf16

variable (B : Blocks)

theorem slice_in (o : ℕ) (h : o + 128 ≤ 2048) : S256x2048.Slices ![0, o] S256x128 :=
  ⟨rfl, fun a => match a with
    | ⟨0, _⟩ => by show 0 + 256 ≤ 256; omega
    | ⟨1, _⟩ => by show o + 128 ≤ 2048; exact h⟩

theorem key_in (h : Fin 8) (c : Fin 2) : ∀ a, (![h.val, c.val, 0, 0] : Fin 4 → ℕ) a + S1x1x128x128.size a ≤ S8x2x128x128.size a := by
  intro a; fin_cases a
  · show h.val + 1 ≤ 8; omega
  · show c.val + 1 ≤ 2; omega
  · show 0 + 128 ≤ 128; omega
  · show 0 + 128 ≤ 128; omega

/-- The queries of a point's tokens. -/
def queries : FVec Ideal S256x2048 .bf16 :=
  k0_pay6 (View.readAt (Elt Ideal) B.arg1.view (Rect.unit ![0, 0] S256x2048.size inb_S256x2048_S256x2048_0_0).toLoadRect (B.harg1.unread B.x0))
    (View.readAt (Elt Ideal) B.arg2.view (Rect.unit ![0, 0] S1x2048.size inb_S1x2048_S1x2048_0_0).toLoadRect (B.harg2.unread B.x1))
    (View.readAt (Elt Ideal) B.arg3.view (Rect.unit ![0, 0] S2048x2048.size inb_S2048x2048_S2048x2048_0_0).toLoadRect (B.harg3.unread B.x2))

/-- The keys of one half of one head. -/
def keys (h : Fin 8) (c : Fin 2) : FVec Ideal S128x128 .bf16 :=
  shapeCast S128x128 (View.readAt (Elt Ideal) B.arg4.view (Rect.unit (s := S8x2x128x128) ![h.val, c.val, 0, 0] S1x1x128x128.size (key_in h c)).toLoadRect
    (B.harg4.unread B.x3) : FVec Ideal S1x1x128x128 .bf16) shapeCasts_S1x1x128x128_S128x128

/-- Their scores for every token. -/
def scores (h : Fin 8) (c : Fin 2) : Keys :=
  matmul dot_S128x128_S256x128_S128x256_1_1_0_0_n_n none (keys B h c)
    (extractStridedSlice S256x128 ![0, (2 * h.val + c.val) * 128] (queries B) (slice_in ((2 * h.val + c.val) * 128) (by omega)))
    (constant S128x256 .f32 0x00000000#32)

/-- The pair of ranks in a row of the table of candidates. -/
def pairNat (r : ℕ) : ℕ × ℕ := ((List.range 16).flatMap fun i => (List.range (16 / (i + 1))).map fun j => (i, j)).getD r (0, 0)

/-- A head's candidate sums and numbers, row by row. -/
def sumRows (h : Fin 8) (r : ℕ) : Row := sumRow (scores B h 0) (scores B h 1) (pairNat r).1 (pairNat r).2
def numberRows (h : Fin 8) (r : ℕ) : Row := numberRow (scores B h 0) (scores B h 1) (pairNat r).1 (pairNat r).2

/-- The candidate tables' stores after each head. -/
def sumStores : ℕ → List (View.Piece (Elt Ideal) S56x256 .f32)
  | 0 => kernelRun0_A.sl.HS2_51 (F := Ideal) B.c B.arg1 B.harg1 B.arg2 B.harg2 B.arg3 B.harg3 B.arg4 B.harg4 B.x0 B.x1 B.x2 B.x3
  | 1 => kernelRun0_A.sl.HS2_102 (F := Ideal) B.c B.arg1 B.harg1 B.arg2 B.harg2 B.arg3 B.harg3 B.arg4 B.harg4 B.x0 B.x1 B.x2 B.x3
  | 2 => kernelRun0_A.sl.HS2_153 (F := Ideal) B.c B.arg1 B.harg1 B.arg2 B.harg2 B.arg3 B.harg3 B.arg4 B.harg4 B.x0 B.x1 B.x2 B.x3
  | 3 => kernelRun0_A.sl.HS2_204 (F := Ideal) B.c B.arg1 B.harg1 B.arg2 B.harg2 B.arg3 B.harg3 B.arg4 B.harg4 B.x0 B.x1 B.x2 B.x3
  | 4 => kernelRun0_A.sl.HS2_255 (F := Ideal) B.c B.arg1 B.harg1 B.arg2 B.harg2 B.arg3 B.harg3 B.arg4 B.harg4 B.x0 B.x1 B.x2 B.x3
  | 5 => kernelRun0_A.sl.HS2_306 (F := Ideal) B.c B.arg1 B.harg1 B.arg2 B.harg2 B.arg3 B.harg3 B.arg4 B.harg4 B.x0 B.x1 B.x2 B.x3
  | 6 => kernelRun0_A.sl.HS2_357 (F := Ideal) B.c B.arg1 B.harg1 B.arg2 B.harg2 B.arg3 B.harg3 B.arg4 B.harg4 B.x0 B.x1 B.x2 B.x3
  | _ => kernelRun0_A.sl.HS2_408 (F := Ideal) B.c B.arg1 B.harg1 B.arg2 B.harg2 B.arg3 B.harg3 B.arg4 B.harg4 B.x0 B.x1 B.x2 B.x3

def numberStores : ℕ → List (View.Piece (Elt Ideal) S56x256 .f32)
  | 0 => kernelRun0_A.sl.HS3_51 (F := Ideal) B.c B.arg1 B.harg1 B.arg2 B.harg2 B.arg3 B.harg3 B.arg4 B.harg4 B.x0 B.x1 B.x2 B.x3
  | 1 => kernelRun0_A.sl.HS3_102 (F := Ideal) B.c B.arg1 B.harg1 B.arg2 B.harg2 B.arg3 B.harg3 B.arg4 B.harg4 B.x0 B.x1 B.x2 B.x3
  | 2 => kernelRun0_A.sl.HS3_153 (F := Ideal) B.c B.arg1 B.harg1 B.arg2 B.harg2 B.arg3 B.harg3 B.arg4 B.harg4 B.x0 B.x1 B.x2 B.x3
  | 3 => kernelRun0_A.sl.HS3_204 (F := Ideal) B.c B.arg1 B.harg1 B.arg2 B.harg2 B.arg3 B.harg3 B.arg4 B.harg4 B.x0 B.x1 B.x2 B.x3
  | 4 => kernelRun0_A.sl.HS3_255 (F := Ideal) B.c B.arg1 B.harg1 B.arg2 B.harg2 B.arg3 B.harg3 B.arg4 B.harg4 B.x0 B.x1 B.x2 B.x3
  | 5 => kernelRun0_A.sl.HS3_306 (F := Ideal) B.c B.arg1 B.harg1 B.arg2 B.harg2 B.arg3 B.harg3 B.arg4 B.harg4 B.x0 B.x1 B.x2 B.x3
  | 6 => kernelRun0_A.sl.HS3_357 (F := Ideal) B.c B.arg1 B.harg1 B.arg2 B.harg2 B.arg3 B.harg3 B.arg4 B.harg4 B.x0 B.x1 B.x2 B.x3
  | _ => kernelRun0_A.sl.HS3_408 (F := Ideal) B.c B.arg1 B.harg1 B.arg2 B.harg2 B.arg3 B.harg3 B.arg4 B.harg4 B.x0 B.x1 B.x2 B.x3

/-- The two tables as a head reads them. -/
def sumTable (h : ℕ) : Cands :=
  B.arg10.view.readCov (sumStores B h) (Rect.unit (s := S56x256) ![0, 0] S56x256.size inb_S56x256_S56x256_0_0).toLoadRect

def numberTable (h : ℕ) : Cands :=
  B.arg11.view.readCov (numberStores B h) (Rect.unit (s := S56x256) ![0, 0] S56x256.size inb_S56x256_S56x256_0_0).toLoadRect

theorem sums0 : ∃ Z L, sumStores B 0 = stack 56 (sumRows B 0) (⟨Rect.unit (s := S56x256) ![0, 0] S56x256.size inb_S56x256_S56x256_0_0, Z⟩ :: L) 50 (by decide)
    ∧ Z = k0_pay112 (F := Ideal) :=
  ⟨k0_pay112 (F := Ideal), [], by sl_kernel_rfl, rfl⟩

theorem sums1 : ∃ Z L, sumStores B 1 = stack 56 (sumRows B 1) (⟨Rect.unit (s := S56x256) ![0, 0] S56x256.size inb_S56x256_S56x256_0_0, Z⟩ :: L) 50 (by decide)
    ∧ Z = k0_pay112 (F := Ideal) :=
  ⟨k0_pay112 (F := Ideal), sumStores B 0, by sl_kernel_rfl, rfl⟩

theorem sums2 : ∃ Z L, sumStores B 2 = stack 56 (sumRows B 2) (⟨Rect.unit (s := S56x256) ![0, 0] S56x256.size inb_S56x256_S56x256_0_0, Z⟩ :: L) 50 (by decide)
    ∧ Z = k0_pay112 (F := Ideal) :=
  ⟨k0_pay112 (F := Ideal), sumStores B 1, by sl_kernel_rfl, rfl⟩

theorem sums3 : ∃ Z L, sumStores B 3 = stack 56 (sumRows B 3) (⟨Rect.unit (s := S56x256) ![0, 0] S56x256.size inb_S56x256_S56x256_0_0, Z⟩ :: L) 50 (by decide)
    ∧ Z = k0_pay112 (F := Ideal) :=
  ⟨k0_pay112 (F := Ideal), sumStores B 2, by sl_kernel_rfl, rfl⟩

theorem sums4 : ∃ Z L, sumStores B 4 = stack 56 (sumRows B 4) (⟨Rect.unit (s := S56x256) ![0, 0] S56x256.size inb_S56x256_S56x256_0_0, Z⟩ :: L) 50 (by decide)
    ∧ Z = k0_pay112 (F := Ideal) :=
  ⟨k0_pay112 (F := Ideal), sumStores B 3, by sl_kernel_rfl, rfl⟩

theorem sums5 : ∃ Z L, sumStores B 5 = stack 56 (sumRows B 5) (⟨Rect.unit (s := S56x256) ![0, 0] S56x256.size inb_S56x256_S56x256_0_0, Z⟩ :: L) 50 (by decide)
    ∧ Z = k0_pay112 (F := Ideal) :=
  ⟨k0_pay112 (F := Ideal), sumStores B 4, by sl_kernel_rfl, rfl⟩

theorem sums6 : ∃ Z L, sumStores B 6 = stack 56 (sumRows B 6) (⟨Rect.unit (s := S56x256) ![0, 0] S56x256.size inb_S56x256_S56x256_0_0, Z⟩ :: L) 50 (by decide)
    ∧ Z = k0_pay112 (F := Ideal) :=
  ⟨k0_pay112 (F := Ideal), sumStores B 5, by sl_kernel_rfl, rfl⟩

theorem sums7 : ∃ Z L, sumStores B 7 = stack 56 (sumRows B 7) (⟨Rect.unit (s := S56x256) ![0, 0] S56x256.size inb_S56x256_S56x256_0_0, Z⟩ :: L) 50 (by decide)
    ∧ Z = k0_pay112 (F := Ideal) :=
  ⟨k0_pay112 (F := Ideal), sumStores B 6, by sl_kernel_rfl, rfl⟩

theorem numbers0 : ∃ Z L, numberStores B 0 = stack 56 (numberRows B 0) (⟨Rect.unit (s := S56x256) ![0, 0] S56x256.size inb_S56x256_S56x256_0_0, Z⟩ :: L) 50 (by decide)
    ∧ Z = k0_pay113 (F := Ideal) :=
  ⟨k0_pay113 (F := Ideal), [], by sl_kernel_rfl, rfl⟩

theorem numbers1 : ∃ Z L, numberStores B 1 = stack 56 (numberRows B 1) (⟨Rect.unit (s := S56x256) ![0, 0] S56x256.size inb_S56x256_S56x256_0_0, Z⟩ :: L) 50 (by decide)
    ∧ Z = k0_pay113 (F := Ideal) :=
  ⟨k0_pay113 (F := Ideal), numberStores B 0, by sl_kernel_rfl, rfl⟩

theorem numbers2 : ∃ Z L, numberStores B 2 = stack 56 (numberRows B 2) (⟨Rect.unit (s := S56x256) ![0, 0] S56x256.size inb_S56x256_S56x256_0_0, Z⟩ :: L) 50 (by decide)
    ∧ Z = k0_pay113 (F := Ideal) :=
  ⟨k0_pay113 (F := Ideal), numberStores B 1, by sl_kernel_rfl, rfl⟩

theorem numbers3 : ∃ Z L, numberStores B 3 = stack 56 (numberRows B 3) (⟨Rect.unit (s := S56x256) ![0, 0] S56x256.size inb_S56x256_S56x256_0_0, Z⟩ :: L) 50 (by decide)
    ∧ Z = k0_pay113 (F := Ideal) :=
  ⟨k0_pay113 (F := Ideal), numberStores B 2, by sl_kernel_rfl, rfl⟩

theorem numbers4 : ∃ Z L, numberStores B 4 = stack 56 (numberRows B 4) (⟨Rect.unit (s := S56x256) ![0, 0] S56x256.size inb_S56x256_S56x256_0_0, Z⟩ :: L) 50 (by decide)
    ∧ Z = k0_pay113 (F := Ideal) :=
  ⟨k0_pay113 (F := Ideal), numberStores B 3, by sl_kernel_rfl, rfl⟩

theorem numbers5 : ∃ Z L, numberStores B 5 = stack 56 (numberRows B 5) (⟨Rect.unit (s := S56x256) ![0, 0] S56x256.size inb_S56x256_S56x256_0_0, Z⟩ :: L) 50 (by decide)
    ∧ Z = k0_pay113 (F := Ideal) :=
  ⟨k0_pay113 (F := Ideal), numberStores B 4, by sl_kernel_rfl, rfl⟩

theorem numbers6 : ∃ Z L, numberStores B 6 = stack 56 (numberRows B 6) (⟨Rect.unit (s := S56x256) ![0, 0] S56x256.size inb_S56x256_S56x256_0_0, Z⟩ :: L) 50 (by decide)
    ∧ Z = k0_pay113 (F := Ideal) :=
  ⟨k0_pay113 (F := Ideal), numberStores B 5, by sl_kernel_rfl, rfl⟩

theorem numbers7 : ∃ Z L, numberStores B 7 = stack 56 (numberRows B 7) (⟨Rect.unit (s := S56x256) ![0, 0] S56x256.size inb_S56x256_S56x256_0_0, Z⟩ :: L) 50 (by decide)
    ∧ Z = k0_pay113 (F := Ideal) :=
  ⟨k0_pay113 (F := Ideal), numberStores B 6, by sl_kernel_rfl, rfl⟩

/-- The stores of the two result tables. -/
theorem picks_stored : kernelRun0_A.sl.HS0_128 (F := Ideal) B.c B.arg1 B.harg1 B.arg2 B.harg2 B.arg3 B.harg3 B.arg4 B.harg4 B.arg10 B.arg11 B.x0 B.x1 B.x2 B.x3
    = stack 128 (fun r => picked (candAt (sumTable B (r / 16)) (r % 16)) (numberTable B (r / 16))) [] 128 (by decide) := by
  sl_kernel_rfl

theorem gates_stored : kernelRun0_A.sl.HS1_128 (F := Ideal) B.c B.arg1 B.harg1 B.arg2 B.harg2 B.arg3 B.harg3 B.arg4 B.harg4 B.arg10 B.x0 B.x1 B.x2 B.x3
    = stack 128 (fun r => gate (sumTable B (r / 16)) (r % 16)) [] 128 (by decide) := by
  sl_kernel_rfl

end Cert.RouteProof

end
-- ==== Proof.RouteCols.lean ====
/-
  The routing steps read column by column: each is the corresponding step on one token's scores.
-/
module

public import proofs.«01_k».proof.Proof.RouteSteps
public import proofs.«01_k».proof.Proof.RowMath
public import Idealize.ShloMosaic.Lib.Pointwise

@[expose] public section

set_option maxRecDepth 16384

noncomputable section

namespace Cert.RouteProof

open Cert.RouteIdeal Cert.RouteIdeal.Gen Idealize.ShloMosaic Idealize.ShloMosaic.TcCoe Idealize.SL.Sem Cert.RouteMath

/-- The values of the literals 128 and 56, and of minus one. -/
abbrev z128 : EReal := Ideal.ofBits .f32 0x43000000#32
abbrev z56 : EReal := Ideal.ofBits .f32 0x42600000#32
abbrev minusOne : EReal := Ideal.ofBits .f32 0xBF800000#32

theorem z128_eq : z128 = ((128 : ℝ) : EReal) := by
  simp [z128, Ideal.ofBits, Ideal.ieee, -EReal.coe_mul]; norm_num

theorem z56_eq : z56 = ((56 : ℝ) : EReal) := by
  simp [z56, Ideal.ofBits, Ideal.ieee, -EReal.coe_mul]; norm_num

theorem minusOne_eq : minusOne = ((-1 : ℝ) : EReal) := by
  simp [minusOne, Ideal.ofBits, Ideal.ieee, -EReal.coe_mul]; norm_num

theorem low_eq : Ideal.ofBits .f32 4286578688#32 = ⊥ := by
  simp [Ideal.ofBits, Ideal.ieee]

theorem high_eq : Ideal.ofBits .f32 2139095040#32 = ⊤ := by
  simp [Ideal.ofBits, Ideal.ieee]

theorem number_eq (n : ℕ) (h : n < 128) : FloatOps.sitofp (F := Ideal) (w := 32) FTy.f32 (BitVec.ofNat 32 n) = ((n : ℝ) : EReal) := by
  show (((BitVec.ofNat 32 n).toInt : ℝ) : EReal) = _
  have e : (BitVec.ofNat 32 n).toInt = (n : ℤ) := by
    rw [BitVec.toInt_eq_toNat_cond, BitVec.toNat_ofNat, Nat.mod_eq_of_lt (by omega), if_pos (by omega)]
  rw [e]
  norm_num

theorem fold_top {ι : Type} [Fintype ι] (f : ι → EReal) : Finset.fold max (Ideal.ofBits FTy.f32 4286578688#32) f Finset.univ = Finset.univ.sup f := by
  rw [low_eq]; rfl

theorem fold_low {ι : Type} [Fintype ι] (f : ι → EReal) : Finset.fold min (Ideal.ofBits FTy.f32 2139095040#32) f Finset.univ = Finset.univ.inf f := by
  rw [high_eq]; rfl

/-! ## The scores -/

theorem keysTop_apply (s : Keys) (j : Fin 256) : keysTop s (ix2 0 j) = top fun i : Fin 128 => s (ix2 i j) := by
  unfold keysTop top
  pointwise
  exact fold_top _

theorem iota_keys (i : Fin 128) (j : Fin 256) : k0_pay7 (F := Ideal) (ix2 i j) = ((i.val : ℝ) : EReal) := by
  unfold k0_pay7
  pointwise
  exact number_eq _ i.isLt

theorem keysArg_apply (s : Keys) (j : Fin 256) : keysArg s (ix2 0 j) = arg z128 fun i : Fin 128 => s (ix2 i j) := by
  unfold keysArg arg
  pointwise
  simp only [keysTop_apply, iota_keys]
  exact fold_low _

theorem keysNext_apply (s : Keys) (i : Fin 128) (j : Fin 256) : keysNext s (ix2 i j) = next z128 (fun i : Fin 128 => s (ix2 i j)) i := by
  unfold keysNext next
  pointwise
  simp only [keysArg_apply, iota_keys, low_eq]

theorem keysAt_apply (s : Keys) (k : ℕ) (j : Fin 256) :
    (fun i : Fin 128 => keysAt s k (ix2 i j)) = rounds z128 (fun i : Fin 128 => s (ix2 i j)) k := by
  induction k with
  | zero => rfl
  | succ k ih =>
    funext i
    show keysNext (keysAt s k) (ix2 i j) = next z128 (rounds z128 (fun i : Fin 128 => s (ix2 i j)) k) i
    rw [keysNext_apply, ih]

/-! ## The candidates -/

theorem candTop_apply (s : Cands) (j : Fin 256) : candTop s (ix2 0 j) = top fun i : Fin 56 => s (ix2 i j) := by
  unfold candTop top
  pointwise
  exact fold_top _

theorem iota_cands (i : Fin 56) (j : Fin 256) : k0_pay8 (F := Ideal) (ix2 i j) = ((i.val : ℝ) : EReal) := by
  unfold k0_pay8
  pointwise
  exact number_eq i.val (by omega)

theorem candArg_apply (s : Cands) (j : Fin 256) : candArg s (ix2 0 j) = arg z56 fun i : Fin 56 => s (ix2 i j) := by
  unfold candArg arg
  pointwise
  simp only [candTop_apply, iota_cands]
  exact fold_low _

theorem candNext_apply (s : Cands) (i : Fin 56) (j : Fin 256) : candNext s (ix2 i j) = next z56 (fun i : Fin 56 => s (ix2 i j)) i := by
  unfold candNext next candHit
  pointwise
  simp only [candArg_apply, iota_cands, low_eq]

theorem candAt_apply (s : Cands) (k : ℕ) (j : Fin 256) :
    (fun i : Fin 56 => candAt s k (ix2 i j)) = rounds z56 (fun i : Fin 56 => s (ix2 i j)) k := by
  induction k with
  | zero => rfl
  | succ k ih =>
    funext i
    show candNext (candAt s k) (ix2 i j) = next z56 (rounds z56 (fun i : Fin 56 => s (ix2 i j)) k) i
    rw [candNext_apply, ih]

theorem picked_apply (s e : Cands) (j : Fin 256) :
    picked s e (ix2 0 j) = Finset.univ.sup fun i : Fin 56 =>
      if ((i.val : ℝ) : EReal) = arg z56 (fun i : Fin 56 => s (ix2 i j)) then e (ix2 i j) else minusOne := by
  unfold picked candHit
  pointwise
  simp only [candArg_apply, iota_cands]
  exact fold_top _

/-- Where the best candidate is row `p` and its entry is at least minus one, the entry is what is picked. -/
theorem picked_eq (s e : Cands) (j : Fin 256) (p : Fin 56) (h : arg z56 (fun i : Fin 56 => s (ix2 i j)) = ((p.val : ℝ) : EReal))
    (he : minusOne ≤ e (ix2 p j)) : picked s e (ix2 0 j) = e (ix2 p j) := by
  rw [picked_apply, h]
  refine le_antisymm (Finset.sup_le fun i _ => ?_) ?_
  · split_ifs with hi
    · have : i = p := by
        have := EReal.coe_injective hi
        exact Fin.ext (by exact_mod_cast this)
      rw [this]
    · exact he
  · refine le_trans (le_of_eq ?_) (Finset.le_sup (Finset.mem_univ p))
    rw [if_pos rfl]

/-- One candidate's sum and number. -/
theorem sumRow_apply (s t : Keys) (a b : ℕ) (j : Fin 256) :
    sumRow s t a b (ix2 0 j) = top (rounds z128 (fun i : Fin 128 => s (ix2 i j)) a) + top (rounds z128 (fun i : Fin 128 => t (ix2 i j)) b) := by
  unfold sumRow
  pointwise
  rw [keysTop_apply, keysTop_apply, keysAt_apply, keysAt_apply]

theorem numberRow_apply (s t : Keys) (a b : ℕ) (j : Fin 256) :
    numberRow s t a b (ix2 0 j) = arg z128 (rounds z128 (fun i : Fin 128 => s (ix2 i j)) a) * z128 + arg z128 (rounds z128 (fun i : Fin 128 => t (ix2 i j)) b) := by
  unfold numberRow
  pointwise
  rw [keysArg_apply, keysArg_apply, keysAt_apply, keysAt_apply]

/-- The gates: the softmax of the sixteen best sums, as the kernel writes it. -/
theorem weight_apply (s : Cands) (k : ℕ) (j : Fin 256) :
    weight s k (ix2 0 j) = Ideal.exp (top (rounds z56 (fun i : Fin 56 => s (ix2 i j)) k) - top (fun i : Fin 56 => s (ix2 i j))) := by
  unfold weight
  pointwise
  rw [candTop_apply, candTop_apply, candAt_apply]

theorem weights_apply (s : Cands) (k : ℕ) (j : Fin 256) :
    weights s k (ix2 0 j) = ∑ i : Fin (k + 1), Ideal.exp (top (rounds z56 (fun i : Fin 56 => s (ix2 i j)) i.val) - top (fun i : Fin 56 => s (ix2 i j))) := by
  induction k with
  | zero =>
    show weight s 0 (ix2 0 j) = _
    rw [weight_apply, Fin.sum_univ_one]; rfl
  | succ k ih =>
    show weights s k (ix2 0 j) + weight s (k + 1) (ix2 0 j) = _
    rw [ih, weight_apply]
    exact (Fin.sum_univ_castSucc (fun i : Fin (k + 1 + 1) =>
      Ideal.exp (top (rounds z56 (fun i : Fin 56 => s (ix2 i j)) i.val) - top (fun i : Fin 56 => s (ix2 i j))))).symm

theorem gate_apply (s : Cands) (k : ℕ) (j : Fin 256) :
    gate s k (ix2 0 j) = Ideal.exp (top (rounds z56 (fun i : Fin 56 => s (ix2 i j)) k) - top (fun i : Fin 56 => s (ix2 i j)))
      * Ideal.div RowMath.one (∑ i : Fin 16, Ideal.exp (top (rounds z56 (fun i : Fin 56 => s (ix2 i j)) i.val) - top (fun i : Fin 56 => s (ix2 i j)))) := by
  unfold gate
  pointwise
  rw [weight_apply, weights_apply]

/-! ## The stores row by row -/

theorem canon_stack (n : ℕ) (v : ℕ → Row) (L : List (View.Piece (Elt Ideal) (Tall n) .f32)) (k : ℕ) (h : k ≤ n) (r : Fin n) (j : Fin 256) :
    View.canon (stack n v L k h) (ix2 r j) = if r.val < k then v r.val (ix2 0 j) else View.canon L (ix2 r j) := by
  induction k with
  | zero => rw [if_neg (by omega)]; rfl
  | succ k ih =>
    show View.canon (_ :: _) _ = _
    by_cases e : r.val = k
    · rw [if_pos (by omega)]
      have hx : (ix2 r j : (Tall n).Idx) = (Rect.unit (s := Tall n) ![k, 0] ![1, 256] (row_in n k h)).emb (ix2 (n0 := 1) (n1 := 256) 0 j) := by
        refine (RowMath.eq_pair _ _ _ ?_ ?_).symm
        · show k + 1 * 0 = r.val; omega
        · show 0 + 1 * j.val = j.val; omega
      rw [hx]
      refine (View.canon_cons_emb _ _ _ _).trans ?_
      rw [e]
    · rw [View.canon_cons_of_not_mem, ih (Nat.le_of_succ_le h)]
      · by_cases h' : r.val < k
        · rw [if_pos h', if_pos (by omega)]
        · rw [if_neg h', if_neg (by omega)]
      · show (ix2 r j : (Tall n).Idx) ∉ (Rect.unit (s := Tall n) ![k, 0] ![1, 256] (row_in n k h)).set
        rw [Rect.mem_set_unit]
        intro hm
        have h0 : k ≤ r.val ∧ r.val < k + 1 := hm 0
        omega

end Cert.RouteProof

end
-- ==== Proof.RouteHead.lean ====
/-
  One head of one token: the kernel's rounds over the two halves' scores and over the fifty candidates find the same sixteen
  experts, in the same order, as sorting both halves' scores and then all their sums.
-/
module

public import proofs.«01_k».proof.Proof.RouteCols

@[expose] public section

set_option maxRecDepth 16384

noncomputable section

namespace Cert.RouteProof

open Idealize.ShloMosaic Cert.RouteMath

variable {n : ℕ}

/-- The row at a rank, by descending value, earlier rows first among equals. -/
def ranked (s : Fin n → EReal) (k : Fin n) : Fin n := sortedFrom (fun a b => decide (s b < s a)) k

/-- The sum of the best scores of the two halves, at each of the 256 pairs of ranks. -/
def sums (s t : Fin 128 → EReal) : Fin 256 → EReal :=
  pairSum (fun i : Fin 16 => s (ranked s (i.castLE (by decide)))) (fun i : Fin 16 => t (ranked t (i.castLE (by decide))))

/-- The pair at a rank, its sum and its expert. -/
def best (s t : Fin 128 → EReal) (k : Fin 16) : Fin 256 := ranked (sums s t) (k.castLE (by decide))

def bestSum (s t : Fin 128 → EReal) (k : Fin 16) : EReal := sums s t (best s t k)

def expert (s t : Fin 128 → EReal) (k : Fin 16) : ℕ :=
  (ranked s ⟨(best s t k).val / 16, by omega⟩).val * 128 + (ranked t ⟨(best s t k).val % 16, by omega⟩).val

theorem le_z128 (i : Fin 128) : ((i.val : ℝ) : EReal) ≤ z128 := by
  rw [z128_eq]
  exact_mod_cast i.isLt.le

theorem le_z56 (i : Fin 56) : ((i.val : ℝ) : EReal) ≤ z56 := by
  rw [z56_eq]
  exact_mod_cast i.isLt.le

/-- The kernel's best scores of one half. -/
def tops (s : Fin 128 → EReal) (i : Fin 16) : EReal := top (rounds z128 s i.val)

/-- The rounds over one half's scores rank them. -/
theorem half (s : Fin 128 → EReal) (hs : ∀ i, s i ≠ ⊥) :
    ∃ σ : Fin 16 → Fin 128, (∀ k, tops s k = s (σ k)) ∧ (∀ k : Fin 16, arg z128 (rounds z128 s k.val) = (((σ k).val : ℝ) : EReal))
      ∧ (∀ k : Fin 16, ranked s (k.castLE (by decide)) = σ k) ∧ ∀ a b, a ≤ b → tops s b ≤ tops s a := by
  obtain ⟨σ, hi, ht, ha, -, ho, hd⟩ := picks le_z128 s (fun k : Fin 16 => k.castLE (by decide)) (Fin.castLE_injective (by decide)) fun k => hs _
  refine ⟨σ, ht, ha, fun k => sorted_prefix (by decide) s _ (fun _ _ => rfl) σ hi ho hd k, fun a b hab => ?_⟩
  show top _ ≤ top _
  rw [ht, ht]
  rcases hab.lt_or_eq with h | h
  · rcases ho a b h with h' | h'
    · exact h'.le
    · exact h'.1.ge
  · rw [h]

theorem number_word (a b : ℕ) : ((a : ℝ) : EReal) * z128 + ((b : ℝ) : EReal) = (((a * 128 + b : ℕ) : ℝ) : EReal) := by
  rw [z128_eq, ← EReal.coe_mul, ← EReal.coe_add]
  push_cast
  rfl

/-- One rank of one head. -/
theorem head (s t : Fin 128 → EReal) (hs : ∀ i, s i ≠ ⊥) (ht : ∀ i, t i ≠ ⊥) (k : Fin 16) :
    top (rounds z56 (cand (tops s) (tops t)) k.val) = bestSum s t k
      ∧ ∃ p : Fin 56, p.val < 50 ∧ arg z56 (rounds z56 (cand (tops s) (tops t)) k.val) = ((p.val : ℝ) : EReal)
        ∧ arg z128 (rounds z128 s (rankI p).val) * z128 + arg z128 (rounds z128 t (rankJ p).val) = ((expert s t k : ℝ) : EReal) := by
  obtain ⟨σ, h1, h2, h3, h4⟩ := half s hs
  obtain ⟨τ, g1, g2, g3, g4⟩ := half t ht
  have hsum : sums s t = pairSum (tops s) (tops t) := by
    unfold sums
    congr 1
    · funext i; rw [h3, h1]
    · funext i; rw [g3, g1]
  have hne : ∀ i : Fin 16, cand (tops s) (tops t) (i.castLE (by decide)) ≠ ⊥ := by
    intro i
    rw [cand, if_pos (by show i.val < 50; omega), h1, g1]
    intro h
    rcases EReal.add_eq_bot_iff.mp h with h | h
    · exact hs _ h
    · exact ht _ h
  obtain ⟨ρ, hi, pt, pa, pn, ho, hd⟩ := picks le_z56 (cand (tops s) (tops t)) (fun k : Fin 16 => k.castLE (by decide)) (Fin.castLE_injective (by decide)) hne
  have hp : best s t k = pos (ρ k) := by
    unfold best ranked
    rw [hsum]
    exact sorted_pairs (tops s) (tops t) h4 g4 _ (fun _ _ => rfl) ρ hi pn ho hd k
  have hl : (ρ k).val < 50 := by
    by_contra h
    exact pn k (if_neg h)
  refine ⟨?_, ρ k, hl, pa k, ?_⟩
  · rw [pt, cand_eq _ _ _ hl, bestSum, hp, hsum]
  · have hq := pos_div (ρ k)
    have e1 : (⟨(best s t k).val / 16, by omega⟩ : Fin 128) = (rankI (ρ k)).castLE (by decide) := Fin.ext (by
      show (best s t k).val / 16 = _
      rw [hp]; exact hq.1)
    have e2 : (⟨(best s t k).val % 16, by omega⟩ : Fin 128) = (rankJ (ρ k)).castLE (by decide) := Fin.ext (by
      show (best s t k).val % 16 = _
      rw [hp]; exact hq.2)
    have key : expert s t k = (σ (rankI (ρ k))).val * 128 + (τ (rankJ (ρ k))).val := by
      unfold expert
      rw [e1, e2, h3, g3]
    refine (congrArg₂ (fun a b : EReal => a * z128 + b) (h2 (rankI (ρ k))) (g2 (rankJ (ρ k)))).trans ?_
    rw [key]
    exact number_word _ _

end Cert.RouteProof

end
-- ==== Proof.RouteTables.lean ====
/-
  The candidate tables of each head, read one entry at a time.
-/
module

public import proofs.«01_k».proof.Proof.RouteRunA
public import proofs.«01_k».proof.Proof.RouteHead

@[expose] public section

set_option maxRecDepth 16384

noncomputable section

namespace Cert.RouteProof

open Cert.RouteIdeal Cert.RouteIdeal.Gen Idealize.ShloMosaic Idealize.ShloMosaic.TcCoe Idealize.SL.Sem Cert.RouteMath

variable (B : Blocks)

/-- One token's scores against the keys of one half of one head. -/
def column (h : Fin 8) (c : Fin 2) (a : Fin 256) : Fin 128 → EReal := fun i => scores B h c (ix2 i a)

theorem zeros : (![0, 0] : Fin 2 → ℕ) = fun _ => 0 := by decide

/-- Reading a whole buffer after its stores reads the last store at each entry. -/
theorem readCov_whole {n : ℕ} {sp : Space} (m : Memref sig .tc sp (Tall n) .f32) (L : List (View.Piece (Elt Ideal) (Tall n) .f32)) (inb : ∀ a, (![0, 0] : Fin 2 → ℕ) a + (Tall n).size a ≤ (Tall n).size a)
    (x : (Tall n).Idx) :
    m.view.readCov L (Rect.unit (s := Tall n) ![0, 0] (Tall n).size inb).toLoadRect x = View.canon L x := by
  rw [View.readCov_eq_canon']
  show View.canon L ((Rect.unit (s := Tall n) ![0, 0] (Tall n).size inb).emb x) = _
  congr 1
  funext a
  refine Fin.ext ?_
  show (![0, 0] : Fin 2 → ℕ) a + 1 * (x a).val = (x a).val
  rw [zeros]
  exact (Nat.zero_add _).trans (Nat.one_mul _)

theorem sums_all (h : Fin 8) : ∃ Z L, sumStores B h.val = stack 56 (sumRows B h) (⟨Rect.unit (s := S56x256) ![0, 0] S56x256.size inb_S56x256_S56x256_0_0, Z⟩ :: L) 50 (by decide)
    ∧ Z = k0_pay112 (F := Ideal) :=
  match h with
  | 0 => sums0 B
  | 1 => sums1 B
  | 2 => sums2 B
  | 3 => sums3 B
  | 4 => sums4 B
  | 5 => sums5 B
  | 6 => sums6 B
  | 7 => sums7 B

theorem numbers_all (h : Fin 8) : ∃ Z L, numberStores B h.val = stack 56 (numberRows B h) (⟨Rect.unit (s := S56x256) ![0, 0] S56x256.size inb_S56x256_S56x256_0_0, Z⟩ :: L) 50 (by decide)
    ∧ Z = k0_pay113 (F := Ideal) :=
  match h with
  | 0 => numbers0 B
  | 1 => numbers1 B
  | 2 => numbers2 B
  | 3 => numbers3 B
  | 4 => numbers4 B
  | 5 => numbers5 B
  | 6 => numbers6 B
  | 7 => numbers7 B

theorem pair_row (r : Fin 56) : pairNat r.val = pairAt r := rfl

theorem low_table (x : S56x256.Idx) : k0_pay112 (F := Ideal) x = ⊥ := low_eq

/-- The table of sums holds the fifty candidates, and −∞ below them. -/
theorem sumTable_apply (h : Fin 8) (r : Fin 56) (a : Fin 256) :
    sumTable B h.val (ix2 r a) = cand (tops (column B h 0 a)) (tops (column B h 1 a)) r := by
  obtain ⟨Z, L, e, rfl⟩ := sums_all B h
  refine (readCov_whole B.arg10 _ _ _).trans ?_
  rw [e, canon_stack, View.canon_cons_unit_zero zeros, cand, low_table]
  refine if_congr Iff.rfl ?_ rfl
  show sumRow _ _ (pairNat r.val).1 (pairNat r.val).2 (ix2 0 a) = _
  rw [sumRow_apply]
  rfl

/-- The table of numbers holds their experts. -/
theorem numberTable_apply (h : Fin 8) (r : Fin 56) (hr : r.val < 50) (a : Fin 256) :
    numberTable B h.val (ix2 r a) = arg z128 (rounds z128 (column B h 0 a) (rankI r).val) * z128 + arg z128 (rounds z128 (column B h 1 a) (rankJ r).val) := by
  obtain ⟨Z, L, e, -⟩ := numbers_all B h
  refine (readCov_whole B.arg11 _ _ _).trans ?_
  rw [e, canon_stack, if_pos hr]
  show numberRow _ _ (pairNat r.val).1 (pairNat r.val).2 (ix2 0 a) = _
  rw [numberRow_apply]
  rfl

/-- The rank `k` of a head: its gate and its expert's number, as the kernel stores them. -/
theorem gate_stored (h : Fin 8) (k : Fin 16) (a : Fin 256) (hs : ∀ i, column B h 0 a i ≠ ⊥) (ht : ∀ i, column B h 1 a i ≠ ⊥) :
    gate (sumTable B h.val) k.val (ix2 0 a)
      = Ideal.exp (bestSum (column B h 0 a) (column B h 1 a) k - bestSum (column B h 0 a) (column B h 1 a) 0)
        * Ideal.div RowMath.one (∑ i : Fin 16, Ideal.exp (bestSum (column B h 0 a) (column B h 1 a) i - bestSum (column B h 0 a) (column B h 1 a) 0)) := by
  have e : (fun i : Fin 56 => sumTable B h.val (ix2 i a)) = cand (tops (column B h 0 a)) (tops (column B h 1 a)) := by
    funext r; exact sumTable_apply B h r a
  have hb := fun k => (head (column B h 0 a) (column B h 1 a) hs ht k).1
  have h0 : top (cand (tops (column B h 0 a)) (tops (column B h 1 a))) = bestSum (column B h 0 a) (column B h 1 a) 0 := hb 0
  rw [gate_apply, e, h0, hb]
  simp only [hb]

theorem number_stored (h : Fin 8) (k : Fin 16) (a : Fin 256) (hs : ∀ i, column B h 0 a i ≠ ⊥) (ht : ∀ i, column B h 1 a i ≠ ⊥) :
    picked (candAt (sumTable B h.val) k.val) (numberTable B h.val) (ix2 0 a) = ((expert (column B h 0 a) (column B h 1 a) k : ℝ) : EReal) := by
  have e : (fun i : Fin 56 => sumTable B h.val (ix2 i a)) = cand (tops (column B h 0 a)) (tops (column B h 1 a)) := by
    funext r; exact sumTable_apply B h r a
  obtain ⟨p, hp, hr, hn⟩ := (head (column B h 0 a) (column B h 1 a) hs ht k).2
  rw [picked_eq _ _ a p]
  · rw [numberTable_apply B h p hp]; exact hn
  · rw [candAt_apply, e]; exact hr
  · rw [numberTable_apply B h p hp, hn, minusOne_eq]
    refine EReal.coe_le_coe_iff.mpr ?_
    have : (0 : ℝ) ≤ (expert (column B h 0 a) (column B h 1 a) k : ℝ) := Nat.cast_nonneg _
    linarith

end Cert.RouteProof

end
-- ==== Proof.RouteOutputs.lean ====
/-
  What the kernel leaves at one grid point in its three result blocks, one entry at a time.
-/
module

public import proofs.«01_k».proof.Proof.RouteTables
public import proofs.«01_k».proof.Proof.Gen.RouteIdeal.Frame
public import Idealize.ShloMosaic.Lib.WholeRead

@[expose] public section

set_option maxRecDepth 100000

noncomputable section

namespace Cert.RouteProof

open Cert.RouteIdeal Cert.RouteIdeal.Gen Idealize.ShloMosaic Idealize.ShloMosaic.TcCoe Idealize.SL.Sem Cert.RouteMath Cert.RowMath

/-- A whole load of a block held at `X` is `X`. -/
theorem load_whole {S : Shape} {e : EltTy} (m : Memref sig .tc .vmem S e) (h : m.IsWhole) (off : Fin S.rank → ℕ) (hz : off = fun _ => 0)
    (inb : ∀ a, off a + S.size a ≤ S.size a) (X : S.Idx → Elt Ideal e) :
    View.readAt (Elt Ideal) m.view (Rect.unit off S.size inb).toLoadRect (h.unread X) = X := by
  funext y
  rw [h.readAt_unread]
  exact congrFun (View.ld_unit_zero hz inb X) y

variable (B : Blocks)

/-- The normalised tokens of the block. -/
theorem normed_block (x : Vec Ideal S256x2048 .f32) (g : Vec Ideal S1x2048 .f32) (a : Fin 256) (k : Fin 2048) :
    k0_pay5 x g (ix2 a k) = normed (fun k => x (ix2 a k)) (fun k => g (ix2 0 k)) k := by
  unfold k0_pay5
  pointwise [normed]

set_option maxHeartbeats 1000000 in
theorem projected_block (x : Vec Ideal S256x2048 .f32) (g : Vec Ideal S1x2048 .f32) (w : Vec Ideal S2048x2048 .bf16) (a : Fin 256) (j : Fin 2048) :
    k0_pay6 x g w (ix2 a j) = ∑ k : Fin 2048, normed (fun k => x (ix2 a k)) (fun k => g (ix2 0 k)) k * w (ix2 k j) := by
  unfold k0_pay6
  pointwise
  simp only [normed_block, zero_add]

theorem queries_apply (a : Fin 256) (j : Fin 2048) :
    queries B (ix2 a j) = ∑ k : Fin 2048, normed (fun k => B.x0 (ix2 a k)) (fun k => B.x1 (ix2 0 k)) k * B.x2 (ix2 k j) := by
  unfold queries
  rw [load_whole B.arg1 B.harg1 _ zeros, load_whole B.arg2 B.harg2 _ zeros, load_whole B.arg3 B.harg3 _ zeros, projected_block]

theorem keys_apply (h : Fin 8) (c : Fin 2) (p d : Fin 128) : keys B h c (ix2 p d) = B.x3 (ix4 h c p d) := by
  have e : ∀ v : FVec Ideal S1x1x128x128 .bf16, shapeCast S128x128 v shapeCasts_S1x1x128x128_S128x128 (ix2 p d) = v (ix4 0 0 p d) := fun v => by pointwise
  refine (e _).trans ?_
  rw [B.harg4.readAt_unread]
  refine congrArg B.x3 ?_
  funext a
  refine Fin.ext ?_
  match a with
  | ⟨0, _⟩ => show h.val + 1 * 0 = h.val; omega
  | ⟨1, _⟩ => show c.val + 1 * 0 = c.val; omega
  | ⟨2, _⟩ => show 0 + 1 * p.val = p.val; omega
  | ⟨3, _⟩ => show 0 + 1 * d.val = d.val; omega

theorem column_apply (h : Fin 8) (c : Fin 2) (a : Fin 256) (p : Fin 128) :
    column B h c a p = ∑ d : Fin 128, B.x3 (ix4 h c p d) * queries B (ix2 a ⟨h.val * 256 + c.val * 128 + d.val, by omega⟩) := by
  unfold column scores
  pointwise
  simp only [keys_apply, zero_add]
  refine Finset.sum_congr rfl fun d _ => congrArg (fun q => B.x3 (ix4 h c p d) * queries B q) ?_
  refine eq_pair _ _ _ rfl ?_
  show (2 * h.val + c.val) * 128 + d.val = h.val * 256 + c.val * 128 + d.val
  omega

variable (i : grid0.Coords) (arg5 : Memref sig .tc .vmem S256x2048 .f32) (harg5 : arg5.IsWhole) (arg6 : Memref sig .tc .vmem S256x128 .i32) (harg6 : arg6.IsWhole) (arg7 : Memref sig .tc .vmem S256x128 .f32) (harg7 : arg7.IsWhole) (harg8 : B.arg8.IsWhole) (harg9 : B.arg9.IsWhole) (harg10 : B.arg10.IsWhole) (harg11 : B.arg11.IsWhole)

theorem pieces4 : (kernelRun0_A (F := Ideal) B.c i B.arg1 B.harg1 B.arg2 B.harg2 B.arg3 B.harg3 B.arg4 B.harg4 arg5 harg5 arg6 harg6 arg7 harg7 B.arg8 harg8 B.arg9 harg9 B.arg10 harg10 B.arg11 harg11 B.x0 B.x1 B.x2 B.x3).1
    = [⟨Rect.unit (s := S256x2048) ![0, 0] S256x2048.size inb_S256x2048_S256x2048_0_0,
        k0_pay5 (View.readAt (Elt Ideal) B.arg1.view (Rect.unit ![0, 0] S256x2048.size inb_S256x2048_S256x2048_0_0).toLoadRect (B.harg1.unread B.x0))
          (View.readAt (Elt Ideal) B.arg2.view (Rect.unit ![0, 0] S1x2048.size inb_S1x2048_S1x2048_0_0).toLoadRect (B.harg2.unread B.x1))⟩] := by
  sl_kernel_rfl

theorem pieces5 : (kernelRun0_A (F := Ideal) B.c i B.arg1 B.harg1 B.arg2 B.harg2 B.arg3 B.harg3 B.arg4 B.harg4 arg5 harg5 arg6 harg6 arg7 harg7 B.arg8 harg8 B.arg9 harg9 B.arg10 harg10 B.arg11 harg11 B.x0 B.x1 B.x2 B.x3).2.1
    = [⟨Rect.unit (s := S256x128) ![0, 0] S256x128.size inb_S256x128_S256x128_0_0,
        k0_pay3 (B.arg8.view.readCov (kernelRun0_A.sl.HS0_128 (F := Ideal) B.c B.arg1 B.harg1 B.arg2 B.harg2 B.arg3 B.harg3 B.arg4 B.harg4 B.arg10 B.arg11 B.x0 B.x1 B.x2 B.x3) (Rect.unit (s := S128x256) ![0, 0] S128x256.size inb_S128x256_S128x256_0_0).toLoadRect)⟩] := by
  sl_kernel_rfl

theorem pieces6 : (kernelRun0_A (F := Ideal) B.c i B.arg1 B.harg1 B.arg2 B.harg2 B.arg3 B.harg3 B.arg4 B.harg4 arg5 harg5 arg6 harg6 arg7 harg7 B.arg8 harg8 B.arg9 harg9 B.arg10 harg10 B.arg11 harg11 B.x0 B.x1 B.x2 B.x3).2.2.1
    = [⟨Rect.unit (s := S256x128) ![0, 0] S256x128.size inb_S256x128_S256x128_0_0,
        k0_pay4 (B.arg9.view.readCov (kernelRun0_A.sl.HS1_128 (F := Ideal) B.c B.arg1 B.harg1 B.arg2 B.harg2 B.arg3 B.harg3 B.arg4 B.harg4 B.arg10 B.x0 B.x1 B.x2 B.x3) (Rect.unit (s := S128x256) ![0, 0] S128x256.size inb_S128x256_S128x256_0_0).toLoadRect)⟩] := by
  sl_kernel_rfl

/-- The block of normalised tokens. -/
theorem out_normed (a : Fin 256) (k : Fin 2048) :
    out0_A_4 (F := Ideal) B.c i B.arg1 B.harg1 B.arg2 B.harg2 B.arg3 B.harg3 B.arg4 B.harg4 arg5 harg5 arg6 harg6 arg7 harg7 B.arg8 harg8 B.arg9 harg9 B.arg10 harg10 B.arg11 harg11 B.x0 B.x1 B.x2 B.x3 (ix2 a k)
      = normed (fun k => B.x0 (ix2 a k)) (fun k => B.x1 (ix2 0 k)) k := by
  unfold out0_A_4
  rw [View.read_writes_junk_eq_canon, pieces4, View.canon_unit_zero zeros,
    load_whole B.arg1 B.harg1 _ zeros, load_whole B.arg2 B.harg2 _ zeros, normed_block]

/-- The block of gates. -/
theorem out_gates (a : Fin 256) (q : Fin 128) :
    out0_A_6 (F := Ideal) B.c i B.arg1 B.harg1 B.arg2 B.harg2 B.arg3 B.harg3 B.arg4 B.harg4 arg5 harg5 arg6 harg6 arg7 harg7 B.arg8 harg8 B.arg9 harg9 B.arg10 harg10 B.arg11 harg11 B.x0 B.x1 B.x2 B.x3 (ix2 a q)
      = gate (sumTable B (q.val / 16)) (q.val % 16) (ix2 0 a) := by
  unfold out0_A_6
  rw [View.read_writes_junk_eq_canon, pieces6, View.canon_unit_zero zeros]
  have e : ∀ v : Vec Ideal S128x256 .f32, k0_pay4 v (ix2 a q) = v (ix2 q a) := fun v => by unfold k0_pay4; pointwise
  rw [e, gates_stored]
  refine (readCov_whole B.arg9 _ _ _).trans ?_
  rw [canon_stack, if_pos q.isLt]

/-- The block of experts. -/
theorem out_experts (a : Fin 256) (q : Fin 128) :
    out0_A_5 (F := Ideal) B.c i B.arg1 B.harg1 B.arg2 B.harg2 B.arg3 B.harg3 B.arg4 B.harg4 arg5 harg5 arg6 harg6 arg7 harg7 B.arg8 harg8 B.arg9 harg9 B.arg10 harg10 B.arg11 harg11 B.x0 B.x1 B.x2 B.x3 (ix2 a q)
      = Ideal.fptosi 32 (picked (candAt (sumTable B (q.val / 16)) (q.val % 16)) (numberTable B (q.val / 16)) (ix2 0 a)) := by
  unfold out0_A_5
  rw [View.read_writes_junk_eq_canon, pieces5, View.canon_unit_zero zeros]
  have e : ∀ v : Vec Ideal S128x256 .f32, k0_pay3 v (ix2 a q) = Ideal.fptosi 32 (v (ix2 q a)) := fun v => by unfold k0_pay3; pointwise; rfl
  rw [e, picks_stored]
  refine congrArg (Ideal.fptosi 32) ((readCov_whole B.arg8 _ _ _).trans ?_)
  rw [canon_stack, if_pos q.isLt]

end Cert.RouteProof

end
-- ==== Proof.RouteBlocks.lean ====
/-
  The routing's blocks: what the region finds in the arrays the host prepared, and the entries a grid point holds.
-/
module

public import proofs.«01_k».proof.Proof.RouteOutputs
public import proofs.«01_k».proof.Proof.Gen.RouteIdeal.Value
public import Idealize.ShloMosaic.Lib.ValueLayout

@[expose] public section

set_option maxRecDepth 16384

noncomputable section

namespace Cert.RouteProof

open Cert.RouteIdeal Cert.RouteIdeal.Gen Idealize.ShloMosaic Idealize.ShloMosaic.TcCoe Idealize.SL.Sem Cert.RowMath
open Idealize.ShloMosaic.Pipeline (Dat)

variable (m : (ℓ : Loc nD τ sig) → Buf (Elt Ideal) ℓ)

theorem V_gains (c : Dev nD) : V m c main_v5 = shapeCast _ (shapeCast S2048 (m ((c : Thread nD τ).loc main_arg1)) shapeCasts_S1x2048_S2048) shapeCasts_S2048_S1x2048 := by
  show StableHlo.after hostOps0 (fun b => m (c, b)) main_v5 = _
  after_results <;> rfl

theorem V_queries (c : Dev nD) : V m c main_v2 = truncf (F := Ideal) .bf16 (shapeCast _ (m ((c : Thread nD τ).loc main_arg2)) shapeCasts_S1x2048x2048_S2048x2048) bitsLt_bf16_f32 := by
  show StableHlo.after hostOps0 (fun b => m (c, b)) main_v2 = _
  after_results <;> rfl

theorem V_keys (c : Dev nD) : V m c main_v4 = truncf (F := Ideal) .bf16 (shapeCast _ (m ((c : Thread nD τ).loc main_arg3)) shapeCasts_S1x8x2x128x128_S8x2x128x128) bitsLt_bf16_f32 := by
  show StableHlo.after hostOps0 (fun b => m (c, b)) main_v4 = _
  after_results <;> rfl

/-- Token `a` of the block of point `t`. -/
abbrev tok (t : Fin cfg0.N) (a : Fin 256) : Fin 24576 :=
  ⟨t.val * 256 + a.val, by have h := lt_of_lt_of_eq t.isLt N_0; omega⟩

/-- The token window and the results' step together, 256 tokens a point; the weights stay. -/
theorem idx_tok : ∀ t : Fin cfg0.N, win0_0.index t (0 : Fin 2) = t.val ∧ win0_0.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem idx_weights : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 4) = 0 ∧ win0_3.index t (1 : Fin 4) = 0
    ∧ win0_3.index t (2 : Fin 4) = 0 ∧ win0_3.index t (3 : Fin 4) = 0 :=
  (by decide +kernel : ∀ t : Fin grid0.N, _)

theorem block0 (c : Dev nD) (t : Fin cfg0.N) (a : Fin 256) (k : Fin 2048) :
    iblk m c 0 t (ix2 a k) = m ((c : Thread nD τ).loc main_arg0) (ix2 (tok t a) k) := by
  show V m c main_arg0 (((cfg0.win 0).blk t).view.emb (ix2 a k)) = _
  rw [V_main_arg0]
  have h := idx_tok t
  refine congrArg _ (eq_pair _ _ _ ?_ ?_)
  · show win0_0.index t (0 : Fin 2) * 256 + 1 * a.val = t.val * 256 + a.val
    omega
  · show win0_0.index t (1 : Fin 2) * 2048 + 1 * k.val = k.val
    omega

theorem block1 (c : Dev nD) (t : Fin cfg0.N) (l : Fin 1) (k : Fin 2048) :
    iblk m c 1 t (ix2 l k) = m ((c : Thread nD τ).loc main_arg1) (ix2 0 k) := by
  show V m c main_v5 (((cfg0.win 1).blk t).view.emb (ix2 l k)) = _
  have h := idx_weights t
  have e : ((cfg0.win 1).blk t).view.emb (ix2 l k) = ix2 l k := by
    refine eq_pair _ _ _ ?_ ?_
    · show win0_1.index t (0 : Fin 2) * 1 + 1 * l.val = l.val
      omega
    · show win0_1.index t (1 : Fin 2) * 2048 + 1 * k.val = k.val
      omega
  rw [e, V_gains]
  pointwise

theorem block2 (c : Dev nD) (t : Fin cfg0.N) (l : Fin 2048) (k : Fin 2048) :
    iblk m c 2 t (ix2 l k) = m ((c : Thread nD τ).loc main_arg2) (ix3 0 l k) := by
  show V m c main_v2 (((cfg0.win 2).blk t).view.emb (ix2 l k)) = _
  have h := idx_weights t
  have e : ((cfg0.win 2).blk t).view.emb (ix2 l k) = ix2 l k := by
    refine eq_pair _ _ _ ?_ ?_
    · show win0_2.index t (0 : Fin 2) * 2048 + 1 * l.val = l.val
      omega
    · show win0_2.index t (1 : Fin 2) * 2048 + 1 * k.val = k.val
      omega
  rw [e, V_queries]
  exact cast_drop _ _ _ l k

theorem block3 (c : Dev nD) (t : Fin cfg0.N) (h : Fin 8) (b : Fin 2) (p d : Fin 128) :
    iblk m c 3 t (ix4 h b p d) = m ((c : Thread nD τ).loc main_arg3) (ix5 0 h b p d) := by
  show V m c main_v4 (((cfg0.win 3).blk t).view.emb (ix4 h b p d)) = _
  have hw := idx_weights t
  have e : ((cfg0.win 3).blk t).view.emb (ix4 h b p d) = ix4 h b p d := by
    funext a
    refine Fin.ext ?_
    match a with
    | ⟨0, _⟩ => show win0_3.index t (0 : Fin 4) * 8 + 1 * h.val = h.val; omega
    | ⟨1, _⟩ => show win0_3.index t (1 : Fin 4) * 2 + 1 * b.val = b.val; omega
    | ⟨2, _⟩ => show win0_3.index t (2 : Fin 4) * 128 + 1 * p.val = p.val; omega
    | ⟨3, _⟩ => show win0_3.index t (3 : Fin 4) * 128 + 1 * d.val = d.val; omega
  have g : ∀ v : FVec Ideal S1x8x2x128x128 .f32, truncf (F := Ideal) .bf16 (shapeCast S8x2x128x128 v shapeCasts_S1x8x2x128x128_S8x2x128x128) bitsLt_bf16_f32 (ix4 h b p d) = v (ix5 0 h b p d) := fun v => by pointwise
  rw [e, V_keys]
  exact g _

end Cert.RouteProof

end
-- ==== Proof.RouteTopK.lean ====
/-
  The reference's selections read one entry at a time: the best of a last axis with their positions, and the entry of a
  table at given positions.
-/
module

public import proofs.«01_k».proof.Proof.RouteHead
public import proofs.«01_k».proof.Proof.Gen.RouteRefIdeal

@[expose] public section

set_option maxRecDepth 16384

noncomputable section

namespace Cert.RouteProof

open Idealize.ShloMosaic Idealize.ShloMosaic.TcCoe Cert.RouteMath

theorem greater_eq (a b : Ideal .f32) : ((FloatOps.cmpfTotal (F := Ideal) .gt a b : BitVec 1) == 1#1) = decide ((b : EReal) < a) := by
  have e : (FloatOps.cmpfTotal (F := Ideal) .gt a b : BitVec 1) = BitVec.ofBool (decide ((b : EReal) < a)) := rfl
  rw [e]
  cases decide ((b : EReal) < a) <;> rfl

theorem along4 {n0 n1 n2 n : ℕ} (a : Fin n0) (b : Fin n1) (c : Fin n2) (d k : Fin n) :
    (ix4 a b c d : (⟨4, ![n0, n1, n2, n]⟩ : Shape).Idx).along (3 : Fin 4) k = ix4 a b c k := by
  funext e
  match e with
  | 0 => rfl
  | 1 => rfl
  | 2 => rfl
  | 3 => rfl

theorem along3 {n0 n1 n : ℕ} (a : Fin n0) (b : Fin n1) (d k : Fin n) :
    (ix3 a b d : (⟨3, ![n0, n1, n]⟩ : Shape).Idx).along (2 : Fin 3) k = ix3 a b k := by
  funext e
  match e with
  | 0 => rfl
  | 1 => rfl
  | 2 => rfl

theorem slice4 {n0 n1 n2 n K : ℕ} {α : Type} (y : (⟨4, ![n0, n1, n2, n]⟩ : Shape).Idx → α) (hK : K ≤ n)
    (h : (⟨4, ![n0, n1, n2, n]⟩ : Shape).Slices (fun _ => 0) ⟨4, ![n0, n1, n2, K]⟩) (a : Fin n0) (b : Fin n1) (c : Fin n2) (i : Fin K) :
    extractStridedSlice ⟨4, ![n0, n1, n2, K]⟩ (fun _ => 0) y h (ix4 a b c i) = y (ix4 a b c (i.castLE hK)) := by
  refine congrArg y (funext fun e => ?_)
  exact match e with
  | 0 => Fin.ext (Nat.zero_add _)
  | 1 => Fin.ext (Nat.zero_add _)
  | 2 => Fin.ext (Nat.zero_add _)
  | 3 => Fin.ext (Nat.zero_add _)

/-- The best of the last axis, and their positions. -/
theorem topK4_value {n0 n1 n2 n K : ℕ} (x : FVec Ideal ⟨4, ![n0, n1, n2, n]⟩ .f32) (hK : K ≤ n)
    (h : (⟨4, ![n0, n1, n2, n]⟩ : Shape).Slices (fun _ => 0) ⟨4, ![n0, n1, n2, K]⟩) (a : Fin n0) (b : Fin n1) (c : Fin n2) (i : Fin K) :
    (Host.topK ⟨4, ![n0, n1, n2, K]⟩ 3 (FloatOps.cmpfTotal .gt) x h).1 (ix4 a b c i)
      = x (ix4 a b c (ranked (fun p => x (ix4 a b c p)) (i.castLE hK))) := by
  unfold Host.topK Host.sort2
  dsimp only
  rw [dif_pos (by decide), slice4 _ hK]
  refine (congrArg x (along4 a b c (i.castLE hK) _)).trans ?_
  refine congrArg (fun q => x (ix4 a b c q)) ?_
  refine congrArg (fun R => sortedFrom R (i.castLE hK)) (funext fun k => funext fun k' => ?_)
  exact (greater_eq _ _).trans (congrArg₂ (fun u v => decide ((x v : EReal) < x u)) (along4 a b c (i.castLE hK) k) (along4 a b c (i.castLE hK) k'))

theorem topK4_position {n0 n1 n2 n K : ℕ} (x : FVec Ideal ⟨4, ![n0, n1, n2, n]⟩ .f32) (hK : K ≤ n)
    (h : (⟨4, ![n0, n1, n2, n]⟩ : Shape).Slices (fun _ => 0) ⟨4, ![n0, n1, n2, K]⟩) (a : Fin n0) (b : Fin n1) (c : Fin n2) (i : Fin K) :
    (Host.topK ⟨4, ![n0, n1, n2, K]⟩ 3 (FloatOps.cmpfTotal .gt) x h).2 (ix4 a b c i)
      = BitVec.ofNat 32 (ranked (fun p => x (ix4 a b c p)) (i.castLE hK)).val := by
  unfold Host.topK Host.sort2
  dsimp only
  rw [dif_pos (by decide), slice4 _ hK]
  refine (congrArg (fun J : (⟨4, ![n0, n1, n2, n]⟩ : Shape).Idx => BitVec.ofNat 32 (J 3).val) (along4 a b c (i.castLE hK) _)).trans ?_
  refine congrArg (fun q : Fin n => BitVec.ofNat 32 q.val) ?_
  refine congrArg (fun R => sortedFrom R (i.castLE hK)) (funext fun k => funext fun k' => ?_)
  exact (greater_eq _ _).trans (congrArg₂ (fun u v => decide ((x v : EReal) < x u)) (along4 a b c (i.castLE hK) k) (along4 a b c (i.castLE hK) k'))

theorem slice3 {n0 n1 n K : ℕ} {α : Type} (y : (⟨3, ![n0, n1, n]⟩ : Shape).Idx → α) (hK : K ≤ n)
    (h : (⟨3, ![n0, n1, n]⟩ : Shape).Slices (fun _ => 0) ⟨3, ![n0, n1, K]⟩) (a : Fin n0) (b : Fin n1) (i : Fin K) :
    extractStridedSlice ⟨3, ![n0, n1, K]⟩ (fun _ => 0) y h (ix3 a b i) = y (ix3 a b (i.castLE hK)) := by
  refine congrArg y (funext fun e => ?_)
  exact match e with
  | 0 => Fin.ext (Nat.zero_add _)
  | 1 => Fin.ext (Nat.zero_add _)
  | 2 => Fin.ext (Nat.zero_add _)

/-- The best of the last axis, and their positions. -/
theorem topK3_value {n0 n1 n K : ℕ} (x : FVec Ideal ⟨3, ![n0, n1, n]⟩ .f32) (hK : K ≤ n)
    (h : (⟨3, ![n0, n1, n]⟩ : Shape).Slices (fun _ => 0) ⟨3, ![n0, n1, K]⟩) (a : Fin n0) (b : Fin n1) (i : Fin K) :
    (Host.topK ⟨3, ![n0, n1, K]⟩ 2 (FloatOps.cmpfTotal .gt) x h).1 (ix3 a b i)
      = x (ix3 a b (ranked (fun p => x (ix3 a b p)) (i.castLE hK))) := by
  unfold Host.topK Host.sort2
  dsimp only
  rw [dif_pos (by decide), slice3 _ hK]
  refine (congrArg x (along3 a b (i.castLE hK) _)).trans ?_
  refine congrArg (fun q => x (ix3 a b q)) ?_
  refine congrArg (fun R => sortedFrom R (i.castLE hK)) (funext fun k => funext fun k' => ?_)
  exact (greater_eq _ _).trans (congrArg₂ (fun u v => decide ((x v : EReal) < x u)) (along3 a b (i.castLE hK) k) (along3 a b (i.castLE hK) k'))

theorem topK3_position {n0 n1 n K : ℕ} (x : FVec Ideal ⟨3, ![n0, n1, n]⟩ .f32) (hK : K ≤ n)
    (h : (⟨3, ![n0, n1, n]⟩ : Shape).Slices (fun _ => 0) ⟨3, ![n0, n1, K]⟩) (a : Fin n0) (b : Fin n1) (i : Fin K) :
    (Host.topK ⟨3, ![n0, n1, K]⟩ 2 (FloatOps.cmpfTotal .gt) x h).2 (ix3 a b i)
      = BitVec.ofNat 32 (ranked (fun p => x (ix3 a b p)) (i.castLE hK)).val := by
  unfold Host.topK Host.sort2
  dsimp only
  rw [dif_pos (by decide), slice3 _ hK]
  refine (congrArg (fun J : (⟨3, ![n0, n1, n]⟩ : Shape).Idx => BitVec.ofNat 32 (J 2).val) (along3 a b (i.castLE hK) _)).trans ?_
  refine congrArg (fun q : Fin n => BitVec.ofNat 32 q.val) ?_
  refine congrArg (fun R => sortedFrom R (i.castLE hK)) (funext fun k => funext fun k' => ?_)
  exact (greater_eq _ _).trans (congrArg₂ (fun u v => decide ((x v : EReal) < x u)) (along3 a b (i.castLE hK) k) (along3 a b (i.castLE hK) k'))

end Cert.RouteProof

end
-- ==== Proof.RouteRef.lean ====
/-
  The routing as the reference writes it, one entry at a time.
-/
module

public import proofs.«01_k».proof.Proof.RouteTopK
public import proofs.«01_k».proof.Proof.Gen.RouteRefIdeal.Run
public import proofs.«01_k».proof.Proof.RowMath

@[expose] public section

set_option maxRecDepth 16384

noncomputable section

namespace Cert.RouteProof

open Cert.RouteRefIdeal Cert.RouteRefIdeal.Gen Idealize.ShloMosaic Idealize.ShloMosaic.TcCoe Cert.RouteMath

/-- The normalised tokens. -/
def refNormed (x : FVec Ideal S24576x2048 .f32) (g : FVec Ideal S1x2048 .f32) : FVec Ideal S24576x2048 .f32 :=
  mulf (mulf x (broadcastInDim S24576x2048 ![0, 1] bcast_S24576x1_S24576x2048_0_1 (Host.rsqrt (addf (Host.divf (broadcastInDim S24576x1 ![0] bcast_S24576_S24576x1_0 (Host.reduceAdd (mulf x x) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 (shapeCast _ g shapeCasts_S1x2048_S2048)))

/-- The scores of all keys. -/
def refScores (x : FVec Ideal S24576x2048 .f32) (g : FVec Ideal S1x2048 .f32) (w : FVec Ideal S1x2048x2048 .f32) (e : FVec Ideal S1x8x2x128x128 .f32) : FVec Ideal S24576x8x2x128 .f32 :=
  transpose S24576x8x2x128 [3, 0, 1, 2] (Host.dotGeneral dot_S8x2x128x128_S24576x8x2x128_S8x2x128x24576_3_3_2_0_01_12 none (shapeCast _ e shapeCasts_S1x8x2x128x128_S8x2x128x128) (shapeCast _ (Host.dotGeneral dot_S24576x2048_S2048x2048_S24576x2048_1_0_0_1_n_n none (refNormed x g) (shapeCast _ w shapeCasts_S1x2048x2048_S2048x2048)) shapeCasts_S24576x2048_S24576x8x2x128)) transposes_S8x2x128x24576_S24576x8x2x128_3_0_1_2

/-- The sums of the best scores, pair by pair. -/
def refSums (x : FVec Ideal S24576x2048 .f32) (g : FVec Ideal S1x2048 .f32) (w : FVec Ideal S1x2048x2048 .f32) (e : FVec Ideal S1x8x2x128x128 .f32) : FVec Ideal S24576x8x256 .f32 :=
  shapeCast _ (addf (broadcastInDim S24576x8x16x16 ![0, 1, 2, 3] bcast_S24576x8x16x1_S24576x8x16x16_0_1_2_3 (broadcastInDim S24576x8x16x1 ![0, 1, 2] bcast_S24576x8x16_S24576x8x16x1_0_1_2 (shapeCast _ (extractStridedSlice S24576x8x1x16 ![0, 0, 0, 0] ((Host.topK S24576x8x2x16 3 (FloatOps.cmpfTotal .gt) (refScores x g w e) sliceFits_S24576x8x2x128_S24576x8x2x16).1) slices_S24576x8x2x16_S24576x8x1x16_0_0_0_0) shapeCasts_S24576x8x1x16_S24576x8x16))) (broadcastInDim S24576x8x16x16 ![0, 1, 2, 3] bcast_S24576x8x1x16_S24576x8x16x16_0_1_2_3 (broadcastInDim S24576x8x1x16 ![0, 1, 3] bcast_S24576x8x16_S24576x8x1x16_0_1_3 (shapeCast _ (extractStridedSlice S24576x8x1x16 ![0, 0, 1, 0] ((Host.topK S24576x8x2x16 3 (FloatOps.cmpfTotal .gt) (refScores x g w e) sliceFits_S24576x8x2x128_S24576x8x2x16).1) slices_S24576x8x2x16_S24576x8x1x16_0_0_1_0) shapeCasts_S24576x8x1x16_S24576x8x16)))) shapeCasts_S24576x8x16x16_S24576x8x256

/-- The experts of the pairs. -/
def refNumbers (x : FVec Ideal S24576x2048 .f32) (g : FVec Ideal S1x2048 .f32) (w : FVec Ideal S1x2048x2048 .f32) (e : FVec Ideal S1x8x2x128x128 .f32) : IVec S24576x8x256 32 :=
  shapeCast _ (addi (broadcastInDim S24576x8x16x16 ![0, 1, 2, 3] bcast_S24576x8x16x1_S24576x8x16x16_0_1_2_3 (muli (broadcastInDim S24576x8x16x1 ![0, 1, 2] bcast_S24576x8x16_S24576x8x16x1_0_1_2 (shapeCast _ (extractStridedSlice S24576x8x1x16 ![0, 0, 0, 0] ((Host.topK S24576x8x2x16 3 (FloatOps.cmpfTotal .gt) (refScores x g w e) sliceFits_S24576x8x2x128_S24576x8x2x16).2) slices_S24576x8x2x16_S24576x8x1x16_0_0_0_0) shapeCasts_S24576x8x1x16_S24576x8x16)) (broadcastInDim S24576x8x16x1 ![] bcast_S_S24576x8x16x1 (constantI S_ 32 128#32)))) (broadcastInDim S24576x8x16x16 ![0, 1, 2, 3] bcast_S24576x8x1x16_S24576x8x16x16_0_1_2_3 (broadcastInDim S24576x8x1x16 ![0, 1, 3] bcast_S24576x8x16_S24576x8x1x16_0_1_3 (shapeCast _ (extractStridedSlice S24576x8x1x16 ![0, 0, 1, 0] ((Host.topK S24576x8x2x16 3 (FloatOps.cmpfTotal .gt) (refScores x g w e) sliceFits_S24576x8x2x128_S24576x8x2x16).2) slices_S24576x8x2x16_S24576x8x1x16_0_0_1_0) shapeCasts_S24576x8x1x16_S24576x8x16)))) shapeCasts_S24576x8x16x16_S24576x8x256

/-- The best sums. -/
def refBest (x : FVec Ideal S24576x2048 .f32) (g : FVec Ideal S1x2048 .f32) (w : FVec Ideal S1x2048x2048 .f32) (e : FVec Ideal S1x8x2x128x128 .f32) : FVec Ideal S24576x8x16 .f32 :=
  (Host.topK S24576x8x16 2 (FloatOps.cmpfTotal .gt) (refSums x g w e) sliceFits_S24576x8x256_S24576x8x16).1

/-- The pairs of the best sums. -/
def refPlace (x : FVec Ideal S24576x2048 .f32) (g : FVec Ideal S1x2048 .f32) (w : FVec Ideal S1x2048x2048 .f32) (e : FVec Ideal S1x8x2x128x128 .f32) : IVec S24576x8x16 32 :=
  (Host.topK S24576x8x16 2 (FloatOps.cmpfTotal .gt) (refSums x g w e) sliceFits_S24576x8x256_S24576x8x16).2

theorem refNormed_apply (x : FVec Ideal S24576x2048 .f32) (g : FVec Ideal S1x2048 .f32) (r : Fin 24576) (k : Fin 2048) :
    refNormed x g (ix2 r k) = RowMath.normed (fun k => x (ix2 r k)) (fun k => g (ix2 0 k)) k := by
  pointwise [refNormed, RowMath.normed]

/-- One token's scores against the keys of one half of one head. -/
def refColumn (x : FVec Ideal S24576x2048 .f32) (g : FVec Ideal S1x2048 .f32) (w : FVec Ideal S1x2048x2048 .f32) (e : FVec Ideal S1x8x2x128x128 .f32)
    (r : Fin 24576) (h : Fin 8) (c : Fin 2) : Fin 128 → EReal := fun p => refScores x g w e (ix4 r h c p)

theorem refScores_apply (x : FVec Ideal S24576x2048 .f32) (g : FVec Ideal S1x2048 .f32) (w : FVec Ideal S1x2048x2048 .f32) (e : FVec Ideal S1x8x2x128x128 .f32)
    (r : Fin 24576) (h : Fin 8) (c : Fin 2) (p : Fin 128) :
    refScores x g w e (ix4 r h c p)
      = ∑ d : Fin 128, e (ix5 0 h c p d) * ∑ k : Fin 2048, RowMath.normed (fun k => x (ix2 r k)) (fun k => g (ix2 0 k)) k
          * w (ix3 0 k ⟨h.val * 256 + c.val * 128 + d.val, by omega⟩) := by
  unfold refScores
  pointwise
  simp only [refNormed_apply]

theorem refSums_apply (x : FVec Ideal S24576x2048 .f32) (g : FVec Ideal S1x2048 .f32) (w : FVec Ideal S1x2048x2048 .f32) (e : FVec Ideal S1x8x2x128x128 .f32)
    (r : Fin 24576) (h : Fin 8) (p : Fin 256) :
    refSums x g w e (ix3 r h p) = sums (refColumn x g w e r h 0) (refColumn x g w e r h 1) p := by
  unfold refSums
  pointwise
  rw [topK4_value _ (by decide), topK4_value _ (by decide)]
  rfl

theorem refNumbers_apply (x : FVec Ideal S24576x2048 .f32) (g : FVec Ideal S1x2048 .f32) (w : FVec Ideal S1x2048x2048 .f32) (e : FVec Ideal S1x8x2x128x128 .f32)
    (r : Fin 24576) (h : Fin 8) (p : Fin 256) :
    refNumbers x g w e (ix3 r h p)
      = BitVec.ofNat 32 ((ranked (refColumn x g w e r h 0) ⟨p.val / 16, by omega⟩).val * 128 + (ranked (refColumn x g w e r h 1) ⟨p.val % 16, by omega⟩).val) := by
  unfold refNumbers
  pointwise
  rw [topK4_position _ (by decide), topK4_position _ (by decide)]
  rw [BitVec.ofNat_add, BitVec.ofNat_mul]
  rfl

theorem refBest_apply (x : FVec Ideal S24576x2048 .f32) (g : FVec Ideal S1x2048 .f32) (w : FVec Ideal S1x2048x2048 .f32) (e : FVec Ideal S1x8x2x128x128 .f32)
    (r : Fin 24576) (h : Fin 8) (k : Fin 16) :
    refBest x g w e (ix3 r h k) = bestSum (refColumn x g w e r h 0) (refColumn x g w e r h 1) k := by
  refine (topK3_value _ (by decide) _ r h k).trans ?_
  rw [refSums_apply, funext (refSums_apply x g w e r h)]
  rfl

theorem refPlace_apply (x : FVec Ideal S24576x2048 .f32) (g : FVec Ideal S1x2048 .f32) (w : FVec Ideal S1x2048x2048 .f32) (e : FVec Ideal S1x8x2x128x128 .f32)
    (r : Fin 24576) (h : Fin 8) (k : Fin 16) :
    refPlace x g w e (ix3 r h k) = BitVec.ofNat 32 (best (refColumn x g w e r h 0) (refColumn x g w e r h 1) k).val := by
  refine (topK3_position _ (by decide) _ r h k).trans ?_
  rw [funext (refSums_apply x g w e r h)]
  rfl

end Cert.RouteProof

end
-- ==== Proof.RouteTaken.lean ====
/-
  The reference's look-up of the chosen experts, one entry at a time.
-/
module

public import proofs.«01_k».proof.Proof.RouteTopK
public import proofs.«01_k».proof.Proof.RowMath

@[expose] public section

set_option maxRecDepth 16384

noncomputable section

namespace Cert.RouteProof

open Cert.RouteRefIdeal Cert.RouteRefIdeal.Gen Idealize.ShloMosaic Idealize.ShloMosaic.TcCoe Cert.RouteMath

/-- A word below 256, read as an integer. -/
theorem word_value (k : Fin 256) : (BitVec.ofNat 32 k.val).toInt = (k.val : Int) := by
  rw [BitVec.toInt_eq_toNat_cond, BitVec.toNat_ofNat, Nat.mod_eq_of_lt (by omega), if_pos (by omega)]

/-- The look-up along a last axis of 256 entries, where the place is one of them. -/
theorem gather_at {n : ℕ} (d : GatherDims ⟨3, ![n, 8, 256]⟩ ⟨4, ![n, 8, 16, 1]⟩ ⟨3, ![n, 8, 16]⟩) (h1 : d.offsetDims = []) (h2 : d.collapsedSliceDims = [2])
    (h3 : d.operandBatchingDims = [0, 1]) (h4 : d.startIndicesBatchingDims = [0, 1]) (h5 : d.startIndexMap = [2]) (h6 : d.indexVectorDim = 3)
    (h7 : d.sliceSizes = ![1, 1, 1]) (x : IVec ⟨3, ![n, 8, 256]⟩ 32) (idx : IVec ⟨4, ![n, 8, 16, 1]⟩ 32) (r : Fin n) (h : Fin 8) (q : Fin 16) (k : Fin 256)
    (hk : idx (ix4 r h q 0) = BitVec.ofNat 32 k.val) : Host.gather d x idx (ix3 r h q) = x (ix3 r h k) := by
  obtain ⟨od, cd, ob, sb, sm, iv, ss, wf⟩ := d
  simp only at h1 h2 h3 h4 h5 h6 h7
  subst h1 h2 h3 h4 h5 h6 h7
  unfold Host.gather
  refine congrArg x (funext fun a => Fin.ext ?_)
  have kept : ∀ a : Fin 3, a ∉ (GatherDims.mk [] [2] [0, 1] [0, 1] [2] 3 ![1, 1, 1] wf : GatherDims ⟨3, ![n, 8, 256]⟩ ⟨4, ![n, 8, 16, 1]⟩ ⟨3, ![n, 8, 16]⟩).sKept := fun a ha => by
    have hh := (GatherDims.mem_sKept (GatherDims.mk [] [2] [0, 1] [0, 1] [2] 3 ![1, 1, 1] wf : GatherDims ⟨3, ![n, 8, 256]⟩ ⟨4, ![n, 8, 16, 1]⟩ ⟨3, ![n, 8, 16]⟩) a).1 ha
    have h1 : a ∉ ([2] : List (Fin 3)) := hh.1
    have h2 : a ∉ ([0, 1] : List (Fin 3)) := hh.2
    have all : ∀ a : Fin 3, a ∉ ([2] : List (Fin 3)) → a ∉ ([0, 1] : List (Fin 3)) → False := by decide
    exact all a h1 h2
  match a with
  | ⟨0, _⟩ =>
    show GatherDims.start _ (ix3 r h q) idx 0 + GatherDims.batchCoord _ (ix3 r h q) 0 + GatherDims.offCoord _ (ix3 r h q) 0 = r.val
    rw [GatherDims.offCoord_eq_zero _ _ _ (kept 0), GatherDims.start_batching _ _ _ _ (List.mem_cons_self ..)]
    simp only [Nat.add_zero, Nat.zero_add]
    rfl
  | ⟨1, _⟩ =>
    show GatherDims.start _ (ix3 r h q) idx 1 + GatherDims.batchCoord _ (ix3 r h q) 1 + GatherDims.offCoord _ (ix3 r h q) 1 = h.val
    rw [GatherDims.offCoord_eq_zero _ _ _ (kept 1), GatherDims.start_batching _ _ _ _ (List.mem_cons_of_mem _ (List.mem_cons_self ..))]
    simp only [Nat.add_zero, Nat.zero_add]
    rfl
  | ⟨2, _⟩ =>
    have hn : (2 : Fin 3) ∉ ([0, 1] : List (Fin 3)) := by decide
    have hm : (2 : Fin 3) ∈ ([2] : List (Fin 3)) := by decide
    show GatherDims.start _ (ix3 r h q) idx 2 + GatherDims.batchCoord _ (ix3 r h q) 2 + GatherDims.offCoord _ (ix3 r h q) 2 = k.val
    rw [GatherDims.offCoord_eq_zero _ _ _ (kept 2), GatherDims.batchCoord_eq_zero _ _ _ hn]
    simp only [Nat.add_zero]
    unfold GatherDims.start
    rw [dif_pos hm]
    have hs : ∀ c, GatherDims.siIdx (GatherDims.mk [] [2] [0, 1] [0, 1] [2] 3 ![1, 1, 1] wf : GatherDims ⟨3, ![n, 8, 256]⟩ ⟨4, ![n, 8, 16, 1]⟩ ⟨3, ![n, 8, 16]⟩) (ix3 r h q) c = ix4 r h q 0 := fun c => by
      funext b
      apply Fin.ext
      match b with
      | ⟨0, _⟩ => rfl
      | ⟨1, _⟩ => rfl
      | ⟨2, _⟩ => rfl
      | ⟨3, _⟩ =>
        have := c.isLt
        show c.val = 0
        have h1 : c.val < 1 := c.isLt
        omega
    rw [hs, hk, word_value]
    show min ((k.val : Int)).toNat (256 - 1) = k.val
    omega

/-- A place below 256 isn't negative: nothing is added to it. -/
theorem place_kept : ∀ k : Fin 256, Scalar.select (IntOp.cmpi .slt (BitVec.ofNat 32 k.val) 0#32) (IntOp.addi (BitVec.ofNat 32 k.val) 256#32) (BitVec.ofNat 32 k.val) = BitVec.ofNat 32 k.val := by
  decide +kernel

/-- A place below 256 is in range. -/
theorem place_in_range : ∀ k : Fin 256, IntOp.andi (IntOp.cmpi .sge (BitVec.ofNat 32 k.val) 0#32) (IntOp.cmpi .sle (BitVec.ofNat 32 k.val) 255#32) = 1#1 := by
  decide +kernel

/-- The numbers at given places of a last axis. -/
def taken (n : IVec S24576x8x256 32) (p : IVec S24576x8x16 32) : IVec S24576x128 32 :=
  shapeCast _ (select (Host.reduce IntOp.andi (andi (cmpi .sge (shapeCast _ (select (cmpi .slt p (broadcastInDim S24576x8x16 ![] bcast_S_S24576x8x16 (constantI S_ 32 0#32))) (addi p (broadcastInDim S24576x8x16 ![] bcast_S_S24576x8x16 (constantI S_ 32 256#32))) p) shapeCasts_S24576x8x16_S24576x8x16x1) (broadcastInDim S24576x8x16x1 ![] bcast_S_S24576x8x16x1 (constantI S_ 32 0#32))) (cmpi .sle (shapeCast _ (select (cmpi .slt p (broadcastInDim S24576x8x16 ![] bcast_S_S24576x8x16 (constantI S_ 32 0#32))) (addi p (broadcastInDim S24576x8x16 ![] bcast_S_S24576x8x16 (constantI S_ 32 256#32))) p) shapeCasts_S24576x8x16_S24576x8x16x1) (broadcastInDim S24576x8x16x1 ![0, 1, 2, 3] bcast_S1x1x1x1_S24576x8x16x1_0_1_2_3 (broadcastInDim S1x1x1x1 ![3] bcast_S1_S1x1x1x1_3 (constantI S1 32 255#32))))) (constantI S_ 1 1#1) reducesTo_S24576x8x16x1_S24576x8x16_d3 h_S_) (Host.gather gather_S24576x8x256_S24576x8x16x1_S24576x8x16_n_2_01_01_2_3_111 n (shapeCast _ (select (cmpi .slt p (broadcastInDim S24576x8x16 ![] bcast_S_S24576x8x16 (constantI S_ 32 0#32))) (addi p (broadcastInDim S24576x8x16 ![] bcast_S_S24576x8x16 (constantI S_ 32 256#32))) p) shapeCasts_S24576x8x16_S24576x8x16x1)) (broadcastInDim S24576x8x16 ![] bcast_S_S24576x8x16 (constantI S_ 32 2147483648#32))) shapeCasts_S24576x8x16_S24576x128

theorem taken_apply (n : IVec S24576x8x256 32) (p : IVec S24576x8x16 32) (r : Fin 24576) (q : Fin 128) (k : Fin 256)
    (hp : p (ix3 r ⟨q.val / 16, by omega⟩ ⟨q.val % 16, by omega⟩) = BitVec.ofNat 32 k.val) :
    taken n p (ix2 r q) = n (ix3 r ⟨q.val / 16, by omega⟩ k) := by
  unfold taken
  pointwise
  simp only [hp, place_kept, place_in_range]
  rw [gather_at (n := 24576) _ rfl rfl rfl rfl rfl rfl rfl n _ r _ _ k ?_]
  · rfl
  · pointwise
    simp only [hp, place_kept]

end Cert.RouteProof

end
-- ==== Proof.RouteSoft.lean ====
/-
  The reference's softmax over the best sums, one entry at a time.
-/
module

public import proofs.«01_k».proof.Proof.RouteTopK
public import proofs.«01_k».proof.Proof.RowMath

@[expose] public section

set_option maxRecDepth 16384

noncomputable section

namespace Cert.RouteProof

open Cert.RouteRefIdeal Cert.RouteRefIdeal.Gen Idealize.ShloMosaic Idealize.ShloMosaic.TcCoe Cert.RouteMath

theorem largest_apply (n : ℕ) (b : FVec Ideal ⟨3, ![n, 8, 16]⟩ .f32) (hr : (⟨3, ![n, 8, 16]⟩ : Shape).ReducesTo [2] ⟨2, ![n, 8]⟩)
    (hu : 0 < S_.numel) (r : Fin n) (h : Fin 8) :
    Host.reduce FloatOps.maximumf b (constant S_ .f32 0xFF800000#32) hr hu (ix2 r h) = Finset.univ.sup fun k : Fin 16 => b (ix3 r h k) := by
  pointwise
  exact fold_top _

/-- The largest of the last axis. -/
def softLargest (b : FVec Ideal S24576x8x16 .f32) : FVec Ideal S24576x8 .f32 :=
  Host.reduce FloatOps.maximumf b (constant S_ .f32 0xFF800000#32) reducesTo_S24576x8x16_S24576x8_d2 h_S_

/-- The largest of the last axis, with the least number. -/
def softTop (b : FVec Ideal S24576x8x16 .f32) : FVec Ideal S24576x8 .f32 :=
  maximumf (broadcastInDim S24576x8 ![] bcast_S_S24576x8 (constant S_ .f32 0xFF800000#32)) (softLargest b)

/-- The exponentials over the last axis. -/
def softExp (b : FVec Ideal S24576x8x16 .f32) : FVec Ideal S24576x8x16 .f32 :=
  Host.exp (subf b (broadcastInDim S24576x8x16 ![0, 1, 2] bcast_S24576x8x1_S24576x8x16_0_1_2 (broadcastInDim S24576x8x1 ![0, 1] bcast_S24576x8_S24576x8x1_0_1 (softTop b))))

/-- Their sum. -/
def softSum (z : FVec Ideal S24576x8x16 .f32) : FVec Ideal S24576x8 .f32 :=
  Host.reduceAdd z (constant S_ .f32 0x00000000#32) reducesTo_S24576x8x16_S24576x8_d2 h_S_

/-- Entries divided by an entry of their own row. -/
def softDiv (z : FVec Ideal S24576x8x16 .f32) (n : FVec Ideal S24576x8 .f32) : FVec Ideal S24576x128 .f32 :=
  shapeCast _ (Host.divf z (broadcastInDim S24576x8x16 ![0, 1, 2] bcast_S24576x8x1_S24576x8x16_0_1_2 (broadcastInDim S24576x8x1 ![0, 1] bcast_S24576x8_S24576x8x1_0_1 n))) shapeCasts_S24576x8x16_S24576x128

/-- The softmax over the last axis. -/
def softened (b : FVec Ideal S24576x8x16 .f32) : FVec Ideal S24576x128 .f32 := softDiv (softExp b) (softSum (softExp b))

theorem softLargest_apply (b : FVec Ideal S24576x8x16 .f32) (r : Fin 24576) (h : Fin 8) :
    softLargest b (ix2 r h) = Finset.univ.sup fun k : Fin 16 => b (ix3 r h k) := by
  unfold softLargest
  exact largest_apply 24576 b _ _ r h

theorem softTop_apply (b : FVec Ideal S24576x8x16 .f32) (r : Fin 24576) (h : Fin 8) :
    softTop b (ix2 r h) = Finset.univ.sup fun k : Fin 16 => b (ix3 r h k) := by
  have hm : ∀ (v w : FVec Ideal S24576x8 .f32) (i : S24576x8.Idx), maximumf v w i = max (v i) (w i) := fun _ _ _ => rfl
  have hc : ∀ i, broadcastInDim S24576x8 ![] bcast_S_S24576x8 (constant (F := Ideal) S_ .f32 0xFF800000#32) i = (⊥ : EReal) := fun _ => low_eq
  unfold softTop
  rw [hm, hc, softLargest_apply]
  exact max_eq_right bot_le

theorem softExp_apply (b : FVec Ideal S24576x8x16 .f32) (r : Fin 24576) (h : Fin 8) (k : Fin 16) :
    softExp b (ix3 r h k) = Ideal.exp (b (ix3 r h k) - Finset.univ.sup fun k : Fin 16 => b (ix3 r h k)) := by
  unfold softExp
  pointwise
  rw [softTop_apply]

theorem softSum_apply (z : FVec Ideal S24576x8x16 .f32) (r : Fin 24576) (h : Fin 8) :
    softSum z (ix2 r h) = ∑ k : Fin 16, z (ix3 r h k) := by
  unfold softSum
  pointwise

theorem softDiv_apply (z : FVec Ideal S24576x8x16 .f32) (n : FVec Ideal S24576x8 .f32) (r : Fin 24576) (q : Fin 128) :
    softDiv z n (ix2 r q) = Ideal.div (z (ix3 r ⟨q.val / 16, by omega⟩ ⟨q.val % 16, by omega⟩)) (n (ix2 r ⟨q.val / 16, by omega⟩)) := by
  unfold softDiv
  pointwise

theorem softened_apply (b : FVec Ideal S24576x8x16 .f32) (r : Fin 24576) (q : Fin 128) :
    softened b (ix2 r q)
      = Ideal.div (Ideal.exp (b (ix3 r ⟨q.val / 16, by omega⟩ ⟨q.val % 16, by omega⟩) - Finset.univ.sup fun k : Fin 16 => b (ix3 r ⟨q.val / 16, by omega⟩ k)))
          (∑ k : Fin 16, Ideal.exp (b (ix3 r ⟨q.val / 16, by omega⟩ k) - Finset.univ.sup fun k : Fin 16 => b (ix3 r ⟨q.val / 16, by omega⟩ k))) := by
  unfold softened
  rw [softDiv_apply, softSum_apply]
  simp only [softExp_apply]

end Cert.RouteProof

end
-- ==== Proof.RouteRefRun.lean ====
/-
  What the reference leaves, in the named steps.
-/
module

public import proofs.«01_k».proof.Proof.RouteRef
public import proofs.«01_k».proof.Proof.RouteTaken
public import proofs.«01_k».proof.Proof.RouteSoft

@[expose] public section

set_option maxRecDepth 16384

noncomputable section

namespace Cert.RouteProof

open Cert.RouteRefIdeal Cert.RouteRefIdeal.Gen Idealize.ShloMosaic Idealize.ShloMosaic.TcCoe Cert.RouteMath

theorem taken_eq (m : (ℓ : Loc Cert.RouteRefIdeal.nD Cert.RouteRefIdeal.τ Cert.RouteRefIdeal.sig) → Buf (Elt Ideal) ℓ) (c : Dev Cert.RouteRefIdeal.nD) :
    Cert.RouteRefIdeal.Value.res_main_v54 (F := Ideal) m c
      = taken (refNumbers (m ((c.tc : Thread nD τ).loc main_arg0)) (m ((c.tc : Thread nD τ).loc main_arg1)) (m ((c.tc : Thread nD τ).loc main_arg2)) (m ((c.tc : Thread nD τ).loc main_arg3)))
          (refPlace (m ((c.tc : Thread nD τ).loc main_arg0)) (m ((c.tc : Thread nD τ).loc main_arg1)) (m ((c.tc : Thread nD τ).loc main_arg2)) (m ((c.tc : Thread nD τ).loc main_arg3))) := by
  unfold Cert.RouteRefIdeal.Value.res_main_v54
  rfl

theorem softened_eq (m : (ℓ : Loc Cert.RouteRefIdeal.nD Cert.RouteRefIdeal.τ Cert.RouteRefIdeal.sig) → Buf (Elt Ideal) ℓ) (c : Dev Cert.RouteRefIdeal.nD) :
    Cert.RouteRefIdeal.Value.res_main_v55 (F := Ideal) m c
      = softened (refBest (m ((c.tc : Thread nD τ).loc main_arg0)) (m ((c.tc : Thread nD τ).loc main_arg1)) (m ((c.tc : Thread nD τ).loc main_arg2)) (m ((c.tc : Thread nD τ).loc main_arg3))) := by
  unfold Cert.RouteRefIdeal.Value.res_main_v55
  rfl

end Cert.RouteProof

end
-- ==== Proof.RouteReal.lean ====
/-
  Finite inputs give finite scores: sums, products and the rms normalisation of real numbers are real numbers, and what
  follows for the gates of the best sums.
-/
module

public import proofs.«01_k».proof.Proof.RouteHead
public import proofs.«01_k».proof.Proof.RowMath

@[expose] public section

noncomputable section

namespace Cert.RouteProof

open Idealize.ShloMosaic Cert.RouteMath Cert.RowMath

/-- An extended real that is a real number. -/
def IsReal (e : EReal) : Prop := ∃ r : ℝ, e = (r : EReal)

theorem IsReal.ne_bot {e : EReal} (h : IsReal e) : e ≠ ⊥ := by
  obtain ⟨r, rfl⟩ := h
  exact EReal.coe_ne_bot r

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sum {ι : Type} [Fintype ι] (f : ι → EReal) (h : ∀ i, IsReal (f i)) : IsReal (∑ i, f i) := by
  classical
  refine Finset.sum_induction f IsReal (fun _ _ => IsReal.add) ⟨0, rfl⟩ fun i _ => h i

theorem sum_coe {ι : Type} [Fintype ι] (f : ι → ℝ) : ((∑ i, f i : ℝ) : EReal) = ∑ i, ((f i : ℝ) : EReal) := by
  classical
  refine Finset.induction_on (motive := fun S : Finset ι => ((∑ i ∈ S, f i : ℝ) : EReal) = ∑ i ∈ S, ((f i : ℝ) : EReal)) Finset.univ rfl fun i S hi ih => ?_
  rw [Finset.sum_insert hi, Finset.sum_insert hi, EReal.coe_add, ih]

theorem width_eq : width = ((2048 : ℝ) : EReal) := by
  simp [width, Ideal.ofBits, Ideal.ieee, -EReal.coe_mul]; norm_num

theorem eps_pos : ∃ r : ℝ, 0 < r ∧ eps = (r : EReal) := by
  refine ⟨_, ?_, by simp only [eps, Ideal.ofBits, Ideal.ieee]; simp [-EReal.coe_mul]; rfl⟩
  positivity

/-- The rms normalisation of a real row is real. -/
theorem IsReal.normed {x g : Fin 2048 → EReal} (hx : ∀ k, IsReal (x k)) (hg : ∀ k, IsReal (g k)) (k : Fin 2048) : IsReal (normed x g k) := by
  choose y hy using hx
  obtain ⟨e, he, hee⟩ := eps_pos
  have hs : (∑ k, x k * x k) = ((∑ k, y k * y k : ℝ) : EReal) := by
    rw [sum_coe]
    exact Finset.sum_congr rfl fun k _ => by rw [hy, EReal.coe_mul]
  have hr : IsReal (Ideal.rsqrt (Ideal.div (∑ k, x k * x k) width + eps)) := by
    rw [hs, hee, width_eq, Ideal.div_coe (by norm_num), ← EReal.coe_mul, ← EReal.coe_add]
    have hp : 0 < (∑ k, y k * y k) * (1 / 2048) + e := by
      have : 0 ≤ ∑ k, y k * y k := Finset.sum_nonneg fun k _ => mul_self_nonneg _
      positivity
    refine ⟨(Real.sqrt ((∑ k, y k * y k) * (1 / 2048) + e))⁻¹, ?_⟩
    show (if _ < (0 : ℝ) then (⊥ : EReal) else if _ = (0 : ℝ) then ⊤ else _) = _
    rw [if_neg hp.not_gt, if_neg hp.ne']
  unfold RowMath.normed
  exact (IsReal.mul (IsReal.mul ⟨y k, hy k⟩ hr) (hg k))

/-- No best sum is above the first. -/
theorem rounds_le {n : ℕ} (z : EReal) (s : Fin n → EReal) (k : ℕ) (i : Fin n) : rounds z s k i ≤ s i := by
  induction k with
  | zero => exact le_refl _
  | succ k ih =>
    refine le_trans ?_ ih
    show next z (rounds z s k) i ≤ rounds z s k i
    unfold next
    split
    · exact bot_le
    · exact le_refl _

theorem bestSum_le (s t : Fin 128 → EReal) (hs : ∀ i, s i ≠ ⊥) (ht : ∀ i, t i ≠ ⊥) (k : Fin 16) : bestSum s t k ≤ bestSum s t 0 := by
  rw [← (head s t hs ht k).1, ← (head s t hs ht 0).1]
  exact Finset.sup_mono_fun fun i _ => rounds_le _ _ _ i

theorem bestSum_sup (s t : Fin 128 → EReal) (hs : ∀ i, s i ≠ ⊥) (ht : ∀ i, t i ≠ ⊥) :
    (Finset.univ.sup fun k : Fin 16 => bestSum s t k) = bestSum s t 0 :=
  le_antisymm (Finset.sup_le fun k _ => bestSum_le s t hs ht k) (Finset.le_sup (f := fun k : Fin 16 => bestSum s t k) (Finset.mem_univ 0))

theorem IsReal.bestSum {s t : Fin 128 → EReal} (hs : ∀ i, IsReal (s i)) (ht : ∀ i, IsReal (t i)) (k : Fin 16) : IsReal (bestSum s t k) := by
  unfold RouteProof.bestSum sums pairSum
  exact IsReal.add (hs _) (ht _)

/-- Dividing by a sum and multiplying by its reciprocal give the same gates. -/
theorem gate_eq (b : Fin 16 → EReal) (hb : ∀ k, IsReal (b k)) (k : Fin 16) :
    Ideal.exp (b k - b 0) * Ideal.div one (∑ i : Fin 16, Ideal.exp (b i - b 0)) = Ideal.div (Ideal.exp (b k - b 0)) (∑ i : Fin 16, Ideal.exp (b i - b 0)) := by
  choose y hy using hb
  have he : ∀ i, Ideal.exp (b i - b 0) = ((Real.exp (y i - y 0) : ℝ) : EReal) := fun i => by
    rw [hy, hy, ← EReal.coe_sub]
    rfl
  have hs : (∑ i : Fin 16, Ideal.exp (b i - b 0)) = ((∑ i : Fin 16, Real.exp (y i - y 0) : ℝ) : EReal) := by
    rw [sum_coe]
    exact Finset.sum_congr rfl fun i _ => he i
  have hp : (∑ i : Fin 16, Real.exp (y i - y 0)) ≠ 0 := (Finset.sum_pos (fun i _ => Real.exp_pos _) Finset.univ_nonempty).ne'
  rw [hs, Ideal.div_coe hp, Ideal.div_coe hp, one_eq, one_mul]

/-- An expert's number is below 16384. -/
theorem expert_lt (s t : Fin 128 → EReal) (k : Fin 16) : expert s t k < 16384 := by
  unfold expert
  have h1 := (ranked s ⟨(best s t k).val / 16, by omega⟩).isLt
  have h2 := (ranked t ⟨(best s t k).val % 16, by omega⟩).isLt
  omega

/-- A small whole number turned into a word. -/
theorem word_of (n : ℕ) (h : n < 16384) : Ideal.fptosi 32 (((n : ℕ) : ℝ) : EReal) = BitVec.ofNat 32 n := by
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num
    omega
  rw [this]
  exact BitVec.ofInt_natCast 32 n

end Cert.RouteProof

end
-- ==== Proof.RouteRefFinal.lean ====
/-
  The reference's experts and gates, one entry at a time.
-/
module

public import proofs.«01_k».proof.Proof.RouteRefRun
public import proofs.«01_k».proof.Proof.RouteReal

@[expose] public section

set_option maxRecDepth 16384

noncomputable section

namespace Cert.RouteProof

open Cert.RouteRefIdeal Cert.RouteRefIdeal.Gen Idealize.ShloMosaic Idealize.ShloMosaic.TcCoe Cert.RouteMath

variable (x : FVec Ideal S24576x2048 .f32) (g : FVec Ideal S1x2048 .f32) (w : FVec Ideal S1x2048x2048 .f32) (e : FVec Ideal S1x8x2x128x128 .f32)

theorem refExperts_apply (r : Fin 24576) (q : Fin 128) :
    taken (refNumbers x g w e) (refPlace x g w e) (ix2 r q)
      = BitVec.ofNat 32 (expert (refColumn x g w e r ⟨q.val / 16, by omega⟩ 0) (refColumn x g w e r ⟨q.val / 16, by omega⟩ 1) ⟨q.val % 16, by omega⟩) := by
  rw [taken_apply _ _ r q _ (refPlace_apply x g w e r _ _), refNumbers_apply]
  rfl

theorem refGates_apply (r : Fin 24576) (q : Fin 128) (hs : ∀ h c p, IsReal (refColumn x g w e r h c p)) :
    softened (refBest x g w e) (ix2 r q)
      = Ideal.exp (bestSum (refColumn x g w e r ⟨q.val / 16, by omega⟩ 0) (refColumn x g w e r ⟨q.val / 16, by omega⟩ 1) ⟨q.val % 16, by omega⟩
            - bestSum (refColumn x g w e r ⟨q.val / 16, by omega⟩ 0) (refColumn x g w e r ⟨q.val / 16, by omega⟩ 1) 0)
        * Ideal.div RowMath.one (∑ i : Fin 16, Ideal.exp (bestSum (refColumn x g w e r ⟨q.val / 16, by omega⟩ 0) (refColumn x g w e r ⟨q.val / 16, by omega⟩ 1) i
            - bestSum (refColumn x g w e r ⟨q.val / 16, by omega⟩ 0) (refColumn x g w e r ⟨q.val / 16, by omega⟩ 1) 0)) := by
  rw [gate_eq _ (fun k => IsReal.bestSum (hs _ 0) (hs _ 1) k), softened_apply]
  simp only [refBest_apply]
  rw [bestSum_sup _ _ (fun i => (hs _ 0 i).ne_bot) (fun i => (hs _ 1 i).ne_bot)]

/-- Real inputs have real scores. -/
theorem refColumn_real (hx : ∀ i, IsReal (x i)) (hg : ∀ i, IsReal (g i)) (hw : ∀ i, IsReal (w i)) (he : ∀ i, IsReal (e i))
    (r : Fin 24576) (h : Fin 8) (c : Fin 2) (p : Fin 128) : IsReal (refColumn x g w e r h c p) := by
  unfold refColumn
  rw [refScores_apply]
  exact IsReal.sum _ fun d => (he _).mul (IsReal.sum _ fun k => (IsReal.normed (fun _ => hx _) (fun _ => hg _) k).mul (hw _))

end Cert.RouteProof

end
-- ==== Proof.RouteValue.lean ====
/-
  The routing: each grid point writes back 256 tokens of what the reference computes, so the arrays the kernel leaves are
  the reference's.
-/
module

public import proofs.«01_k».proof.Proof.RouteBlocks
public import proofs.«01_k».proof.Proof.RouteRefFinal

@[expose] public section

set_option maxRecDepth 16384

noncomputable section

namespace Cert.RouteProof

open Cert.RouteIdeal Cert.RouteIdeal.Gen Idealize.ShloMosaic Idealize.ShloMosaic.TcCoe Idealize.SL.Sem Cert.RowMath Cert.RouteMath
open Idealize.ShloMosaic.Pipeline (Dat)

variable (m : (ℓ : Loc nD τ sig) → Buf (Elt Ideal) ℓ)

/-- What point `t` works on. -/
def pointOf (c : Dev nD) (t : Fin cfg0.N) : Blocks where
  c := c
  arg1 := ms0_0 t
  harg1 := hs0_0 t
  arg2 := ms0_1 t
  harg2 := hs0_1 t
  arg3 := ms0_2 t
  harg3 := hs0_2 t
  arg4 := ms0_3 t
  harg4 := hs0_3 t
  arg8 := scM0_0
  arg9 := scM0_1
  arg10 := scM0_2
  arg11 := scM0_3
  x0 := iblk m c 0 t
  x1 := iblk m c 1 t
  x2 := iblk m c 2 t
  x3 := iblk m c 3 t

/-- The reference's scores of the launch contents. -/
abbrev colOf (c : Dev nD) (r : Fin 24576) (h : Fin 8) (b : Fin 2) : Fin 128 → EReal :=
  refColumn (m ((c : Thread nD τ).loc main_arg0)) (m ((c : Thread nD τ).loc main_arg1)) (m ((c : Thread nD τ).loc main_arg2)) (m ((c : Thread nD τ).loc main_arg3)) r h b

theorem entry0 (c : Dev nD) (t : Fin cfg0.N) (a : Fin 256) (k : Fin 2048) :
    (pointOf m c t).x0 (ix2 a k) = (m ((c : Thread nD τ).loc main_arg0) : FVec Ideal S24576x2048 .f32) (ix2 (tok t a) k) := block0 m c t a k
theorem entry1 (c : Dev nD) (t : Fin cfg0.N) (l : Fin 1) (k : Fin 2048) :
    (pointOf m c t).x1 (ix2 l k) = (m ((c : Thread nD τ).loc main_arg1) : FVec Ideal S1x2048 .f32) (ix2 0 k) := block1 m c t l k
theorem entry2 (c : Dev nD) (t : Fin cfg0.N) (l k : Fin 2048) :
    (pointOf m c t).x2 (ix2 l k) = (m ((c : Thread nD τ).loc main_arg2) : FVec Ideal S1x2048x2048 .f32) (ix3 0 l k) := block2 m c t l k
theorem entry3 (c : Dev nD) (t : Fin cfg0.N) (h : Fin 8) (b : Fin 2) (p d : Fin 128) :
    (pointOf m c t).x3 (ix4 h b p d) = (m ((c : Thread nD τ).loc main_arg3) : FVec Ideal S1x8x2x128x128 .f32) (ix5 0 h b p d) := block3 m c t h b p d

theorem column_eq (c : Dev nD) (t : Fin cfg0.N) (h : Fin 8) (b : Fin 2) (a : Fin 256) :
    column (pointOf m c t) h b a = colOf m c (tok t a) h b := by
  funext p
  rw [column_apply]
  refine Eq.trans ?_ (refScores_apply _ _ _ _ (tok t a) h b p).symm
  refine Finset.sum_congr rfl fun d _ => ?_
  rw [queries_apply]
  rw [entry3]
  simp only [entry0, entry1, entry2]

/-- The reference's three results of the launch contents. -/
def G4 (c : Dev nD) : Vec Ideal S24576x2048 .f32 :=
  refNormed (m ((c : Thread nD τ).loc main_arg0)) (m ((c : Thread nD τ).loc main_arg1))
def G5 (c : Dev nD) : Vec Ideal S24576x128 .i32 :=
  taken (refNumbers (m ((c : Thread nD τ).loc main_arg0)) (m ((c : Thread nD τ).loc main_arg1)) (m ((c : Thread nD τ).loc main_arg2)) (m ((c : Thread nD τ).loc main_arg3)))
    (refPlace (m ((c : Thread nD τ).loc main_arg0)) (m ((c : Thread nD τ).loc main_arg1)) (m ((c : Thread nD τ).loc main_arg2)) (m ((c : Thread nD τ).loc main_arg3)))
def G6 (c : Dev nD) : Vec Ideal S24576x128 .f32 :=
  softened (refBest (m ((c : Thread nD τ).loc main_arg0)) (m ((c : Thread nD τ).loc main_arg1)) (m ((c : Thread nD τ).loc main_arg2)) (m ((c : Thread nD τ).loc main_arg3)))

theorem flushed4_eq (c : Dev nD) (t : Fin cfg0.N) :
    (dats m 0 c).flushed 4 t = ((cfg0.win 4).blk t).view.read (Elt Ideal) (G4 m c) := by
  rw [Cert.RouteIdeal.Value.flushed4_A]
  funext y
  obtain ⟨a, j, rfl⟩ : ∃ (a : Fin 256) (j : Fin 2048), y = ix2 a j := ⟨y 0, y 1, eq_ix2 y⟩
  show _ = G4 m c (((cfg0.win 4).blk t).view.emb (ix2 a j))
  have e : ((cfg0.win 4).blk t).view.emb (ix2 a j) = ix2 (tok t a) j := by
    have h := idx_tok t
    refine eq_pair _ _ _ ?_ ?_
    · show win0_4.index t (0 : Fin 2) * 256 + 1 * a.val = t.val * 256 + a.val
      omega
    · show win0_4.index t (1 : Fin 2) * 2048 + 1 * j.val = j.val
      omega
  rw [e]
  refine (out_normed (pointOf m c t) (grid0.coords t) (ms0_4 t) (hs0_4 t) (ms0_5 t) (hs0_5 t) (ms0_6 t) (hs0_6 t) (Memref.isWhole_whole _) (Memref.isWhole_whole _) (Memref.isWhole_whole _) (Memref.isWhole_whole _) a j).trans ?_
  refine Eq.trans ?_ (refNormed_apply _ _ (tok t a) j).symm
  show normed (fun k => iblk m c 0 t (ix2 a k)) (fun k => iblk m c 1 t (ix2 0 k)) j = _
  simp only [block0, block1]

theorem place_out (t : Fin cfg0.N) (a : Fin 256) (q : Fin 128) : ((cfg0.win 5).blk t).view.emb (ix2 a q) = ix2 (tok t a) q
    ∧ ((cfg0.win 6).blk t).view.emb (ix2 a q) = ix2 (tok t a) q := by
  have h := idx_tok t
  refine ⟨eq_pair _ _ _ ?_ ?_, eq_pair _ _ _ ?_ ?_⟩
  · show win0_5.index t (0 : Fin 2) * 256 + 1 * a.val = t.val * 256 + a.val
    omega
  · show win0_5.index t (1 : Fin 2) * 128 + 1 * q.val = q.val
    omega
  · show win0_6.index t (0 : Fin 2) * 256 + 1 * a.val = t.val * 256 + a.val
    omega
  · show win0_6.index t (1 : Fin 2) * 128 + 1 * q.val = q.val
    omega

theorem picked_word (c : Dev nD) (t : Fin cfg0.N) (hr : ∀ r h b p, IsReal (colOf m c r h b p)) (h : Fin 8) (k : Fin 16) (a : Fin 256) :
    Ideal.fptosi 32 (picked (candAt (sumTable (pointOf m c t) h.val) k.val) (numberTable (pointOf m c t) h.val) (ix2 0 a))
      = BitVec.ofNat 32 (expert (colOf m c (tok t a) h 0) (colOf m c (tok t a) h 1) k) := by
  have hc := fun b => column_eq m c t h b a
  have hn := number_stored (pointOf m c t) h k a (fun i => by rw [hc]; exact (hr _ _ _ _).ne_bot) (fun i => by rw [hc]; exact (hr _ _ _ _).ne_bot)
  rw [hn, hc, hc]
  exact word_of _ (expert_lt _ _ _)

theorem G5_apply (c : Dev nD) (r : Fin 24576) (q : Fin 128) :
    G5 m c (ix2 r q) = BitVec.ofNat 32 (expert (colOf m c r ⟨q.val / 16, by omega⟩ 0) (colOf m c r ⟨q.val / 16, by omega⟩ 1) ⟨q.val % 16, by omega⟩) :=
  refExperts_apply _ _ _ _ r q

theorem point5 (c : Dev nD) (t : Fin cfg0.N) (hr : ∀ r h b p, IsReal (colOf m c r h b p)) (a : Fin 256) (q : Fin 128) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        scM0_0 (Memref.isWhole_whole _) scM0_1 (Memref.isWhole_whole _) scM0_2 (Memref.isWhole_whole _) scM0_3 (Memref.isWhole_whole _)
        (iblk m c 0 t) (iblk m c 1 t) (iblk m c 2 t) (iblk m c 3 t) (ix2 a q)
      = G5 m c (ix2 (tok t a) q) := by
  rw [G5_apply]
  exact (out_experts (pointOf m c t) (grid0.coords t) (ms0_4 t) (hs0_4 t) (ms0_5 t) (hs0_5 t) (ms0_6 t) (hs0_6 t) (Memref.isWhole_whole _) (Memref.isWhole_whole _) (Memref.isWhole_whole _) (Memref.isWhole_whole _) a q).trans
    (picked_word m c t hr ⟨q.val / 16, by omega⟩ ⟨q.val % 16, by omega⟩ a)

theorem cut5 (t : Fin cfg0.N) (X : Vec Ideal S256x128 .i32) (G : Vec Ideal S24576x128 .i32)
    (h : ∀ (a : Fin 256) (q : Fin 128), X (ix2 a q) = G (ix2 (tok t a) q)) :
    (cfg0.win 5).cut (grid0.coords t) X = ((cfg0.win 5).blk t).view.read (Elt Ideal) G := by
  funext y
  obtain ⟨a, q, rfl⟩ : ∃ (a : Fin 256) (q : Fin 128), y = ix2 a q := ⟨y 0, y 1, eq_ix2 y⟩
  show X (ix2 a q) = G (((cfg0.win 5).blk t).view.emb (ix2 a q))
  rw [(place_out t a q).1]
  exact h a q

theorem flushed5_eq (c : Dev nD) (t : Fin cfg0.N) (hr : ∀ r h b p, IsReal (colOf m c r h b p)) :
    (dats m 0 c).flushed 5 t = ((cfg0.win 5).blk t).view.read (Elt Ideal) (G5 m c) :=
  (Cert.RouteIdeal.Value.flushed5_A m c t).trans (cut5 t _ _ (point5 m c t hr))

theorem flushed6_eq (c : Dev nD) (t : Fin cfg0.N) (hr : ∀ r h b p, IsReal (colOf m c r h b p)) :
    (dats m 0 c).flushed 6 t = ((cfg0.win 6).blk t).view.read (Elt Ideal) (G6 m c) := by
  rw [Cert.RouteIdeal.Value.flushed6_A]
  generalize hG : G6 m c = G
  funext y
  obtain ⟨a, q, rfl⟩ : ∃ (a : Fin 256) (q : Fin 128), y = ix2 a q := ⟨y 0, y 1, eq_ix2 y⟩
  show _ = G (((cfg0.win 6).blk t).view.emb (ix2 a q))
  rw [(place_out t a q).2, ← hG]
  refine (out_gates (pointOf m c t) (grid0.coords t) (ms0_4 t) (hs0_4 t) (ms0_5 t) (hs0_5 t) (ms0_6 t) (hs0_6 t) (Memref.isWhole_whole _) (Memref.isWhole_whole _) (Memref.isWhole_whole _) (Memref.isWhole_whole _) a q).trans ?_
  refine Eq.trans ?_ (refGates_apply _ _ _ _ (tok t a) q (fun h b p => hr _ h b p)).symm
  have hc := fun b => column_eq m c t ⟨q.val / 16, by omega⟩ b a
  have hn := gate_stored (pointOf m c t) ⟨q.val / 16, by omega⟩ ⟨q.val % 16, by omega⟩ a (fun i => by rw [hc]; exact (hr _ _ _ _).ne_bot) (fun i => by rw [hc]; exact (hr _ _ _ _).ne_bot)
  refine hn.trans ?_
  rw [hc, hc]

theorem flush_all : ∀ t : Fin cfg0.N, (cfg0.win 4).flush t = true ∧ (cfg0.win 5).flush t = true ∧ (cfg0.win 6).flush t = true :=
  (by decide +kernel : ∀ t : Fin grid0.N, _)

theorem cover4 (i : S24576x2048.Idx) : ∃ t : Fin cfg0.N, (cfg0.win 4).flush t = true ∧ i ∈ ((cfg0.win 4).blk t).view.set := by
  have hi0 : (i 0).val < 24576 := (i 0).isLt
  have hi1 : (i 1).val < 2048 := (i 1).isLt
  let t : Fin cfg0.N := ⟨(i 0).val / 256, lt_of_lt_of_eq (by omega : (i 0).val / 256 < 96) N_0.symm⟩
  have h := idx_tok t
  refine ⟨t, (flush_all t).1, ?_⟩
  show i ∈ ((View.whole main_v6_0).slice (win0_4.rect t)).set
  rw [View.set_slice_whole, Rect.mem_set_unit]
  intro a
  have ht : t.val = (i 0).val / 256 := rfl
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

theorem cover5 (i : S24576x128.Idx) : ∃ t : Fin cfg0.N, (cfg0.win 5).flush t = true ∧ i ∈ ((cfg0.win 5).blk t).view.set := by
  have hi0 : (i 0).val < 24576 := (i 0).isLt
  have hi1 : (i 1).val < 128 := (i 1).isLt
  let t : Fin cfg0.N := ⟨(i 0).val / 256, lt_of_lt_of_eq (by omega : (i 0).val / 256 < 96) N_0.symm⟩
  have h := idx_tok t
  refine ⟨t, (flush_all t).2.1, ?_⟩
  show i ∈ ((View.whole main_v6_1).slice (win0_5.rect t)).set
  rw [View.set_slice_whole, Rect.mem_set_unit]
  intro a
  have ht : t.val = (i 0).val / 256 := rfl
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 128 ≤ (i 1).val ∧ (i 1).val < win0_5.index t (1 : Fin 2) * 128 + 128; omega

theorem cover6 (i : S24576x128.Idx) : ∃ t : Fin cfg0.N, (cfg0.win 6).flush t = true ∧ i ∈ ((cfg0.win 6).blk t).view.set := by
  have hi0 : (i 0).val < 24576 := (i 0).isLt
  have hi1 : (i 1).val < 128 := (i 1).isLt
  let t : Fin cfg0.N := ⟨(i 0).val / 256, lt_of_lt_of_eq (by omega : (i 0).val / 256 < 96) N_0.symm⟩
  have h := idx_tok t
  refine ⟨t, (flush_all t).2.2, ?_⟩
  show i ∈ ((View.whole main_v6_2).slice (win0_6.rect t)).set
  rw [View.set_slice_whole, Rect.mem_set_unit]
  intro a
  have ht : t.val = (i 0).val / 256 := rfl
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 128 ≤ (i 1).val ∧ (i 1).val < win0_6.index t (1 : Fin 2) * 128 + 128; omega

/-- The arrays the kernel leaves are the reference's. -/
theorem final4 (c : Dev nD) : (dats m 0 c).arrAt 4 cfg0.N = G4 m c :=
  (dats m 0 c).arrAt_eq_of_cover 4 _ (fun t _ => flushed4_eq m c t) cover4
theorem final5 (c : Dev nD) (hr : ∀ r h b p, IsReal (colOf m c r h b p)) : (dats m 0 c).arrAt 5 cfg0.N = G5 m c :=
  (dats m 0 c).arrAt_eq_of_cover 5 _ (fun t _ => flushed5_eq m c t hr) cover5
theorem final6 (c : Dev nD) (hr : ∀ r h b p, IsReal (colOf m c r h b p)) : (dats m 0 c).arrAt 6 cfg0.N = G6 m c :=
  (dats m 0 c).arrAt_eq_of_cover 6 _ (fun t _ => flushed6_eq m c t hr) cover6

end Cert.RouteProof

end
-- ==== Proof.RoutePre.lean ====
/-
  What the precondition says: every entry of the four argument arrays is a real number.
-/
module

public import proofs.«01_k».proof.Defs
public import proofs.«01_k».proof.Proof.RouteReal
public import Idealize.ShloMosaic.Lib.ReduceAll
public import Idealize.ShloMosaic.Lib.Affine

@[expose] public section

noncomputable section

namespace Cert.RouteProof

open Cert.Pre_finite_inputs Idealize.ShloMosaic

/-- The side conditions of the precondition's operations. -/
instance preFacts : Cert.Pre_finite_inputs.Facts where
  bcast_S_S24576x2048 := by decide
  reducesTo_S24576x2048_S_d0_1 := by decide
  h_S_ := by decide
  bcast_S_S1x2048 := by decide
  reducesTo_S1x2048_S_d0_1 := by decide
  bcast_S_S1x2048x2048 := by decide
  reducesTo_S1x2048x2048_S_d0_1_2 := by decide
  bcast_S_S1x8x2x128x128 := by decide
  reducesTo_S1x8x2x128x128_S_d0_1_2_3_4 := by decide

instance : Subsingleton S_.Idx := ⟨fun a b => funext fun i => i.elim0⟩

theorem infinite_eq : Ideal.ofBits .f32 0x7F800000#32 = ⊤ := by
  simp [Ideal.ofBits, Ideal.ieee]

/-- An entry whose absolute value is below +∞ is real. -/
theorem isReal_of_lt (x : EReal) (h : BitVec.ofBool (decide (max x (-x) < Ideal.ofBits .f32 0x7F800000#32)) = 1#1) : IsReal x := by
  rw [infinite_eq] at h
  have h' : max x (-x) < ⊤ := by
    by_contra hn
    rw [decide_eq_false hn] at h
    exact absurd h (by decide)
  obtain ⟨h1, h2⟩ := max_lt_iff.1 h'
  refine ⟨x.toReal, (EReal.coe_toReal h1.ne fun e => ?_).symm⟩
  rw [e] at h2
  exact absurd h2 (by simp)

theorem isReal_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : IsReal (x i) :=
  isReal_of_lt _ (Host.reduce_andi_all _ _ hr hu j h i)

theorem isReal_of_pre (x : FVec Ideal S24576x2048 .f32) (g : FVec Ideal S1x2048 .f32) (w : FVec Ideal S1x2048x2048 .f32) (e : FVec Ideal S1x8x2x128x128 .f32)
    (h : Cert.Pre_finite_inputs.fn (F := Ideal) x g w e = fun _ => 1#1) :
    (∀ i, IsReal (x i)) ∧ (∀ i, IsReal (g i)) ∧ (∀ i, IsReal (w i)) ∧ ∀ i, IsReal (e i) := by
  have h0 := congrFun h (fun a => a.elim0)
  dsimp only [fn, fn_part1] at h0
  obtain ⟨h0, h4⟩ := IntOp.andi_eq_one.1 h0
  obtain ⟨h0, h3⟩ := IntOp.andi_eq_one.1 h0
  obtain ⟨h1, h2⟩ := IntOp.andi_eq_one.1 h0
  exact ⟨isReal_of_all x _ _ _ _ h1, isReal_of_all g _ _ _ _ h2, isReal_of_all w _ _ _ _ h3, isReal_of_all e _ _ _ _ h4⟩

end Cert.RouteProof

end
-- ==== Proof.RouteClaim.lean ====
/-
  The claims about the routing: the kernel at both instances and the reference run and leave their arguments unchanged, and over the
  extended reals, for arguments whose entries are real, both leave the same normalised tokens, the same experts and the same gates.
-/
module

public import proofs.«01_k».proof.Proof.RouteValue
public import proofs.«01_k».proof.Proof.RoutePre
public import proofs.«01_k».proof.Proof.Gen.Route.Frame
public import proofs.«01_k».proof.Proof.Gen.RouteRefIdeal.Run
public import Idealize.ShloMosaic.Lib.Quiescent

@[expose] public section

noncomputable section

namespace Cert.RouteProof

open Idealize.ShloMosaic Idealize.ShloMosaic.TcCoe Idealize.SL.Sem

theorem frame_kernel : Cert.quiescent_Route := fun m ρ _ => Cert.Route.Gen.frame m ρ

theorem frame_ideal : Cert.quiescent_RouteIdeal := fun m ρ _ => Cert.RouteIdeal.Gen.frame m ρ

theorem frame_ideal_pre : Cert.quiescent_RouteIdeal_pre_finite_inputs := fun m ρ _ => Cert.RouteIdeal.Gen.frame m ρ

theorem frame_ref : Cert.quiescent_RouteRefIdeal := fun m ρ _ =>
  (θ_run Cert.RouteRefIdeal.defs _ _).mono (fun r h => ⟨fun c => (h c).2.2.2, Idealize.ShloMosaic.sem_eq_zero_of_no_sems (by decide) r.2⟩)
    (Cert.RouteRefIdeal.Value.run (F := Ideal) m ρ)

theorem frame_ref_pre : Cert.quiescent_RouteRefIdeal_pre_finite_inputs := fun m ρ _ => frame_ref m ρ trivial

theorem algebraic : Cert.algebraic_RouteIdeal_RouteRefIdeal_pre_finite_inputs := by
  intro m ρ m' ρ' hpre hagree
  have hr : ∀ c r h b p, IsReal (colOf m c r h b p) := fun c r h b p => by
    obtain ⟨h0, h1, h2, h3⟩ := isReal_of_pre _ _ _ _ (hpre c)
    exact refColumn_real _ _ _ _ h0 h1 h2 h3 r h b p
  refine ⟨fun c => G4 m c, fun c => G5 m c, fun c => G6 m c, ?_, ?_⟩
  · exact (θ_run Cert.RouteIdeal.defs _ _).mono (fun r h c =>
        ⟨(h c).1.trans (final4 m c), (h c).2.1.trans (final5 m c (hr c)), (h c).2.2.1.trans (final6 m c (hr c)), (h c).2.2.2⟩)
      (Cert.RouteIdeal.Value.run_blocks (F := Ideal) m ρ)
  · refine (θ_run Cert.RouteRefIdeal.defs _ _).mono (fun r h c =>
        ⟨(h c).1.trans ?_, ((h c).2.1.trans (taken_eq m' c)).trans ?_, ((h c).2.2.1.trans (softened_eq m' c)).trans ?_, (h c).2.2.2⟩)
      (Cert.RouteRefIdeal.Value.run (F := Ideal) m' ρ')
    · obtain ⟨h0, h1, -, -⟩ := hagree c
      rw [h0, h1]
      rfl
    · obtain ⟨h0, h1, h2, h3⟩ := hagree c
      rw [h0, h1, h2, h3]
      rfl
    · obtain ⟨h0, h1, h2, h3⟩ := hagree c
      rw [h0, h1, h2, h3]
      rfl

end Cert.RouteProof

end
-- ==== Proof.lean ====
/-
  The certificate: the instances of the programs' facts and the proof of each claim.
-/
module

public import proofs.«01_k».proof.Defs
public import proofs.«01_k».proof.Proof.Gen.Pack
public import proofs.«01_k».proof.Proof.Gen.Pack.Skeleton
public import proofs.«01_k».proof.Proof.Gen.Pack.Launch
public import proofs.«01_k».proof.Proof.Gen.Pack.Points
public import proofs.«01_k».proof.Proof.Gen.Pack.Frame
public import proofs.«01_k».proof.Proof.Gen.PackRef
public import proofs.«01_k».proof.Proof.Gen.PackRef.Run
public import proofs.«01_k».proof.Proof.Gen.Ple
public import proofs.«01_k».proof.Proof.Gen.Ple.Skeleton
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Frame
public import proofs.«01_k».proof.Proof.Gen.PleRefIdeal
public import proofs.«01_k».proof.Proof.Gen.PleRefIdeal.Run
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerIdeal.Value
public import proofs.«01_k».proof.Proof.Gen.MixerRefIdeal
public import proofs.«01_k».proof.Proof.Gen.MixerRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.InS5
public import proofs.«01_k».proof.Proof.Gen.InS5.Frame
public import proofs.«01_k».proof.Proof.Gen.InS5Ideal
public import proofs.«01_k».proof.Proof.Gen.InS5Ideal.Frame
public import proofs.«01_k».proof.Proof.Gen.InS5Ideal.Value
public import proofs.«01_k».proof.Proof.Gen.InS5RefIdeal
public import proofs.«01_k».proof.Proof.Gen.InS5RefIdeal.Run
public import proofs.«01_k».proof.Proof.Gen.InConv
public import proofs.«01_k».proof.Proof.Gen.InConv.Frame
public import proofs.«01_k».proof.Proof.Gen.InConvIdeal
public import proofs.«01_k».proof.Proof.Gen.InConvIdeal.Frame
public import proofs.«01_k».proof.Proof.Gen.InConvIdeal.Value
public import proofs.«01_k».proof.Proof.Gen.InConvRefIdeal
public import proofs.«01_k».proof.Proof.Gen.InConvRefIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.Route
public import proofs.«01_k».proof.Proof.Gen.Route.Frame
public import proofs.«01_k».proof.Proof.Gen.RouteIdeal
public import proofs.«01_k».proof.Proof.Gen.RouteIdeal.Frame
public import proofs.«01_k».proof.Proof.Gen.RouteIdeal.Value
public import proofs.«01_k».proof.Proof.Gen.RouteRefIdeal
public import proofs.«01_k».proof.Proof.Gen.RouteRefIdeal.Run
public import proofs.«01_k».proof.Proof.PackClaim
public import proofs.«01_k».proof.Proof.PleClaim
public import proofs.«01_k».proof.Proof.MixerClaim
public import proofs.«01_k».proof.Proof.ProjClaim
public import proofs.«01_k».proof.Proof.InS5Claim
public import proofs.«01_k».proof.Proof.InConvClaim
public import proofs.«01_k».proof.Proof.ConvClaim
public import proofs.«01_k».proof.Proof.RouteClaim
public import Idealize.ShloMosaic.Adequacy
public import Idealize.ShloMosaic.Init

@[expose] public section

noncomputable section

namespace Cert.Proof

open Idealize.ShloMosaic Idealize.SL.Sem

theorem claim : Cert.Claim :=
  ⟨Cert.Pack.Gen.facts, Cert.PackRef.Gen.facts, Cert.Ple.Gen.facts,
    Cert.PleIdeal.Gen.facts, Cert.PleRefIdeal.Gen.facts, Cert.Mixer.Gen.facts,
    Cert.MixerIdeal.Gen.facts, Cert.MixerRefIdeal.Gen.facts, Cert.Proj.Gen.facts,
    Cert.ProjIdeal.Gen.facts, Cert.ProjRefIdeal.Gen.facts, Cert.InS5.Gen.facts,
    Cert.InS5Ideal.Gen.facts, Cert.InS5RefIdeal.Gen.facts, Cert.InConv.Gen.facts,
    Cert.InConvIdeal.Gen.facts, Cert.InConvRefIdeal.Gen.facts, Cert.Conv.Gen.facts,
    Cert.ConvIdeal.Gen.facts, Cert.ConvRefIdeal.Gen.facts, Cert.Route.Gen.facts,
    Cert.RouteIdeal.Gen.facts, Cert.RouteRefIdeal.Gen.facts, RouteProof.preFacts,
    PackProof.frame_kernel, PackProof.frame_ref, PleProof.frame_kernel,
    PleProof.frame_ideal, PleProof.frame_ref, MixerProof.frame_kernel,
    MixerProof.frame_ideal, MixerProof.frame_ref, ProjProof.frame_kernel,
    ProjProof.frame_ideal, ProjProof.frame_ref, InS5Proof.frame_kernel,
    InS5Proof.frame_ideal, InS5Proof.frame_ref, InConvProof.frame_kernel,
    InConvProof.frame_ideal, InConvProof.frame_ref, ConvProof.frame_kernel,
    ConvProof.frame_ideal, ConvProof.frame_ref, RouteProof.frame_kernel,
    RouteProof.frame_ideal, RouteProof.frame_ideal_pre, RouteProof.frame_ref,
    RouteProof.frame_ref_pre, PackProof.bitexact, trivial,
    PleProof.algebraic, trivial, MixerProof.algebraic,
    trivial, ProjProof.algebraic, trivial,
    InS5Proof.algebraic, trivial, InConvProof.algebraic,
    trivial, ConvProof.algebraic, trivial,
    RouteProof.algebraic⟩

end Cert.Proof

end
